-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_padding [hPre_scores_above_padding : Cert.Pre_scores_above_padding.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_padding [hPre_scores_above_padding : Cert.Pre_scores_above_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_above_padding [hKernelIdeal : Cert.KernelIdeal.Facts] [hPre_scores_above_padding : Cert.Pre_scores_above_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_above_padding [hReferenceIdeal : Cert.ReferenceIdeal.Facts] [hPre_scores_above_padding : Cert.Pre_scores_above_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scores_above_padding [hKernelIdeal : Cert.KernelIdeal.Facts] [hReferenceIdeal : Cert.ReferenceIdeal.Facts] [hPre_scores_above_padding : Cert.Pre_scores_above_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_v284) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scores_above_padding : Cert.Pre_scores_above_padding.Facts),
    quiescent_Kernel (hKernel := hKernel)
    ∧ quiescent_KernelIdeal (hKernelIdeal := hKernelIdeal)
    ∧ quiescent_KernelIdeal_pre_scores_above_padding (hKernelIdeal := hKernelIdeal) (hPre_scores_above_padding := hPre_scores_above_padding)
    ∧ quiescent_ReferenceIdeal (hReferenceIdeal := hReferenceIdeal)
    ∧ quiescent_ReferenceIdeal_pre_scores_above_padding (hReferenceIdeal := hReferenceIdeal) (hPre_scores_above_padding := hPre_scores_above_padding)
    ∧ preserves_Kernel_KernelIdeal
    ∧ algebraic_KernelIdeal_ReferenceIdeal_pre_scores_above_padding (hKernelIdeal := hKernelIdeal) (hReferenceIdeal := hReferenceIdeal) (hPre_scores_above_padding := hPre_scores_above_padding)
-- ==== Pre_scores_above_padding.lean ====
abbrev S1x3x224x224 : Shape := ⟨4, ![1, 3, 224, 224]⟩
abbrev S1x197x768 : Shape := ⟨3, ![1, 197, 768]⟩
abbrev S768x768x3x3 : Shape := ⟨4, ![768, 768, 3, 3]⟩
abbrev S768 : Shape := ⟨1, ![768]⟩
abbrev S9x768x1x1 : Shape := ⟨4, ![9, 768, 1, 1]⟩
abbrev S9 : Shape := ⟨1, ![9]⟩
abbrev S36x768x1x1 : Shape := ⟨4, ![36, 768, 1, 1]⟩
abbrev S36 : Shape := ⟨1, ![36]⟩
abbrev S1x196x768 : Shape := ⟨3, ![1, 196, 768]⟩
abbrev S196x768 : Shape := ⟨2, ![196, 768]⟩
abbrev S768x14x14 : Shape := ⟨3, ![768, 14, 14]⟩
abbrev S_ : Shape := ⟨0, ![]⟩
abbrev S768x16x16 : Shape := ⟨3, ![768, 16, 16]⟩
abbrev S768x196 : Shape := ⟨2, ![768, 196]⟩
abbrev S768x768x1x1 : Shape := ⟨4, ![768, 768, 1, 1]⟩
abbrev S768x768 : Shape := ⟨2, ![768, 768]⟩
abbrev S768x1 : Shape := ⟨2, ![768, 1]⟩
abbrev S9x768 : Shape := ⟨2, ![9, 768]⟩
abbrev S9x196 : Shape := ⟨2, ![9, 196]⟩
abbrev S9x1 : Shape := ⟨2, ![9, 1]⟩
abbrev S196x9 : Shape := ⟨2, ![196, 9]⟩
abbrev S1764 : Shape := ⟨1, ![1764]⟩

class Facts : Prop where
  slices_S1x197x768_S1x196x768_0_1_0 : S1x197x768.Slices ![0, 1, 0] S1x196x768
  shapeCasts_S1x196x768_S196x768 : S1x196x768.ShapeCasts S196x768
  shapeCasts_S196x768_S768x14x14 : S196x768.ShapeCasts S768x14x14
  pads_S768x14x14_S768x16x16_000_110_110 : S768x14x14.Pads (![0, 1, 1] : Fin 3 → Nat) ![0, 1, 1] ![0, 0, 0] S768x16x16
  h_S_ : 0 < S_.numel
  bcast_S_S768x196 : S_.BroadcastsInDim S768x196 (![] : Fin 0 → Fin S768x196.rank)
  slices_S768x768x3x3_S768x768x1x1_0_0_0_0 : S768x768x3x3.Slices ![0, 0, 0, 0] S768x768x1x1
  shapeCasts_S768x768x1x1_S768x768 : S768x768x1x1.ShapeCasts S768x768
  slices_S768x16x16_S768x14x14_0_0_0 : S768x16x16.Slices ![0, 0, 0] S768x14x14
  shapeCasts_S768x14x14_S768x196 : S768x14x14.ShapeCasts S768x196
  slices_S768x768x3x3_S768x768x1x1_0_0_0_1 : S768x768x3x3.Slices ![0, 0, 0, 1] S768x768x1x1
  slices_S768x16x16_S768x14x14_0_0_1 : S768x16x16.Slices ![0, 0, 1] S768x14x14
  slices_S768x768x3x3_S768x768x1x1_0_0_0_2 : S768x768x3x3.Slices ![0, 0, 0, 2] S768x768x1x1
  slices_S768x16x16_S768x14x14_0_0_2 : S768x16x16.Slices ![0, 0, 2] S768x14x14
  slices_S768x768x3x3_S768x768x1x1_0_0_1_0 : S768x768x3x3.Slices ![0, 0, 1, 0] S768x768x1x1
  slices_S768x16x16_S768x14x14_0_1_0 : S768x16x16.Slices ![0, 1, 0] S768x14x14
  slices_S768x768x3x3_S768x768x1x1_0_0_1_1 : S768x768x3x3.Slices ![0, 0, 1, 1] S768x768x1x1
  slices_S768x16x16_S768x14x14_0_1_1 : S768x16x16.Slices ![0, 1, 1] S768x14x14
  slices_S768x768x3x3_S768x768x1x1_0_0_1_2 : S768x768x3x3.Slices ![0, 0, 1, 2] S768x768x1x1
  slices_S768x16x16_S768x14x14_0_1_2 : S768x16x16.Slices ![0, 1, 2] S768x14x14
  slices_S768x768x3x3_S768x768x1x1_0_0_2_0 : S768x768x3x3.Slices ![0, 0, 2, 0] S768x768x1x1
  slices_S768x16x16_S768x14x14_0_2_0 : S768x16x16.Slices ![0, 2, 0] S768x14x14
  slices_S768x768x3x3_S768x768x1x1_0_0_2_1 : S768x768x3x3.Slices ![0, 0, 2, 1] S768x768x1x1
  slices_S768x16x16_S768x14x14_0_2_1 : S768x16x16.Slices ![0, 2, 1] S768x14x14
  slices_S768x768x3x3_S768x768x1x1_0_0_2_2 : S768x768x3x3.Slices ![0, 0, 2, 2] S768x768x1x1
  slices_S768x16x16_S768x14x14_0_2_2 : S768x16x16.Slices ![0, 2, 2] S768x14x14
  bcast_S768_S768x1_0 : S768.BroadcastsInDim S768x1 (![0] : Fin 1 → Fin S768x1.rank)
  bcast_S768x1_S768x196_0_1 : S768x1.BroadcastsInDim S768x196 (![0, 1] : Fin 2 → Fin S768x196.rank)
  shapeCasts_S9x768x1x1_S9x768 : S9x768x1x1.ShapeCasts S9x768
  bcast_S9_S9x1_0 : S9.BroadcastsInDim S9x1 (![0] : Fin 1 → Fin S9x1.rank)
  bcast_S9x1_S9x196_0_1 : S9x1.BroadcastsInDim S9x196 (![0, 1] : Fin 2 → Fin S9x196.rank)
  transposes_S9x196_S196x9_1_0 : S9x196.Transposes [1, 0] S196x9
  shapeCasts_S196x9_S1764 : S196x9.ShapeCasts S1764
  bcast_S_S1764 : S_.BroadcastsInDim S1764 (![] : Fin 0 → Fin S1764.rank)
  dot_S768x768_S768x196_S768x196_1_0_0_1_n_n_wf : DotDims.WF S768x768 S768x196 S768x196 [1] [0] [0] [1] [] []
  dot_S9x768_S768x196_S9x196_1_0_0_1_n_n_wf : DotDims.WF S9x768 S768x196 S9x196 [1] [0] [0] [1] [] []

variable [Facts]

def dot_S768x768_S768x196_S768x196_1_0_0_1_n_n : DotDims S768x768 S768x196 S768x196 where
  lhsContracting := [1]
  rhsContracting := [0]
  lhsNonContracting := [0]
  rhsNonContracting := [1]
  lhsBatch := []
  rhsBatch := []
  wf := dot_S768x768_S768x196_S768x196_1_0_0_1_n_n_wf
def dot_S9x768_S768x196_S9x196_1_0_0_1_n_n : DotDims S9x768 S768x196 S9x196 where
  lhsContracting := [1]
  rhsContracting := [0]
  lhsNonContracting := [0]
  rhsNonContracting := [1]
  lhsBatch := []
  rhsBatch := []
  wf := dot_S9x768_S768x196_S9x196_1_0_0_1_n_n_wf
def fn_pad {F : FTy → Type} [FloatOps F] (arg0 : FVec F S768x14x14 .f32) (arg1 : IVec S_ 32) : FVec F S768x16x16 .f32 :=
  let v0 : FVec F S_ .f32 := sitofp .f32 arg1
  let v1 : FVec F S768x16x16 .f32 := (fun x v => pad S768x16x16 ![0, 1, 1] ![0, 1, 1] ![0, 0, 0] x v pads_S768x14x14_S768x16x16_000_110_110 h_S_) arg0 v0
  v1

def fn_part3 {F : FTy → Type} [FloatOps F] (main_v68 : FVec F S9x196 .f32) : IVec S1764 1 :=
  let main_v69 : FVec F S196x9 .f32 := (transpose S196x9 [1, 0] · transposes_S9x196_S196x9_1_0) main_v68
  let main_v70 : FVec F S1764 .f32 := shapeCast S1764 main_v69 shapeCasts_S196x9_S1764
  let main_cst_1 : FVec F S_ .f32 := constant S_ .f32 0xFF61B1E6#32
  let main_v71 : FVec F S1764 .f32 := broadcastInDim S1764 ![] bcast_S_S1764 main_cst_1
  let main_v72 : IVec S1764 1 := cmpf .oge main_v70 main_v71
  main_v72

def fn_part2 {F : FTy → Type} [FloatOps F] (main_arg2 : FVec F S768x768x3x3 .f32) (main_arg3 : FVec F S768 .f32) (main_arg4 : FVec F S9x768x1x1 .f32) (main_arg5 : FVec F S9 .f32) (main_v3 : FVec F S768x16x16 .f32) (main_v40 : FVec F S768x196 .f32) (main_v45 : FVec F S768x196 .f32) : IVec S1764 1 :=
  let main_v46 : FVec F S768x196 .f32 := addf main_v40 main_v45
  let main_v47 : FVec F S768x768x1x1 .f32 := (extractStridedSlice S768x768x1x1 ![0, 0, 2, 1] · slices_S768x768x3x3_S768x768x1x1_0_0_2_1) main_arg2
  let main_v48 : FVec F S768x768 .f32 := shapeCast S768x768 main_v47 shapeCasts_S768x768x1x1_S768x768
  let main_v49 : FVec F S768x14x14 .f32 := (extractStridedSlice S768x14x14 ![0, 2, 1] · slices_S768x16x16_S768x14x14_0_2_1) main_v3
  let main_v50 : FVec F S768x196 .f32 := shapeCast S768x196 main_v49 shapeCasts_S768x14x14_S768x196
  let main_v51 : FVec F S768x196 .f32 := (fun l r => Host.dotGeneral dot_S768x768_S768x196_S768x196_1_0_0_1_n_n none l r) main_v48 main_v50
  let main_v52 : FVec F S768x196 .f32 := addf main_v46 main_v51
  let main_v53 : FVec F S768x768x1x1 .f32 := (extractStridedSlice S768x768x1x1 ![0, 0, 2, 2] · slices_S768x768x3x3_S768x768x1x1_0_0_2_2) main_arg2
  let main_v54 : FVec F S768x768 .f32 := shapeCast S768x768 main_v53 shapeCasts_S768x768x1x1_S768x768
  let main_v55 : FVec F S768x14x14 .f32 := (extractStridedSlice S768x14x14 ![0, 2, 2] · slices_S768x16x16_S768x14x14_0_2_2) main_v3
  let main_v56 : FVec F S768x196 .f32 := shapeCast S768x196 main_v55 shapeCasts_S768x14x14_S768x196
  let main_v57 : FVec F S768x196 .f32 := (fun l r => Host.dotGeneral dot_S768x768_S768x196_S768x196_1_0_0_1_n_n none l r) main_v54 main_v56
  let main_v58 : FVec F S768x196 .f32 := addf main_v52 main_v57
  let main_v59 : FVec F S768x1 .f32 := broadcastInDim S768x1 ![0] bcast_S768_S768x1_0 main_arg3
  let main_v60 : FVec F S768x196 .f32 := broadcastInDim S768x196 ![0, 1] bcast_S768x1_S768x196_0_1 main_v59
  let main_v61 : FVec F S768x196 .f32 := addf main_v58 main_v60
  let main_cst_0 : FVec F S_ .f32 := constant S_ .f32 0x00000000#32
  let main_v62 : FVec F S768x196 .f32 := broadcastInDim S768x196 ![] bcast_S_S768x196 main_cst_0
  let main_v63 : FVec F S768x196 .f32 := maximumf main_v61 main_v62
  let main_v64 : FVec F S9x768 .f32 := shapeCast S9x768 main_arg4 shapeCasts_S9x768x1x1_S9x768
  let main_v65 : FVec F S9x196 .f32 := (fun l r => Host.dotGeneral dot_S9x768_S768x196_S9x196_1_0_0_1_n_n none l r) main_v64 main_v63
  let main_v66 : FVec F S9x1 .f32 := broadcastInDim S9x1 ![0] bcast_S9_S9x1_0 main_arg5
  let main_v67 : FVec F S9x196 .f32 := broadcastInDim S9x196 ![0, 1] bcast_S9x1_S9x196_0_1 main_v66
  let main_v68 : FVec F S9x196 .f32 := addf main_v65 main_v67
  fn_part3 (F := F) main_v68

def fn_part1 {F : FTy → Type} [FloatOps F] (main_arg2 : FVec F S768x768x3x3 .f32) (main_arg3 : FVec F S768 .f32) (main_arg4 : FVec F S9x768x1x1 .f32) (main_arg5 : FVec F S9 .f32) (main_v3 : FVec F S768x16x16 .f32) (main_v16 : FVec F S768x196 .f32) (main_v21 : FVec F S768x196 .f32) : IVec S1764 1 :=
  let main_v22 : FVec F S768x196 .f32 := addf main_v16 main_v21
  let main_v23 : FVec F S768x768x1x1 .f32 := (extractStridedSlice S768x768x1x1 ![0, 0, 1, 0] · slices_S768x768x3x3_S768x768x1x1_0_0_1_0) main_arg2
  let main_v24 : FVec F S768x768 .f32 := shapeCast S768x768 main_v23 shapeCasts_S768x768x1x1_S768x768
  let main_v25 : FVec F S768x14x14 .f32 := (extractStridedSlice S768x14x14 ![0, 1, 0] · slices_S768x16x16_S768x14x14_0_1_0) main_v3
  let main_v26 : FVec F S768x196 .f32 := shapeCast S768x196 main_v25 shapeCasts_S768x14x14_S768x196
  let main_v27 : FVec F S768x196 .f32 := (fun l r => Host.dotGeneral dot_S768x768_S768x196_S768x196_1_0_0_1_n_n none l r) main_v24 main_v26
  let main_v28 : FVec F S768x196 .f32 := addf main_v22 main_v27
  let main_v29 : FVec F S768x768x1x1 .f32 := (extractStridedSlice S768x768x1x1 ![0, 0, 1, 1] · slices_S768x768x3x3_S768x768x1x1_0_0_1_1) main_arg2
  let main_v30 : FVec F S768x768 .f32 := shapeCast S768x768 main_v29 shapeCasts_S768x768x1x1_S768x768
  let main_v31 : FVec F S768x14x14 .f32 := (extractStridedSlice S768x14x14 ![0, 1, 1] · slices_S768x16x16_S768x14x14_0_1_1) main_v3
  let main_v32 : FVec F S768x196 .f32 := shapeCast S768x196 main_v31 shapeCasts_S768x14x14_S768x196
  let main_v33 : FVec F S768x196 .f32 := (fun l r => Host.dotGeneral dot_S768x768_S768x196_S768x196_1_0_0_1_n_n none l r) main_v30 main_v32
  let main_v34 : FVec F S768x196 .f32 := addf main_v28 main_v33
  let main_v35 : FVec F S768x768x1x1 .f32 := (extractStridedSlice S768x768x1x1 ![0, 0, 1, 2] · slices_S768x768x3x3_S768x768x1x1_0_0_1_2) main_arg2
  let main_v36 : FVec F S768x768 .f32 := shapeCast S768x768 main_v35 shapeCasts_S768x768x1x1_S768x768
  let main_v37 : FVec F S768x14x14 .f32 := (extractStridedSlice S768x14x14 ![0, 1, 2] · slices_S768x16x16_S768x14x14_0_1_2) main_v3
  let main_v38 : FVec F S768x196 .f32 := shapeCast S768x196 main_v37 shapeCasts_S768x14x14_S768x196
  let main_v39 : FVec F S768x196 .f32 := (fun l r => Host.dotGeneral dot_S768x768_S768x196_S768x196_1_0_0_1_n_n none l r) main_v36 main_v38
  let main_v40 : FVec F S768x196 .f32 := addf main_v34 main_v39
  let main_v41 : FVec F S768x768x1x1 .f32 := (extractStridedSlice S768x768x1x1 ![0, 0, 2, 0] · slices_S768x768x3x3_S768x768x1x1_0_0_2_0) main_arg2
  let main_v42 : FVec F S768x768 .f32 := shapeCast S768x768 main_v41 shapeCasts_S768x768x1x1_S768x768
  let main_v43 : FVec F S768x14x14 .f32 := (extractStridedSlice S768x14x14 ![0, 2, 0] · slices_S768x16x16_S768x14x14_0_2_0) main_v3
  let main_v44 : FVec F S768x196 .f32 := shapeCast S768x196 main_v43 shapeCasts_S768x14x14_S768x196
  let main_v45 : FVec F S768x196 .f32 := (fun l r => Host.dotGeneral dot_S768x768_S768x196_S768x196_1_0_0_1_n_n none l r) main_v42 main_v44
  fn_part2 (F := F) main_arg2 main_arg3 main_arg4 main_arg5 main_v3 main_v40 main_v45

def fn {F : FTy → Type} [FloatOps F] (main_arg0 : FVec F S1x3x224x224 .f32) (main_arg1 : FVec F S1x197x768 .f32) (main_arg2 : FVec F S768x768x3x3 .f32) (main_arg3 : FVec F S768 .f32) (main_arg4 : FVec F S9x768x1x1 .f32) (main_arg5 : FVec F S9 .f32) (main_arg6 : FVec F S36x768x1x1 .f32) (main_arg7 : FVec F S36 .f32) : IVec S1764 1 :=
  let main_v0 : FVec F S1x196x768 .f32 := (extractStridedSlice S1x196x768 ![0, 1, 0] · slices_S1x197x768_S1x196x768_0_1_0) main_arg1
  let main_v1 : FVec F S196x768 .f32 := shapeCast S196x768 main_v0 shapeCasts_S1x196x768_S196x768
  let main_v2 : FVec F S768x14x14 .f32 := shapeCast S768x14x14 main_v1 shapeCasts_S196x768_S768x14x14
  let main_c : IVec S_ 32 := constantI S_ 32 0#32
  let main_v3 : FVec F S768x16x16 .f32 := fn_pad (F := F) main_v2 main_c
  let main_cst : FVec F S_ .f32 := constant S_ .f32 0x00000000#32
  let main_v4 : FVec F S768x196 .f32 := broadcastInDim S768x196 ![] bcast_S_S768x196 main_cst
  let main_v5 : FVec F S768x768x1x1 .f32 := (extractStridedSlice S768x768x1x1 ![0, 0, 0, 0] · slices_S768x768x3x3_S768x768x1x1_0_0_0_0) main_arg2
  let main_v6 : FVec F S768x768 .f32 := shapeCast S768x768 main_v5 shapeCasts_S768x768x1x1_S768x768
  let main_v7 : FVec F S768x14x14 .f32 := (extractStridedSlice S768x14x14 ![0, 0, 0] · slices_S768x16x16_S768x14x14_0_0_0) main_v3
  let main_v8 : FVec F S768x196 .f32 := shapeCast S768x196 main_v7 shapeCasts_S768x14x14_S768x196
  let main_v9 : FVec F S768x196 .f32 := (fun l r => Host.dotGeneral dot_S768x768_S768x196_S768x196_1_0_0_1_n_n none l r) main_v6 main_v8
  let main_v10 : FVec F S768x196 .f32 := addf main_v4 main_v9
  let main_v11 : FVec F S768x768x1x1 .f32 := (extractStridedSlice S768x768x1x1 ![0, 0, 0, 1] · slices_S768x768x3x3_S768x768x1x1_0_0_0_1) main_arg2
  let main_v12 : FVec F S768x768 .f32 := shapeCast S768x768 main_v11 shapeCasts_S768x768x1x1_S768x768
  let main_v13 : FVec F S768x14x14 .f32 := (extractStridedSlice S768x14x14 ![0, 0, 1] · slices_S768x16x16_S768x14x14_0_0_1) main_v3
  let main_v14 : FVec F S768x196 .f32 := shapeCast S768x196 main_v13 shapeCasts_S768x14x14_S768x196
  let main_v15 : FVec F S768x196 .f32 := (fun l r => Host.dotGeneral dot_S768x768_S768x196_S768x196_1_0_0_1_n_n none l r) main_v12 main_v14
  let main_v16 : FVec F S768x196 .f32 := addf main_v10 main_v15
  let main_v17 : FVec F S768x768x1x1 .f32 := (extractStridedSlice S768x768x1x1 ![0, 0, 0, 2] · slices_S768x768x3x3_S768x768x1x1_0_0_0_2) main_arg2
  let main_v18 : FVec F S768x768 .f32 := shapeCast S768x768 main_v17 shapeCasts_S768x768x1x1_S768x768
  let main_v19 : FVec F S768x14x14 .f32 := (extractStridedSlice S768x14x14 ![0, 0, 2] · slices_S768x16x16_S768x14x14_0_0_2) main_v3
  let main_v20 : FVec F S768x196 .f32 := shapeCast S768x196 main_v19 shapeCasts_S768x14x14_S768x196
  let main_v21 : FVec F S768x196 .f32 := (fun l r => Host.dotGeneral dot_S768x768_S768x196_S768x196_1_0_0_1_n_n none l r) main_v18 main_v20
  fn_part1 (F := F) main_arg2 main_arg3 main_arg4 main_arg5 main_v3 main_v16 main_v21
-- ==== Kernel.lean ====
abbrev S1x3x224x224 : Shape := ⟨4, ![1, 3, 224, 224]⟩
abbrev S1x197x768 : Shape := ⟨3, ![1, 197, 768]⟩
abbrev S768x768x3x3 : Shape := ⟨4, ![768, 768, 3, 3]⟩
abbrev S768 : Shape := ⟨1, ![768]⟩
abbrev S9x768x1x1 : Shape := ⟨4, ![9, 768, 1, 1]⟩
abbrev S9 : Shape := ⟨1, ![9]⟩
abbrev S36x768x1x1 : Shape := ⟨4, ![36, 768, 1, 1]⟩
abbrev S36 : Shape := ⟨1, ![36]⟩
abbrev S3 : Shape := ⟨1, ![3]⟩
abbrev S1x196x768 : Shape := ⟨3, ![1, 196, 768]⟩
abbrev S768x196 : Shape := ⟨2, ![768, 196]⟩
abbrev S196x768 : Shape := ⟨2, ![196, 768]⟩
abbrev S14x14x768 : Shape := ⟨3, ![14, 14, 768]⟩
abbrev S_ : Shape := ⟨0, ![]⟩
abbrev S16x16x768 : Shape := ⟨3, ![16, 16, 768]⟩
abbrev S256x768 : Shape := ⟨2, ![256, 768]⟩
abbrev S64x768 : Shape := ⟨2, ![64, 768]⟩
abbrev S320x768 : Shape := ⟨2, ![320, 768]⟩
abbrev S3x3x768x768 : Shape := ⟨4, ![3, 3, 768, 768]⟩
abbrev S6912x768 : Shape := ⟨2, ![6912, 768]⟩
abbrev S1x768 : Shape := ⟨2, ![1, 768]⟩
abbrev S9x768 : Shape := ⟨2, ![9, 768]⟩
abbrev S768x9 : Shape := ⟨2, ![768, 9]⟩
abbrev S36x768 : Shape := ⟨2, ![36, 768]⟩
abbrev S768x36 : Shape := ⟨2, ![768, 36]⟩
abbrev S768x83 : Shape := ⟨2, ![768, 83]⟩
abbrev S768x128 : Shape := ⟨2, ![768, 128]⟩
abbrev S83 : Shape := ⟨1, ![83]⟩
abbrev S128 : Shape := ⟨1, ![128]⟩
abbrev S1x128 : Shape := ⟨2, ![1, 128]⟩
abbrev S256x128 : Shape := ⟨2, ![256, 128]⟩
abbrev S768x768 : Shape := ⟨2, ![768, 768]⟩
abbrev S16x16x128 : Shape := ⟨3, ![16, 16, 128]⟩
abbrev S14x14x128 : Shape := ⟨3, ![14, 14, 128]⟩
abbrev S196x128 : Shape := ⟨2, ![196, 128]⟩
abbrev S196x9 : Shape := ⟨2, ![196, 9]⟩
abbrev S1764 : Shape := ⟨1, ![1764]⟩
abbrev S196x36 : Shape := ⟨2, ![196, 36]⟩
abbrev S1764x4 : Shape := ⟨2, ![1764, 4]⟩
abbrev S3x1 : Shape := ⟨2, ![3, 1]⟩
abbrev S1x3 : Shape := ⟨2, ![1, 3]⟩
abbrev S3x3 : Shape := ⟨2, ![3, 3]⟩
abbrev S9x1 : Shape := ⟨2, ![9, 1]⟩
abbrev S9x4 : Shape := ⟨2, ![9, 4]⟩
abbrev S14 : Shape := ⟨1, ![14]⟩
abbrev S14x14 : Shape := ⟨2, ![14, 14]⟩
abbrev S196 : Shape := ⟨1, ![196]⟩
abbrev S196x1 : Shape := ⟨2, ![196, 1]⟩
abbrev S196x4 : Shape := ⟨2, ![196, 4]⟩
abbrev S196x1x4 : Shape := ⟨3, ![196, 1, 4]⟩
abbrev S1x9x4 : Shape := ⟨3, ![1, 9, 4]⟩
abbrev S196x9x4 : Shape := ⟨3, ![196, 9, 4]⟩
abbrev S2048x4 : Shape := ⟨2, ![2048, 4]⟩
abbrev S2048 : Shape := ⟨1, ![2048]⟩
abbrev S2048x1 : Shape := ⟨2, ![2048, 1]⟩
abbrev S2048x119 : Shape := ⟨2, ![2048, 119]⟩
abbrev S2048x128 : Shape := ⟨2, ![2048, 128]⟩
abbrev S1x2048 : Shape := ⟨2, ![1, 2048]⟩
abbrev S384x128 : Shape := ⟨2, ![384, 128]⟩
abbrev S1024x1024 : Shape := ⟨2, ![1024, 1024]⟩
abbrev S1024x128 : Shape := ⟨2, ![1024, 128]⟩
abbrev S2048x2048 : Shape := ⟨2, ![2048, 2048]⟩
abbrev S1024x2048 : Shape := ⟨2, ![1024, 2048]⟩
abbrev S1024x1 : Shape := ⟨2, ![1024, 1]⟩
abbrev S128x1024 : Shape := ⟨2, ![128, 1024]⟩
abbrev S1x1024 : Shape := ⟨2, ![1, 1024]⟩
abbrev S128x128 : Shape := ⟨2, ![128, 128]⟩
abbrev S1x1x128 : Shape := ⟨3, ![1, 1, 128]⟩
abbrev S1 : Shape := ⟨1, ![1]⟩
abbrev S1x1x1 : Shape := ⟨3, ![1, 1, 1]⟩
abbrev S1x896 : Shape := ⟨2, ![1, 896]⟩
abbrev S1x256 : Shape := ⟨2, ![1, 256]⟩
abbrev S1x384 : Shape := ⟨2, ![1, 384]⟩
abbrev S1x640 : Shape := ⟨2, ![1, 640]⟩
abbrev S1x512 : Shape := ⟨2, ![1, 512]⟩
abbrev S384x1024 : Shape := ⟨2, ![384, 1024]⟩
abbrev S300x4 : Shape := ⟨2, ![300, 4]⟩
abbrev S300x1 : Shape := ⟨2, ![300, 1]⟩
abbrev S300 : Shape := ⟨1, ![300]⟩

abbrev nBuf : Space → Nat
  | .hbm => 113
  | .vmem => 11
  | .smem => 0
  | _ => 0

abbrev bufTy : (tb : Table) → Fin (tcTables nBuf tb) → BufTy
  | .hbm, ⟨0, _⟩ => ⟨S1x3x224x224, .f32⟩
  | .hbm, ⟨1, _⟩ => ⟨S1x197x768, .f32⟩
  | .hbm, ⟨2, _⟩ => ⟨S768x768x3x3, .f32⟩
  | .hbm, ⟨3, _⟩ => ⟨S768, .f32⟩
  | .hbm, ⟨4, _⟩ => ⟨S9x768x1x1, .f32⟩
  | .hbm, ⟨5, _⟩ => ⟨S9, .f32⟩
  | .hbm, ⟨6, _⟩ => ⟨S36x768x1x1, .f32⟩
  | .hbm, ⟨7, _⟩ => ⟨S36, .f32⟩
  | .hbm, ⟨8, _⟩ => ⟨S3, .f32⟩
  | .hbm, ⟨9, _⟩ => ⟨S3, .f32⟩
  | .hbm, ⟨10, _⟩ => ⟨S1x196x768, .f32⟩
  | .hbm, ⟨11, _⟩ => ⟨S768x196, .f32⟩
  | .hbm, ⟨12, _⟩ => ⟨S196x768, .f32⟩
  | .hbm, ⟨13, _⟩ => ⟨S14x14x768, .f32⟩
  | .hbm, ⟨14, _⟩ => ⟨S_, .i32⟩
  | .hbm, ⟨15, _⟩ => ⟨S_, .f32⟩
  | .hbm, ⟨16, _⟩ => ⟨S16x16x768, .f32⟩
  | .hbm, ⟨17, _⟩ => ⟨S256x768, .f32⟩
  | .hbm, ⟨18, _⟩ => ⟨S_, .f32⟩
  | .hbm, ⟨19, _⟩ => ⟨S64x768, .f32⟩
  | .hbm, ⟨20, _⟩ => ⟨S320x768, .f32⟩
  | .hbm, ⟨21, _⟩ => ⟨S3x3x768x768, .f32⟩
  | .hbm, ⟨22, _⟩ => ⟨S6912x768, .f32⟩
  | .hbm, ⟨23, _⟩ => ⟨S1x768, .f32⟩
  | .hbm, ⟨24, _⟩ => ⟨S9x768, .f32⟩
  | .hbm, ⟨25, _⟩ => ⟨S768x9, .f32⟩
  | .hbm, ⟨26, _⟩ => ⟨S36x768, .f32⟩
  | .hbm, ⟨27, _⟩ => ⟨S768x36, .f32⟩
  | .hbm, ⟨28, _⟩ => ⟨S_, .f32⟩
  | .hbm, ⟨29, _⟩ => ⟨S768x83, .f32⟩
  | .hbm, ⟨30, _⟩ => ⟨S768x128, .f32⟩
  | .hbm, ⟨31, _⟩ => ⟨S_, .f32⟩
  | .hbm, ⟨32, _⟩ => ⟨S83, .f32⟩
  | .hbm, ⟨33, _⟩ => ⟨S128, .f32⟩
  | .hbm, ⟨34, _⟩ => ⟨S1x128, .f32⟩
  | .hbm, ⟨35, _⟩ => ⟨S256x128, .f32⟩
  | .hbm, ⟨36, _⟩ => ⟨S16x16x128, .f32⟩
  | .hbm, ⟨37, _⟩ => ⟨S14x14x128, .f32⟩
  | .hbm, ⟨38, _⟩ => ⟨S196x128, .f32⟩
  | .hbm, ⟨39, _⟩ => ⟨S196x9, .f32⟩
  | .hbm, ⟨40, _⟩ => ⟨S1764, .f32⟩
  | .hbm, ⟨41, _⟩ => ⟨S196x36, .f32⟩
  | .hbm, ⟨42, _⟩ => ⟨S1764x4, .f32⟩
  | .hbm, ⟨43, _⟩ => ⟨S3, .f32⟩
  | .hbm, ⟨44, _⟩ => ⟨S_, .f32⟩
  | .hbm, ⟨45, _⟩ => ⟨S3, .f32⟩
  | .hbm, ⟨46, _⟩ => ⟨S3, .f32⟩
  | .hbm, ⟨47, _⟩ => ⟨S3x1, .f32⟩
  | .hbm, ⟨48, _⟩ => ⟨S1x3, .f32⟩
  | .hbm, ⟨49, _⟩ => ⟨S3x3, .f32⟩
  | .hbm, ⟨50, _⟩ => ⟨S3x3, .f32⟩
  | .hbm, ⟨51, _⟩ => ⟨S3x3, .f32⟩
  | .hbm, ⟨52, _⟩ => ⟨S9, .f32⟩
  | .hbm, ⟨53, _⟩ => ⟨S3x1, .f32⟩
  | .hbm, ⟨54, _⟩ => ⟨S1x3, .f32⟩
  | .hbm, ⟨55, _⟩ => ⟨S3x3, .f32⟩
  | .hbm, ⟨56, _⟩ => ⟨S3x3, .f32⟩
  | .hbm, ⟨57, _⟩ => ⟨S3x3, .f32⟩
  | .hbm, ⟨58, _⟩ => ⟨S9, .f32⟩
  | .hbm, ⟨59, _⟩ => ⟨S9, .f32⟩
  | .hbm, ⟨60, _⟩ => ⟨S9, .f32⟩
  | .hbm, ⟨61, _⟩ => ⟨S9x1, .f32⟩
  | .hbm, ⟨62, _⟩ => ⟨S9x1, .f32⟩
  | .hbm, ⟨63, _⟩ => ⟨S9x1, .f32⟩
  | .hbm, ⟨64, _⟩ => ⟨S9x1, .f32⟩
  | .hbm, ⟨65, _⟩ => ⟨S9x4, .f32⟩
  | .hbm, ⟨66, _⟩ => ⟨S_, .f32⟩
  | .hbm, ⟨67, _⟩ => ⟨S9x4, .f32⟩
  | .hbm, ⟨68, _⟩ => ⟨S9x4, .f32⟩
  | .hbm, ⟨69, _⟩ => ⟨S9x4, .f32⟩
  | .hbm, ⟨70, _⟩ => ⟨S14, .f32⟩
  | .hbm, ⟨71, _⟩ => ⟨S_, .f32⟩
  | .hbm, ⟨72, _⟩ => ⟨S14, .f32⟩
  | .hbm, ⟨73, _⟩ => ⟨S14, .f32⟩
  | .hbm, ⟨74, _⟩ => ⟨S14, .f32⟩
  | .hbm, ⟨75, _⟩ => ⟨S_, .f32⟩
  | .hbm, ⟨76, _⟩ => ⟨S14, .f32⟩
  | .hbm, ⟨77, _⟩ => ⟨S14, .f32⟩
  | .hbm, ⟨78, _⟩ => ⟨S14x14, .f32⟩
  | .hbm, ⟨79, _⟩ => ⟨S14x14, .f32⟩
  | .hbm, ⟨80, _⟩ => ⟨S196, .f32⟩
  | .hbm, ⟨81, _⟩ => ⟨S196, .f32⟩
  | .hbm, ⟨82, _⟩ => ⟨S196, .f32⟩
  | .hbm, ⟨83, _⟩ => ⟨S196, .f32⟩
  | .hbm, ⟨84, _⟩ => ⟨S196x1, .f32⟩
  | .hbm, ⟨85, _⟩ => ⟨S196x1, .f32⟩
  | .hbm, ⟨86, _⟩ => ⟨S196x1, .f32⟩
  | .hbm, ⟨87, _⟩ => ⟨S196x1, .f32⟩
  | .hbm, ⟨88, _⟩ => ⟨S196x4, .f32⟩
  | .hbm, ⟨89, _⟩ => ⟨S196x1x4, .f32⟩
  | .hbm, ⟨90, _⟩ => ⟨S1x9x4, .f32⟩
  | .hbm, ⟨91, _⟩ => ⟨S196x9x4, .f32⟩
  | .hbm, ⟨92, _⟩ => ⟨S196x9x4, .f32⟩
  | .hbm, ⟨93, _⟩ => ⟨S196x9x4, .f32⟩
  | .hbm, ⟨94, _⟩ => ⟨S1764x4, .f32⟩
  | .hbm, ⟨95, _⟩ => ⟨S_, .i32⟩
  | .hbm, ⟨96, _⟩ => ⟨S_, .f32⟩
  | .hbm, ⟨97, _⟩ => ⟨S2048x4, .f32⟩
  | .hbm, ⟨98, _⟩ => ⟨S_, .i32⟩
  | .hbm, ⟨99, _⟩ => ⟨S_, .f32⟩
  | .hbm, ⟨100, _⟩ => ⟨S2048x4, .f32⟩
  | .hbm, ⟨101, _⟩ => ⟨S_, .f32⟩
  | .hbm, ⟨102, _⟩ => ⟨S_, .f32⟩
  | .hbm, ⟨103, _⟩ => ⟨S2048, .f32⟩
  | .hbm, ⟨104, _⟩ => ⟨S2048x1, .f32⟩
  | .hbm, ⟨105, _⟩ => ⟨S_, .f32⟩
  | .hbm, ⟨106, _⟩ => ⟨S2048x119, .f32⟩
  | .hbm, ⟨107, _⟩ => ⟨S2048x128, .f32⟩
  | .hbm, ⟨108, _⟩ => ⟨S1x2048, .f32⟩
  | .hbm, ⟨109, _⟩ => ⟨S384x128, .f32⟩
  | .hbm, ⟨110, _⟩ => ⟨S300x4, .f32⟩
  | .hbm, ⟨111, _⟩ => ⟨S300x1, .f32⟩
  | .hbm, ⟨112, _⟩ => ⟨S300, .f32⟩
  | .local _ .vmem, ⟨0, _⟩ => ⟨S320x768, .f32⟩
  | .local _ .vmem, ⟨1, _⟩ => ⟨S6912x768, .f32⟩
  | .local _ .vmem, ⟨2, _⟩ => ⟨S1x768, .f32⟩
  | .local _ .vmem, ⟨3, _⟩ => ⟨S768x128, .f32⟩
  | .local _ .vmem, ⟨4, _⟩ => ⟨S1x128, .f32⟩
  | .local _ .vmem, ⟨5, _⟩ => ⟨S256x128, .f32⟩
  | .local _ .vmem, ⟨6, _⟩ => ⟨S2048x128, .f32⟩
  | .local _ .vmem, ⟨7, _⟩ => ⟨S1x2048, .f32⟩
  | .local _ .vmem, ⟨8, _⟩ => ⟨S384x128, .f32⟩
  | .local _ .vmem, ⟨9, _⟩ => ⟨S1024x1024, .f32⟩
  | .local _ .vmem, ⟨10, _⟩ => ⟨S1024x128, .f32⟩
  | _, _ => ⟨S1x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_8 : Ref sig .tc := ⟨.hbm, 95, rfl⟩
abbrev main_call2_v0 : Ref sig .tc := ⟨.hbm, 96, rfl⟩
abbrev main_v76 : Ref sig .tc := ⟨.hbm, 97, rfl⟩
abbrev main_c_9 : Ref sig .tc := ⟨.hbm, 98, rfl⟩
abbrev main_call3_v0 : Ref sig .tc := ⟨.hbm, 99, rfl⟩
abbrev main_v77 : Ref sig .tc := ⟨.hbm, 100, rfl⟩
abbrev main_cst_10 : Ref sig .tc := ⟨.hbm, 101, rfl⟩
abbrev main_call4_v0 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := .none

abbrev stage0_0 : Fin 1 → Memref sig .tc .vmem S320x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

@[reducible] def k1_t1_loop : Scf.Loop 32 :=
  let c0_i32_73 : BitVec 32 := 0#32
  let c128_i32 : BitVec 32 := 128#32
  let v226 : BitVec 32 := Scalar.addi c0_i32_73 c128_i32
  let c1_i32_74 : BitVec 32 := 1#32
  ⟨c0_i32_73, v226, c1_i32_74⟩
def k1_off1 (k1_t1 : Fin k1_t1_loop.trips) : Fin 2 → Nat :=
  let c0_i32_182 : BitVec 32 := 0#32
  let c0_i32_73 : BitVec 32 := 0#32
  let c1_i32_74 : BitVec 32 := 1#32
  let arg5 : BitVec 32 := Scf.iv c0_i32_73 c1_i32_74 k1_t1
  let v407 : BitVec 32 := Scalar.addi c0_i32_182 arg5
  let v408 : Index := Scalar.indexCast v407
  let c0_183 : Index := 0#32
  ![v408.toNat, 0]
@[reducible] def k1_t2_loop : Scf.Loop 32 :=
  let c0_i32_86 : BitVec 32 := 0#32
  let c128_i32_87 : BitVec 32 := 128#32
  let v245 : BitVec 32 := Scalar.addi c0_i32_86 c128_i32_87
  let c1_i32_88 : BitVec 32 := 1#32
  ⟨c0_i32_86, v245, c1_i32_88⟩
def k1_off2 (k1_t2 : Fin k1_t2_loop.trips) : Fin 2 → Nat :=
  let c128_i32_182 : BitVec 32 := 128#32
  let c0_i32_86 : BitVec 32 := 0#32
  let c1_i32_88 : BitVec 32 := 1#32
  let arg5 : BitVec 32 := Scf.iv c0_i32_86 c1_i32_88 k1_t2
  let v407 : BitVec 32 := Scalar.addi c128_i32_182 arg5
  let v408 : Index := Scalar.indexCast v407
  let c0_183 : Index := 0#32
  ![v408.toNat, 0]
@[reducible] def k1_t3_loop : Scf.Loop 32 :=
  let c0_i32_99 : BitVec 32 := 0#32
  let c128_i32_100 : BitVec 32 := 128#32
  let v266 : BitVec 32 := Scalar.addi c0_i32_99 c128_i32_100
  let c1_i32_101 : BitVec 32 := 1#32
  ⟨c0_i32_99, v266, c1_i32_101⟩
def k1_off3 (k1_t3 : Fin k1_t3_loop.trips) : Fin 2 → Nat :=
  let c256_i32_182 : BitVec 32 := 256#32
  let c0_i32_99 : BitVec 32 := 0#32
  let c1_i32_101 : BitVec 32 := 1#32
  let arg5 : BitVec 32 := Scf.iv c0_i32_99 c1_i32_101 k1_t3
  let v407 : BitVec 32 := Scalar.addi c256_i32_182 arg5
  let v408 : Index := Scalar.indexCast v407
  let c0_183 : Index := 0#32
  ![v408.toNat, 0]
@[reducible] def k1_t4_loop : Scf.Loop 32 :=
  let c0_i32_112 : BitVec 32 := 0#32
  let c128_i32_113 : BitVec 32 := 128#32
  let v287 : BitVec 32 := Scalar.addi c0_i32_112 c128_i32_113
  let c1_i32_114 : BitVec 32 := 1#32
  ⟨c0_i32_112, v287, c1_i32_114⟩
def k1_off4 (k1_t4 : Fin k1_t4_loop.trips) : Fin 2 → Nat :=
  let c384_i32_182 : BitVec 32 := 384#32
  let c0_i32_112 : BitVec 32 := 0#32
  let c1_i32_114 : BitVec 32 := 1#32
  let arg5 : BitVec 32 := Scf.iv c0_i32_112 c1_i32_114 k1_t4
  let v407 : BitVec 32 := Scalar.addi c384_i32_182 arg5
  let v408 : Index := Scalar.indexCast v407
  let c0_183 : Index := 0#32
  ![v408.toNat, 0]
@[reducible] def k1_t5_loop : Scf.Loop 32 :=
  let c0_i32_125 : BitVec 32 := 0#32
  let c128_i32_126 : BitVec 32 := 128#32
  let v308 : BitVec 32 := Scalar.addi c0_i32_125 c128_i32_126
  let c1_i32_127 : BitVec 32 := 1#32
  ⟨c0_i32_125, v308, c1_i32_127⟩
def k1_off5 (k1_t5 : Fin k1_t5_loop.trips) : Fin 2 → Nat :=
  let c512_i32_182 : BitVec 32 := 512#32
  let c0_i32_125 : BitVec 32 := 0#32
  let c1_i32_127 : BitVec 32 := 1#32
  let arg5 : BitVec 32 := Scf.iv c0_i32_125 c1_i32_127 k1_t5
  let v407 : BitVec 32 := Scalar.addi c512_i32_182 arg5
  let v408 : Index := Scalar.indexCast v407
  let c0_183 : Index := 0#32
  ![v408.toNat, 0]
@[reducible] def k1_t6_loop : Scf.Loop 32 :=
  let c0_i32_138 : BitVec 32 := 0#32
  let c128_i32_139 : BitVec 32 := 128#32
  let v329 : BitVec 32 := Scalar.addi c0_i32_138 c128_i32_139
  let c1_i32_140 : BitVec 32 := 1#32
  ⟨c0_i32_138, v329, c1_i32_140⟩
def k1_off6 (k1_t6 : Fin k1_t6_loop.trips) : Fin 2 → Nat :=
  let c640_i32_182 : BitVec 32 := 640#32
  let c0_i32_138 : BitVec 32 := 0#32
  let c1_i32_140 : BitVec 32 := 1#32
  let arg5 : BitVec 32 := Scf.iv c0_i32_138 c1_i32_140 k1_t6
  let v407 : BitVec 32 := Scalar.addi c640_i32_182 arg5
  let v408 : Index := Scalar.indexCast v407
  let c0_183 : Index := 0#32
  ![v408.toNat, 0]
@[reducible] def k1_t7_loop : Scf.Loop 32 :=
  let c0_i32_151 : BitVec 32 := 0#32
  let c128_i32_152 : BitVec 32 := 128#32
  let v350 : BitVec 32 := Scalar.addi c0_i32_151 c128_i32_152
  let c1_i32_153 : BitVec 32 := 1#32
  ⟨c0_i32_151, v350, c1_i32_153⟩
def k1_off7 (k1_t7 : Fin k1_t7_loop.trips) : Fin 2 → Nat :=
  let c768_i32_182 : BitVec 32 := 768#32
  let c0_i32_151 : BitVec 32 := 0#32
  let c1_i32_153 : BitVec 32 := 1#32
  let arg5 : BitVec 32 := Scf.iv c0_i32_151 c1_i32_153 k1_t7
  let v407 : BitVec 32 := Scalar.addi c768_i32_182 arg5
  let v408 : Index := Scalar.indexCast v407
  let c0_183 : Index := 0#32
  ![v408.toNat, 0]
@[reducible] def k1_t8_loop : Scf.Loop 32 :=
  let c0_i32_164 : BitVec 32 := 0#32
  let c128_i32_165 : BitVec 32 := 128#32
  let v371 : BitVec 32 := Scalar.addi c0_i32_164 c128_i32_165
  let c1_i32_166 : BitVec 32 := 1#32
  ⟨c0_i32_164, v371, c1_i32_166⟩
def k1_off8 (k1_t8 : Fin k1_t8_loop.trips) : Fin 2 → Nat :=
  let c896_i32_182 : BitVec 32 := 896#32
  let c0_i32_164 : BitVec 32 := 0#32
  let c1_i32_166 : BitVec 32 := 1#32
  let arg5 : BitVec 32 := Scf.iv c0_i32_164 c1_i32_166 k1_t8
  let v407 : BitVec 32 := Scalar.addi c896_i32_182 arg5
  let v408 : Index := Scalar.indexCast v407
  let c0_183 : Index := 0#32
  ![v408.toNat, 0]
abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S1x3x224x224 : Shape := ⟨4, ![1, 3, 224, 224]⟩
abbrev S1x197x768 : Shape := ⟨3, ![1, 197, 768]⟩
abbrev S768x768x3x3 : Shape := ⟨4, ![768, 768, 3, 3]⟩
abbrev S768 : Shape := ⟨1, ![768]⟩
abbrev S9x768x1x1 : Shape := ⟨4, ![9, 768, 1, 1]⟩
abbrev S9 : Shape := ⟨1, ![9]⟩
abbrev S36x768x1x1 : Shape := ⟨4, ![36, 768, 1, 1]⟩
abbrev S36 : Shape := ⟨1, ![36]⟩
abbrev S3 : Shape := ⟨1, ![3]⟩
abbrev S1x196x768 : Shape := ⟨3, ![1, 196, 768]⟩
abbrev S196x768 : Shape := ⟨2, ![196, 768]⟩
abbrev S768x14x14 : Shape := ⟨3, ![768, 14, 14]⟩
abbrev S_ : Shape := ⟨0, ![]⟩
abbrev S768x16x16 : Shape := ⟨3, ![768, 16, 16]⟩
abbrev S768x196 : Shape := ⟨2, ![768, 196]⟩
abbrev S768x768x1x1 : Shape := ⟨4, ![768, 768, 1, 1]⟩
abbrev S768x768 : Shape := ⟨2, ![768, 768]⟩
abbrev S768x1 : Shape := ⟨2, ![768, 1]⟩
abbrev S9x768 : Shape := ⟨2, ![9, 768]⟩
abbrev S9x196 : Shape := ⟨2, ![9, 196]⟩
abbrev S9x1 : Shape := ⟨2, ![9, 1]⟩
abbrev S196x9 : Shape := ⟨2, ![196, 9]⟩
abbrev S1764 : Shape := ⟨1, ![1764]⟩
abbrev S36x768 : Shape := ⟨2, ![36, 768]⟩
abbrev S36x196 : Shape := ⟨2, ![36, 196]⟩
abbrev S36x1 : Shape := ⟨2, ![36, 1]⟩
abbrev S9x4x196 : Shape := ⟨3, ![9, 4, 196]⟩
abbrev S196x9x4 : Shape := ⟨3, ![196, 9, 4]⟩
abbrev S1764x4 : Shape := ⟨2, ![1764, 4]⟩
abbrev S3x1 : Shape := ⟨2, ![3, 1]⟩
abbrev S1x3 : Shape := ⟨2, ![1, 3]⟩
abbrev S3x3 : Shape := ⟨2, ![3, 3]⟩
abbrev S9x4 : Shape := ⟨2, ![9, 4]⟩
abbrev S14 : Shape := ⟨1, ![14]⟩
abbrev S14x14 : Shape := ⟨2, ![14, 14]⟩
abbrev S196 : Shape := ⟨1, ![196]⟩
abbrev S196x1 : Shape := ⟨2, ![196, 1]⟩
abbrev S196x4 : Shape := ⟨2, ![196, 4]⟩
abbrev S196x1x4 : Shape := ⟨3, ![196, 1, 4]⟩
abbrev S1x9x4 : Shape := ⟨3, ![1, 9, 4]⟩
abbrev S1764x1 : Shape := ⟨2, ![1764, 1]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S1x4 : Shape := ⟨2, ![1, 4]⟩
abbrev S1001x4 : Shape := ⟨2, ![1001, 4]⟩
abbrev S1001 : Shape := ⟨1, ![1001]⟩
abbrev S300 : Shape := ⟨1, ![300]⟩
abbrev S300x1 : Shape := ⟨2, ![300, 1]⟩
abbrev S300x1000 : Shape := ⟨2, ![300, 1000]⟩
abbrev S300x4 : Shape := ⟨2, ![300, 4]⟩

abbrev nBuf : Space → Nat
  | .hbm => 406
  | .vmem => 0
  | .smem => 0
  | _ => 0

abbrev hbmTy0_0 (i : Nat) : BufTy := match i % 128 with
  | 0 => ⟨S1x3x224x224, .f32⟩
  | 1 => ⟨S1x197x768, .f32⟩
  | 2 => ⟨S768x768x3x3, .f32⟩
  | 3 => ⟨S768, .f32⟩
  | 4 => ⟨S9x768x1x1, .f32⟩
  | 5 => ⟨S9, .f32⟩
  | 6 => ⟨S36x768x1x1, .f32⟩
  | 7 => ⟨S36, .f32⟩
  | 8 => ⟨S3, .f32⟩
  | 9 => ⟨S3, .f32⟩
  | 10 => ⟨S1x196x768, .f32⟩
  | 11 => ⟨S196x768, .f32⟩
  | 12 => ⟨S768x14x14, .f32⟩
  | 13 => ⟨S_, .i32⟩
  | 14 => ⟨S_, .f32⟩
  | 15 => ⟨S768x16x16, .f32⟩
  | 16 => ⟨S_, .f32⟩
  | 17 => ⟨S768x196, .f32⟩
  | 18 => ⟨S768x768x1x1, .f32⟩
  | 19 => ⟨S768x768, .f32⟩
  | 20 => ⟨S768x14x14, .f32⟩
  | 21 => ⟨S768x196, .f32⟩
  | 22 => ⟨S768x196, .f32⟩
  | 23 => ⟨S768x196, .f32⟩
  | 24 => ⟨S768x768x1x1, .f32⟩
  | 25 => ⟨S768x768, .f32⟩
  | 26 => ⟨S768x14x14, .f32⟩
  | 27 => ⟨S768x196, .f32⟩
  | 28 => ⟨S768x196, .f32⟩
  | 29 => ⟨S768x196, .f32⟩
  | 30 => ⟨S768x768x1x1, .f32⟩
  | 31 => ⟨S768x768, .f32⟩
  | 32 => ⟨S768x14x14, .f32⟩
  | 33 => ⟨S768x196, .f32⟩
  | 34 => ⟨S768x196, .f32⟩
  | 35 => ⟨S768x196, .f32⟩
  | 36 => ⟨S768x768x1x1, .f32⟩
  | 37 => ⟨S768x768, .f32⟩
  | 38 => ⟨S768x14x14, .f32⟩
  | 39 => ⟨S768x196, .f32⟩
  | 40 => ⟨S768x196, .f32⟩
  | 41 => ⟨S768x196, .f32⟩
  | 42 => ⟨S768x768x1x1, .f32⟩
  | 43 => ⟨S768x768, .f32⟩
  | 44 => ⟨S768x14x14, .f32⟩
  | 45 => ⟨S768x196, .f32⟩
  | 46 => ⟨S768x196, .f32⟩
  | 47 => ⟨S768x196, .f32⟩
  | 48 => ⟨S768x768x1x1, .f32⟩
  | 49 => ⟨S768x768, .f32⟩
  | 50 => ⟨S768x14x14, .f32⟩
  | 51 => ⟨S768x196, .f32⟩
  | 52 => ⟨S768x196, .f32⟩
  | 53 => ⟨S768x196, .f32⟩
  | 54 => ⟨S768x768x1x1, .f32⟩
  | 55 => ⟨S768x768, .f32⟩
  | 56 => ⟨S768x14x14, .f32⟩
  | 57 => ⟨S768x196, .f32⟩
  | 58 => ⟨S768x196, .f32⟩
  | 59 => ⟨S768x196, .f32⟩
  | 60 => ⟨S768x768x1x1, .f32⟩
  | 61 => ⟨S768x768, .f32⟩
  | 62 => ⟨S768x14x14, .f32⟩
  | 63 => ⟨S768x196, .f32⟩
  | 64 => ⟨S768x196, .f32⟩
  | 65 => ⟨S768x196, .f32⟩
  | 66 => ⟨S768x768x1x1, .f32⟩
  | 67 => ⟨S768x768, .f32⟩
  | 68 => ⟨S768x14x14, .f32⟩
  | 69 => ⟨S768x196, .f32⟩
  | 70 => ⟨S768x196, .f32⟩
  | 71 => ⟨S768x196, .f32⟩
  | 72 => ⟨S768x1, .f32⟩
  | 73 => ⟨S768x196, .f32⟩
  | 74 => ⟨S768x196, .f32⟩
  | 75 => ⟨S_, .f32⟩
  | 76 => ⟨S768x196, .f32⟩
  | 77 => ⟨S768x196, .f32⟩
  | 78 => ⟨S9x768, .f32⟩
  | 79 => ⟨S9x196, .f32⟩
  | 80 => ⟨S9x1, .f32⟩
  | 81 => ⟨S9x196, .f32⟩
  | 82 => ⟨S9x196, .f32⟩
  | 83 => ⟨S196x9, .f32⟩
  | 84 => ⟨S1764, .f32⟩
  | 85 => ⟨S36x768, .f32⟩
  | 86 => ⟨S36x196, .f32⟩
  | 87 => ⟨S36x1, .f32⟩
  | 88 => ⟨S36x196, .f32⟩
  | 89 => ⟨S36x196, .f32⟩
  | 90 => ⟨S9x4x196, .f32⟩
  | 91 => ⟨S196x9x4, .f32⟩
  | 92 => ⟨S1764x4, .f32⟩
  | 93 => ⟨S3, .f32⟩
  | 94 => ⟨S_, .f32⟩
  | 95 => ⟨S3, .f32⟩
  | 96 => ⟨S3, .f32⟩
  | 97 => ⟨S3x1, .f32⟩
  | 98 => ⟨S1x3, .f32⟩
  | 99 => ⟨S3x3, .f32⟩
  | 100 => ⟨S3x3, .f32⟩
  | 101 => ⟨S3x3, .f32⟩
  | 102 => ⟨S9, .f32⟩
  | 103 => ⟨S3x1, .f32⟩
  | 104 => ⟨S1x3, .f32⟩
  | 105 => ⟨S3x3, .f32⟩
  | 106 => ⟨S3x3, .f32⟩
  | 107 => ⟨S3x3, .f32⟩
  | 108 => ⟨S9, .f32⟩
  | 109 => ⟨S9, .f32⟩
  | 110 => ⟨S9, .f32⟩
  | 111 => ⟨S9x1, .f32⟩
  | 112 => ⟨S9x1, .f32⟩
  | 113 => ⟨S9x1, .f32⟩
  | 114 => ⟨S9x1, .f32⟩
  | 115 => ⟨S9x4, .f32⟩
  | 116 => ⟨S_, .f32⟩
  | 117 => ⟨S9x4, .f32⟩
  | 118 => ⟨S9x4, .f32⟩
  | 119 => ⟨S9x4, .f32⟩
  | 120 => ⟨S14, .f32⟩
  | 121 => ⟨S_, .f32⟩
  | 122 => ⟨S14, .f32⟩
  | 123 => ⟨S14, .f32⟩
  | 124 => ⟨S14, .f32⟩
  | 125 => ⟨S_, .f32⟩
  | 126 => ⟨S14, .f32⟩
  | 127 => ⟨S14, .f32⟩
  | _ => ⟨S1x3x224x224, .f32⟩

abbrev hbmTy0_1 (i : Nat) : BufTy := match i % 128 with
  | 0 => ⟨S14x14, .f32⟩
  | 1 => ⟨S14x14, .f32⟩
  | 2 => ⟨S196, .f32⟩
  | 3 => ⟨S196, .f32⟩
  | 4 => ⟨S196, .f32⟩
  | 5 => ⟨S196, .f32⟩
  | 6 => ⟨S196x1, .f32⟩
  | 7 => ⟨S196x1, .f32⟩
  | 8 => ⟨S196x1, .f32⟩
  | 9 => ⟨S196x1, .f32⟩
  | 10 => ⟨S196x4, .f32⟩
  | 11 => ⟨S196x1x4, .f32⟩
  | 12 => ⟨S1x9x4, .f32⟩
  | 13 => ⟨S196x9x4, .f32⟩
  | 14 => ⟨S196x9x4, .f32⟩
  | 15 => ⟨S196x9x4, .f32⟩
  | 16 => ⟨S1764x4, .f32⟩
  | 17 => ⟨S1764x1, .f32⟩
  | 18 => ⟨S1764, .f32⟩
  | 19 => ⟨S1764x1, .f32⟩
  | 20 => ⟨S1764, .f32⟩
  | 21 => ⟨S1764, .f32⟩
  | 22 => ⟨S1764x1, .f32⟩
  | 23 => ⟨S1764, .f32⟩
  | 24 => ⟨S1764x1, .f32⟩
  | 25 => ⟨S1764, .f32⟩
  | 26 => ⟨S1764, .f32⟩
  | 27 => ⟨S1764x1, .f32⟩
  | 28 => ⟨S1764, .f32⟩
  | 29 => ⟨S_, .f32⟩
  | 30 => ⟨S1764, .f32⟩
  | 31 => ⟨S1764, .f32⟩
  | 32 => ⟨S1764, .f32⟩
  | 33 => ⟨S1764x1, .f32⟩
  | 34 => ⟨S1764, .f32⟩
  | 35 => ⟨S_, .f32⟩
  | 36 => ⟨S1764, .f32⟩
  | 37 => ⟨S1764, .f32⟩
  | 38 => ⟨S1764, .f32⟩
  | 39 => ⟨S1764x1, .f32⟩
  | 40 => ⟨S1764, .f32⟩
  | 41 => ⟨S1764x1, .f32⟩
  | 42 => ⟨S1764, .f32⟩
  | 43 => ⟨S1764x1, .f32⟩
  | 44 => ⟨S1764, .f32⟩
  | 45 => ⟨S1764x1, .f32⟩
  | 46 => ⟨S1764, .f32⟩
  | 47 => ⟨S_, .f32⟩
  | 48 => ⟨S1764, .f32⟩
  | 49 => ⟨S1764, .f32⟩
  | 50 => ⟨S_, .f32⟩
  | 51 => ⟨S1764, .f32⟩
  | 52 => ⟨S1764, .f32⟩
  | 53 => ⟨S1764, .f32⟩
  | 54 => ⟨S1764, .f32⟩
  | 55 => ⟨S1764, .f32⟩
  | 56 => ⟨S1764, .f32⟩
  | 57 => ⟨S1764, .f32⟩
  | 58 => ⟨S1764, .f32⟩
  | 59 => ⟨S1764, .f32⟩
  | 60 => ⟨S1764, .f32⟩
  | 61 => ⟨S_, .f32⟩
  | 62 => ⟨S1764, .f32⟩
  | 63 => ⟨S1764, .f32⟩
  | 64 => ⟨S1764, .f32⟩
  | 65 => ⟨S_, .f32⟩
  | 66 => ⟨S1764, .f32⟩
  | 67 => ⟨S1764, .f32⟩
  | 68 => ⟨S1764, .f32⟩
  | 69 => ⟨S_, .f32⟩
  | 70 => ⟨S1764, .f32⟩
  | 71 => ⟨S1764, .f32⟩
  | 72 => ⟨S1764, .f32⟩
  | 73 => ⟨S_, .f32⟩
  | 74 => ⟨S1764, .f32⟩
  | 75 => ⟨S1764, .f32⟩
  | 76 => ⟨S1764, .f32⟩
  | 77 => ⟨S1764x1, .f32⟩
  | 78 => ⟨S1764x1, .f32⟩
  | 79 => ⟨S1764x1, .f32⟩
  | 80 => ⟨S1764x1, .f32⟩
  | 81 => ⟨S1764x4, .f32⟩
  | 82 => ⟨S1000, .f32⟩
  | 83 => ⟨S1000, .i32⟩
  | 84 => ⟨S_, .i32⟩
  | 85 => ⟨S1000, .i32⟩
  | 86 => ⟨S1000, .i1⟩
  | 87 => ⟨S_, .i32⟩
  | 88 => ⟨S1000, .i32⟩
  | 89 => ⟨S1000, .i32⟩
  | 90 => ⟨S1000, .i32⟩
  | 91 => ⟨S1000x1, .i32⟩
  | 92 => ⟨S1000x4, .f32⟩
  | 93 => ⟨S1000x1, .f32⟩
  | 94 => ⟨S1000, .f32⟩
  | 95 => ⟨S_, .f32⟩
  | 96 => ⟨S_, .f32⟩
  | 97 => ⟨S_, .f32⟩
  | 98 => ⟨S1000, .f32⟩
  | 99 => ⟨S1000, .f32⟩
  | 100 => ⟨S_, .f32⟩
  | 101 => ⟨S1000, .f32⟩
  | 102 => ⟨S1000, .f32⟩
  | 103 => ⟨S1000x1, .f32⟩
  | 104 => ⟨S1000, .f32⟩
  | 105 => ⟨S_, .f32⟩
  | 106 => ⟨S_, .f32⟩
  | 107 => ⟨S_, .f32⟩
  | 108 => ⟨S1000, .f32⟩
  | 109 => ⟨S1000, .f32⟩
  | 110 => ⟨S_, .f32⟩
  | 111 => ⟨S1000, .f32⟩
  | 112 => ⟨S1000, .f32⟩
  | 113 => ⟨S1000x1, .f32⟩
  | 114 => ⟨S1000, .f32⟩
  | 115 => ⟨S_, .f32⟩
  | 116 => ⟨S_, .f32⟩
  | 117 => ⟨S_, .f32⟩
  | 118 => ⟨S1000, .f32⟩
  | 119 => ⟨S1000, .f32⟩
  | 120 => ⟨S_, .f32⟩
  | 121 => ⟨S1000, .f32⟩
  | 122 => ⟨S1000, .f32⟩
  | 123 => ⟨S1000x1, .f32⟩
  | 124 => ⟨S1000, .f32⟩
  | 125 => ⟨S_, .f32⟩
  | 126 => ⟨S_, .f32⟩
  | 127 => ⟨S_, .f32⟩
  | _ => ⟨S1x3x224x224, .f32⟩

abbrev hbmTy0_2 (i : Nat) : BufTy := match i % 128 with
  | 0 => ⟨S1000, .f32⟩
  | 1 => ⟨S1000, .f32⟩
  | 2 => ⟨S_, .f32⟩
  | 3 => ⟨S1000, .f32⟩
  | 4 => ⟨S1000, .f32⟩
  | 5 => ⟨S1000x1, .f32⟩
  | 6 => ⟨S1000x1, .f32⟩
  | 7 => ⟨S1000x1, .f32⟩
  | 8 => ⟨S1000x1, .f32⟩
  | 9 => ⟨S1000x4, .f32⟩
  | 10 => ⟨S1000, .f32⟩
  | 11 => ⟨S1000, .f32⟩
  | 12 => ⟨S_, .f32⟩
  | 13 => ⟨S1000, .f32⟩
  | 14 => ⟨S1000, .f32⟩
  | 15 => ⟨S_, .f32⟩
  | 16 => ⟨S1000, .f32⟩
  | 17 => ⟨S1000, .f32⟩
  | 18 => ⟨S1000x1, .f32⟩
  | 19 => ⟨S1000, .f32⟩
  | 20 => ⟨S1000x1, .f32⟩
  | 21 => ⟨S1000, .f32⟩
  | 22 => ⟨S1000, .f32⟩
  | 23 => ⟨S1000x1, .f32⟩
  | 24 => ⟨S1000, .f32⟩
  | 25 => ⟨S1000x1, .f32⟩
  | 26 => ⟨S1000, .f32⟩
  | 27 => ⟨S1000, .f32⟩
  | 28 => ⟨S1000, .f32⟩
  | 29 => ⟨S1000x2, .f32⟩
  | 30 => ⟨S1000x1x2, .f32⟩
  | 31 => ⟨S1000x2, .f32⟩
  | 32 => ⟨S1x1000x2, .f32⟩
  | 33 => ⟨S1000x1000x2, .f32⟩
  | 34 => ⟨S1000x1000x2, .f32⟩
  | 35 => ⟨S1000x1000x2, .f32⟩
  | 36 => ⟨S1000x2, .f32⟩
  | 37 => ⟨S1000x1x2, .f32⟩
  | 38 => ⟨S1000x2, .f32⟩
  | 39 => ⟨S1x1000x2, .f32⟩
  | 40 => ⟨S1000x1000x2, .f32⟩
  | 41 => ⟨S1000x1000x2, .f32⟩
  | 42 => ⟨S1000x1000x2, .f32⟩
  | 43 => ⟨S1000x1000x2, .f32⟩
  | 44 => ⟨S_, .f32⟩
  | 45 => ⟨S_, .f32⟩
  | 46 => ⟨S1000x1000x2, .f32⟩
  | 47 => ⟨S1000x1000x2, .f32⟩
  | 48 => ⟨S1000x1000x1, .f32⟩
  | 49 => ⟨S1000x1000, .f32⟩
  | 50 => ⟨S1000x1000x1, .f32⟩
  | 51 => ⟨S1000x1000, .f32⟩
  | 52 => ⟨S1000x1000, .f32⟩
  | 53 => ⟨S1000x1, .f32⟩
  | 54 => ⟨S1x1000, .f32⟩
  | 55 => ⟨S1000x1000, .f32⟩
  | 56 => ⟨S1000x1000, .f32⟩
  | 57 => ⟨S1000x1000, .f32⟩
  | 58 => ⟨S1000x1000, .f32⟩
  | 59 => ⟨S_, .f32⟩
  | 60 => ⟨S1000x1000, .f32⟩
  | 61 => ⟨S1000x1000, .f32⟩
  | 62 => ⟨S1000x1000, .f32⟩
  | 63 => ⟨S_, .i1⟩
  | 64 => ⟨S1000, .i1⟩
  | 65 => ⟨S_, .i32⟩
  | 66 => ⟨S_, .i32⟩
  | 67 => ⟨S1000x1000, .f32⟩
  | 68 => ⟨S_, .i32⟩
  | 69 => ⟨S_, .i32⟩
  | 70 => ⟨S1000, .i1⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S1x1000, .f32⟩
  | 90 => ⟨S1000, .f32⟩
  | 91 => ⟨S_, .f32⟩
  | 92 => ⟨S1000, .f32⟩
  | 93 => ⟨S1000, .i1⟩
  | 94 => ⟨S1000, .i32⟩
  | 95 => ⟨S_, .i32⟩
  | 96 => ⟨S1000, .i32⟩
  | 97 => ⟨S1000, .i1⟩
  | 98 => ⟨S1000, .i1⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1, .i1⟩
  | 106 => ⟨S_, .i1⟩
  | 107 => ⟨S1000, .i1⟩
  | 108 => ⟨S1000, .i1⟩
  | 109 => ⟨S1000, .i1⟩
  | 110 => ⟨S1000, .i1⟩
  | 111 => ⟨S_, .i32⟩
  | 112 => ⟨S_, .i32⟩
  | 113 => ⟨S_, .f32⟩
  | 114 => ⟨S1x4, .f32⟩
  | 115 => ⟨S1001x4, .f32⟩
  | 116 => ⟨S_, .f32⟩
  | 117 => ⟨S1, .f32⟩
  | 118 => ⟨S1001, .f32⟩
  | 119 => ⟨S1000, .i32⟩
  | 120 => ⟨S_, .i32⟩
  | 121 => ⟨S_, .i32⟩
  | 122 => ⟨S1000, .i32⟩
  | 123 => ⟨S1x1000, .i32⟩
  | 124 => ⟨S300, .i32⟩
  | 125 => ⟨S300x1, .i32⟩
  | 126 => ⟨S300x1000, .i32⟩
  | 127 => ⟨S300x1000, .i32⟩
  | _ => ⟨S1x3x224x224, .f32⟩

abbrev hbmTy0_3 (i : Nat) : BufTy := match i % 128 with
  | 0 => ⟨S300x1000, .i1⟩
  | 1 => ⟨S300x1000, .i32⟩
  | 2 => ⟨S_, .i32⟩
  | 3 => ⟨S300, .i32⟩
  | 4 => ⟨S_, .i32⟩
  | 5 => ⟨S300, .i32⟩
  | 6 => ⟨S300, .i1⟩
  | 7 => ⟨S_, .i32⟩
  | 8 => ⟨S300, .i32⟩
  | 9 => ⟨S300, .i32⟩
  | 10 => ⟨S300, .i32⟩
  | 11 => ⟨S300x1, .i32⟩
  | 12 => ⟨S300x4, .f32⟩
  | 13 => ⟨S_, .i32⟩
  | 14 => ⟨S300, .i32⟩
  | 15 => ⟨S300, .i1⟩
  | 16 => ⟨S_, .i32⟩
  | 17 => ⟨S300, .i32⟩
  | 18 => ⟨S300, .i32⟩
  | 19 => ⟨S300, .i32⟩
  | 20 => ⟨S300x1, .i32⟩
  | 21 => ⟨S300, .f32⟩
  | _ => ⟨S1x3x224x224, .f32⟩

abbrev hbmTy (i : Nat) : BufTy := match i / 128 with
  | 0 => hbmTy0_0 i
  | 1 => hbmTy0_1 i
  | 2 => hbmTy0_2 i
  | 3 => hbmTy0_3 i
  | _ => ⟨S1x3x224x224, .f32⟩

abbrev bufTy : (tb : Table) → Fin (tcTables nBuf tb) → BufTy
  | .hbm, ⟨i, _⟩ => hbmTy i
  | _, _ => ⟨S1x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_3 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_4 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_5 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_6 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_cst_7 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_cst_8 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_cst_9 : Ref sig .tc := ⟨.hbm, 175, rfl⟩
abbrev main_v155 : Ref sig .tc := ⟨.hbm, 176, rfl⟩
abbrev main_v156 : Ref sig .tc := ⟨.hbm, 177, rfl⟩
abbrev main_cst_10 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_cst_11 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_cst_12 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_cst_13 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_cst_14 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_values : Ref sig .tc := ⟨.hbm, 210, rfl⟩
abbrev main_indices : Ref sig .tc := ⟨.hbm, 211, rfl⟩
abbrev main_c_15 : Ref sig .tc := ⟨.hbm, 212, rfl⟩
abbrev main_v184 : Ref sig .tc := ⟨.hbm, 213, rfl⟩
abbrev main_v185 : Ref sig .tc := ⟨.hbm, 214, rfl⟩
abbrev main_c_16 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_cst_17 : Ref sig .tc := ⟨.hbm, 223, rfl⟩
abbrev main_cst_18 : Ref sig .tc := ⟨.hbm, 224, rfl⟩
abbrev main_call2_v0 : Ref sig .tc := ⟨.hbm, 225, rfl⟩
abbrev main_call2_v1 : Ref sig .tc := ⟨.hbm, 226, rfl⟩
abbrev main_call2_v2 : Ref sig .tc := ⟨.hbm, 227, rfl⟩
abbrev main_call2_v3 : Ref sig .tc := ⟨.hbm, 228, rfl⟩
abbrev main_call2_v4 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_cst_19 : Ref sig .tc := ⟨.hbm, 233, rfl⟩
abbrev main_cst_20 : Ref sig .tc := ⟨.hbm, 234, rfl⟩
abbrev main_call3_v0 : Ref sig .tc := ⟨.hbm, 235, rfl⟩
abbrev main_call3_v1 : Ref sig .tc := ⟨.hbm, 236, rfl⟩
abbrev main_call3_v2 : Ref sig .tc := ⟨.hbm, 237, rfl⟩
abbrev main_call3_v3 : Ref sig .tc := ⟨.hbm, 238, rfl⟩
abbrev main_call3_v4 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_cst_21 : Ref sig .tc := ⟨.hbm, 243, rfl⟩
abbrev main_cst_22 : Ref sig .tc := ⟨.hbm, 244, rfl⟩
abbrev main_call4_v0 : Ref sig .tc := ⟨.hbm, 245, rfl⟩
abbrev main_call4_v1 : Ref sig .tc := ⟨.hbm, 246, rfl⟩
abbrev main_call4_v2 : Ref sig .tc := ⟨.hbm, 247, rfl⟩
abbrev main_call4_v3 : Ref sig .tc := ⟨.hbm, 248, rfl⟩
abbrev main_call4_v4 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_23 : Ref sig .tc := ⟨.hbm, 253, rfl⟩
abbrev main_cst_24 : Ref sig .tc := ⟨.hbm, 254, rfl⟩
abbrev main_call5_v0 : Ref sig .tc := ⟨.hbm, 255, rfl⟩
abbrev main_call5_v1 : Ref sig .tc := ⟨.hbm, 256, rfl⟩
abbrev main_call5_v2 : Ref sig .tc := ⟨.hbm, 257, rfl⟩
abbrev main_call5_v3 : Ref sig .tc := ⟨.hbm, 258, rfl⟩
abbrev main_call5_v4 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_cst_25 : Ref sig .tc := ⟨.hbm, 268, rfl⟩
abbrev main_v210 : Ref sig .tc := ⟨.hbm, 269, rfl⟩
abbrev main_v211 : Ref sig .tc := ⟨.hbm, 270, rfl⟩
abbrev main_cst_26 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_cst_27 : Ref sig .tc := ⟨.hbm, 300, rfl⟩
abbrev main_call6_v0 : Ref sig .tc := ⟨.hbm, 301, rfl⟩
abbrev main_call6_v1 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_cst_28 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_c_29 : Ref sig .tc := ⟨.hbm, 319, rfl⟩
abbrev main_v255 : Ref sig .tc := ⟨.hbm, 320, rfl⟩
abbrev main_c_30 : Ref sig .tc := ⟨.hbm, 321, rfl⟩
abbrev main_c_31 : Ref sig .tc := ⟨.hbm, 322, rfl⟩
abbrev main_v256_0 : Ref sig .tc := ⟨.hbm, 323, rfl⟩
abbrev main_v256_1 : Ref sig .tc := ⟨.hbm, 324, rfl⟩
abbrev main_v256_2 : Ref sig .tc := ⟨.hbm, 325, rfl⟩
abbrev main_v256_3 : Ref sig .tc := ⟨.hbm, 326, rfl⟩
abbrev main_while0c_c_42 : Ref sig .tc := ⟨.hbm, 327, rfl⟩
abbrev main_while0c_v285 : Ref sig .tc := ⟨.hbm, 328, rfl⟩
abbrev main_while0b_c_42 : Ref sig .tc := ⟨.hbm, 329, rfl⟩
abbrev main_while0b_v285 : Ref sig .tc := ⟨.hbm, 330, rfl⟩
abbrev main_while0b_v286 : Ref sig .tc := ⟨.hbm, 331, rfl⟩
abbrev main_while0b_c_43 : Ref sig .tc := ⟨.hbm, 332, rfl⟩
abbrev main_while0b_v287 : Ref sig .tc := ⟨.hbm, 333, rfl⟩
abbrev main_while0b_c_44 : Ref sig .tc := ⟨.hbm, 334, rfl⟩
abbrev main_while0b_v288 : Ref sig .tc := ⟨.hbm, 335, rfl⟩
abbrev main_while0b_v289 : Ref sig .tc := ⟨.hbm, 336, rfl⟩
abbrev main_while0b_c_45 : Ref sig .tc := ⟨.hbm, 337, rfl⟩
abbrev main_while0b_c_46 : Ref sig .tc := ⟨.hbm, 338, rfl⟩
abbrev main_while0b_v290 : Ref sig .tc := ⟨.hbm, 339, rfl⟩
abbrev main_while0b_c_47 : Ref sig .tc := ⟨.hbm, 340, rfl⟩
abbrev main_while0b_c_48 : Ref sig .tc := ⟨.hbm, 341, rfl⟩
abbrev main_while0b_v291 : Ref sig .tc := ⟨.hbm, 342, rfl⟩
abbrev main_while0b_c_49 : Ref sig .tc := ⟨.hbm, 343, rfl⟩
abbrev main_while0b_v292 : Ref sig .tc := ⟨.hbm, 344, rfl⟩
abbrev main_while0b_v293 : Ref sig .tc := ⟨.hbm, 345, rfl⟩
abbrev main_while0b_v294 : Ref sig .tc := ⟨.hbm, 346, rfl⟩
abbrev main_while0b_cst_50 : Ref sig .tc := ⟨.hbm, 347, rfl⟩
abbrev main_while0b_v295 : Ref sig .tc := ⟨.hbm, 348, rfl⟩
abbrev main_while0b_v296 : Ref sig .tc := ⟨.hbm, 349, rfl⟩
abbrev main_while0b_v297 : Ref sig .tc := ⟨.hbm, 350, rfl⟩
abbrev main_while0b_v298 : Ref sig .tc := ⟨.hbm, 351, rfl⟩
abbrev main_while0b_v299 : Ref sig .tc := ⟨.hbm, 352, rfl⟩
abbrev main_while0b_v300 : Ref sig .tc := ⟨.hbm, 353, rfl⟩
abbrev main_while0b_v301 : Ref sig .tc := ⟨.hbm, 354, rfl⟩
abbrev main_while0b_c_51 : Ref sig .tc := ⟨.hbm, 355, rfl⟩
abbrev main_while0b_v302 : Ref sig .tc := ⟨.hbm, 356, rfl⟩
abbrev main_while0b_v303 : Ref sig .tc := ⟨.hbm, 357, rfl⟩
abbrev main_while0b_c_52 : Ref sig .tc := ⟨.hbm, 358, rfl⟩
abbrev main_while0b_v304 : Ref sig .tc := ⟨.hbm, 359, rfl⟩
abbrev main_while0b_v305 : Ref sig .tc := ⟨.hbm, 360, rfl⟩
abbrev main_while0b_v306 : Ref sig .tc := ⟨.hbm, 361, rfl⟩
abbrev main_while0b_v307 : Ref sig .tc := ⟨.hbm, 362, rfl⟩
abbrev main_while0b_v308 : Ref sig .tc := ⟨.hbm, 363, rfl⟩
abbrev main_while0b_v309 : Ref sig .tc := ⟨.hbm, 364, rfl⟩
abbrev main_while0b_v310 : Ref sig .tc := ⟨.hbm, 365, rfl⟩
abbrev main_while0b_v311 : Ref sig .tc := ⟨.hbm, 366, rfl⟩
abbrev main_while0b_c_53 : Ref sig .tc := ⟨.hbm, 367, rfl⟩
abbrev main_while0b_v312 : Ref sig .tc := ⟨.hbm, 368, rfl⟩
abbrev main_cst_32 : Ref sig .tc := ⟨.hbm, 369, rfl⟩
abbrev main_v257 : Ref sig .tc := ⟨.hbm, 370, rfl⟩
abbrev main_v258 : Ref sig .tc := ⟨.hbm, 371, rfl⟩
abbrev main_cst_33 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_call7_call0_c : Ref sig .tc := ⟨.hbm, 376, rfl⟩
abbrev main_call7_call0_v0 : Ref sig .tc := ⟨.hbm, 377, rfl⟩
abbrev main_v262 : Ref sig .tc := ⟨.hbm, 378, rfl⟩
abbrev main_v263 : Ref sig .tc := ⟨.hbm, 379, rfl⟩
abbrev main_v264 : Ref sig .tc := ⟨.hbm, 380, rfl⟩
abbrev main_v265 : Ref sig .tc := ⟨.hbm, 381, rfl⟩
abbrev main_v266 : Ref sig .tc := ⟨.hbm, 382, rfl⟩
abbrev main_v267 : Ref sig .tc := ⟨.hbm, 383, rfl⟩
abbrev main_v268 : Ref sig .tc := ⟨.hbm, 384, rfl⟩
abbrev main_v269 : Ref sig .tc := ⟨.hbm, 385, rfl⟩
abbrev main_c_34 : Ref sig .tc := ⟨.hbm, 386, rfl⟩
abbrev main_v270 : Ref sig .tc := ⟨.hbm, 387, rfl⟩
abbrev main_c_35 : Ref sig .tc := ⟨.hbm, 388, rfl⟩
abbrev main_v271 : Ref sig .tc := ⟨.hbm, 389, rfl⟩
abbrev main_v272 : Ref sig .tc := ⟨.hbm, 390, rfl⟩
abbrev main_c_36 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_c_37 : Ref sig .tc := ⟨.hbm, 397, rfl⟩
abbrev main_v278 : Ref sig .tc := ⟨.hbm, 398, rfl⟩
abbrev main_v279 : Ref sig .tc := ⟨.hbm, 399, rfl⟩
abbrev main_c_38 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_v284 : Ref sig .tc := ⟨.hbm, 405, rfl⟩

abbrev nD : Nat := 1
abbrev τ : Topo := Topo.v7x

variable {F : FTy → Type} [FloatOps F]

abbrev main_while0_count : Scf.Loop 32 := ⟨0#32, 1000#32, 1#32⟩
-- ==== Proof.ConvRun.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Tactic
public import Idealize.ShloMosaic.Lib.WholeRead
public import Idealize.ShloMosaic.Lib.Pipeline.Value
public import Idealize.ShloMosaic.Lib.Pipeline.ValueKit
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

/-- No wait of the program depends on a variant. -/
abbrev 𝒱₀ : Variants := Variants.none

/-- The entries of `x` in a rectangle: what a load of the rectangle reads. -/
def ld {s : Shape} {e : EltTy} (x : Vec F s e) (r : Rect s) : Vec F r.shape e := fun y => x (r.emb y)

/-- What the convolution body leaves in its result, of its five operands. -/
def convVal (x0 : Vec F S320x768 .f32) (x1 : Vec F S6912x768 .f32) (x2 : Vec F S1x768 .f32) (x3 : Vec F S768x128 .f32)
    (x4 : Vec F S1x128 .f32) : Vec F S256x128 .f32 :=
  k0_pay1 (k0_pay3
    (k0_pay2
      (ld x0 (Rect.unit (s := S320x768) ![0, 0] S256x768.size inb_S320x768_S256x768_0_0)) (ld x1 (Rect.unit (s := S6912x768) ![0, 0] S768x768.size inb_S6912x768_S768x768_0_0))
      (ld x0 (Rect.unit (s := S320x768) ![1, 0] S256x768.size inb_S320x768_S256x768_1_0)) (ld x1 (Rect.unit (s := S6912x768) ![768, 0] S768x768.size inb_S6912x768_S768x768_768_0))
      (ld x0 (Rect.unit (s := S320x768) ![2, 0] S256x768.size inb_S320x768_S256x768_2_0)) (ld x1 (Rect.unit (s := S6912x768) ![1536, 0] S768x768.size inb_S6912x768_S768x768_1536_0))
      (ld x0 (Rect.unit (s := S320x768) ![16, 0] S256x768.size inb_S320x768_S256x768_16_0)) (ld x1 (Rect.unit (s := S6912x768) ![2304, 0] S768x768.size inb_S6912x768_S768x768_2304_0))
      (ld x0 (Rect.unit (s := S320x768) ![17, 0] S256x768.size inb_S320x768_S256x768_17_0)) (ld x1 (Rect.unit (s := S6912x768) ![3072, 0] S768x768.size inb_S6912x768_S768x768_3072_0)))
    (ld x0 (Rect.unit (s := S320x768) ![18, 0] S256x768.size inb_S320x768_S256x768_18_0)) (ld x1 (Rect.unit (s := S6912x768) ![3840, 0] S768x768.size inb_S6912x768_S768x768_3840_0))
    (ld x0 (Rect.unit (s := S320x768) ![32, 0] S256x768.size inb_S320x768_S256x768_32_0)) (ld x1 (Rect.unit (s := S6912x768) ![4608, 0] S768x768.size inb_S6912x768_S768x768_4608_0))
    (ld x0 (Rect.unit (s := S320x768) ![33, 0] S256x768.size inb_S320x768_S256x768_33_0)) (ld x1 (Rect.unit (s := S6912x768) ![5376, 0] S768x768.size inb_S6912x768_S768x768_5376_0))
    (ld x0 (Rect.unit (s := S320x768) ![34, 0] S256x768.size inb_S320x768_S256x768_34_0)) (ld x1 (Rect.unit (s := S6912x768) ![6144, 0] S768x768.size inb_S6912x768_S768x768_6144_0))
    (ld x2 (Rect.unit (s := S1x768) ![0, 0] S1x768.size inb_S1x768_S1x768_0_0))
    (ld x3 (Rect.unit (s := S768x128) ![0, 0] S768x128.size inb_S768x128_S768x128_0_0)))
    (k0_pay4 (ld x4 (Rect.unit (s := S1x128) ![0, 0] S1x128.size inb_S1x128_S1x128_0_0)))

/-- The convolution body leaves `convVal` of its operands in its result's buffer. -/
theorem convRun (c : Dev nD) (M0 : Memref sig .tc .vmem S320x768 .f32) (h0 : M0.IsWhole)
    (M1 : Memref sig .tc .vmem S6912x768 .f32) (h1 : M1.IsWhole) (M2 : Memref sig .tc .vmem S1x768 .f32) (h2 : M2.IsWhole)
    (M3 : Memref sig .tc .vmem S768x128 .f32) (h3 : M3.IsWhole) (M4 : Memref sig .tc .vmem S1x128 .f32) (h4 : M4.IsWhole)
    (M5 : Memref sig .tc .vmem S256x128 .f32) (h5 : M5.IsWhole)
    (x0 : Vec F S320x768 .f32) (x1 : Vec F S6912x768 .f32) (x2 : Vec F S1x768 .f32) (x3 : Vec F S768x128 .f32) (x4 : Vec F S1x128 .f32) (E : Set ℕ) (K : PUnit → sProp 𝕄) :
        iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ (∃ d, owns (c : Thread nD τ) M5 fullShare d)
            ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare (convVal x0 x1 x2 x3 x4)) -∗ K ⟨⟩))
          ⊢ wp frame (wpE (defs₀ (F := F)) 𝒱₀ c none) E (cc0__conv_head_body M0 h0 M1 h1 M2 h2 M3 h3 M4 h4 M5 h5) K := by
  have e0 : ∀ r : Rect S320x768, M0.view.readAt (Elt F) r.toLoadRect (h0.unread x0) = ld x0 r := fun r => funext fun y => h0.readAt_unread x0 _ y
  have e1 : ∀ r : Rect S6912x768, M1.view.readAt (Elt F) r.toLoadRect (h1.unread x1) = ld x1 r := fun r => funext fun y => h1.readAt_unread x1 _ y
  have e2 : ∀ r : Rect S1x768, M2.view.readAt (Elt F) r.toLoadRect (h2.unread x2) = ld x2 r := fun r => funext fun y => h2.readAt_unread x2 _ y
  have e3 : ∀ r : Rect S768x128, M3.view.readAt (Elt F) r.toLoadRect (h3.unread x3) = ld x3 r := fun r => funext fun y => h3.readAt_unread x3 _ y
  have e4 : ∀ r : Rect S1x128, M4.view.readAt (Elt F) r.toLoadRect (h4.unread x4) = ld x4 r := fun r => funext fun y => h4.readAt_unread x4 _ y
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := h0.eq_unread hf0; obtain rfl := h1.eq_unread hf1; obtain rfl := h2.eq_unread hf2
  obtain rfl := h3.eq_unread hf3; obtain rfl := h4.eq_unread hf4
  sl_unfold [cc0__conv_head_body]
  sl_exec!
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists _; isplitr; swap; · iexact H5
  ipureintro
  refine (View.read_writes_full _ _ _ _ _).trans ?_
  sl_unfold_words
  rfl

end Cert.Proof
end
-- ==== Proof.ProposeVal.lean ====
module

public import proofs.«01_k».proof.Proof.ConvRun
public import Idealize.ShloMosaic.Lib.VecWindow
public import Idealize.ShloMosaic.Lib.ValueIdxCore

@[expose] public section

set_option maxRecDepth 16384

noncomputable section

namespace Cert.Proof

open Cert.KernelIdeal Cert.KernelIdeal.Gen
open Idealize.ShloMosaic Idealize.ShloMosaic.TcCoe Idealize.ShloMosaic.ValueIdx

variable {F : FTy → Type} [FloatOps F]

/-! What the propose body leaves in its result's buffer, as a composition of the values it computes. -/

/-! The columns of the ranked rows: the clipped corners `y1`, `x2`, `y2`, the score, the area and the masked `x1`. -/

def colY1 (x0 : Vec F S2048x128 .f32) (x1 : Vec F S1x2048 .f32) : FVec F S1024x1 .f32 :=
  k1_pay20 (k1_pay4 x0 x1) (k1_pay5 x0 x1) (k1_pay10 x0 x1) (k1_pay12 x0 x1) k1_pay14
def colX2 (x0 : Vec F S2048x128 .f32) (x1 : Vec F S1x2048 .f32) : FVec F S1024x1 .f32 :=
  k1_pay21 (k1_pay3 x0 x1) (k1_pay9 x0 x1) (k1_pay11 x0 x1) (k1_pay13 x0 x1)
def colY2 (x0 : Vec F S2048x128 .f32) (x1 : Vec F S1x2048 .f32) : FVec F S1024x1 .f32 :=
  k1_pay22 (k1_pay4 x0 x1) (k1_pay5 x0 x1) (k1_pay10 x0 x1) (k1_pay12 x0 x1) k1_pay14
def colScore (x0 : Vec F S2048x128 .f32) (x1 : Vec F S1x2048 .f32) : FVec F S1024x1 .f32 :=
  k1_pay23 (k1_pay8 x0 x1)
def colArea (x0 : Vec F S2048x128 .f32) (x1 : Vec F S1x2048 .f32) : FVec F S1024x1 .f32 :=
  k1_pay24 (k1_pay3 x0 x1) (k1_pay4 x0 x1) (k1_pay5 x0 x1) (k1_pay9 x0 x1) (k1_pay10 x0 x1) (k1_pay11 x0 x1) (k1_pay12 x0 x1)
      (k1_pay13 x0 x1) k1_pay14
def colX1 (x0 : Vec F S2048x128 .f32) (x1 : Vec F S1x2048 .f32) : FVec F S1024x128 .f32 :=
  k1_pay26 (k1_pay3 x0 x1) (k1_pay9 x0 x1) (k1_pay11 x0 x1) (k1_pay13 x0 x1)

/-- The decoded boxes of the ranked rows, one row per rank: the columns x1, y1, x2, y2, score. -/
def detMat (x0 : Vec F S2048x128 .f32) (x1 : Vec F S1x2048 .f32) : FVec F S1024x128 .f32 :=
  k1_pay27 (colY1 x0 x1) (colX2 x0 x1) (colY2 x0 x1) (colScore x0 x1) (colArea x0 x1) (iota .tc S1024x128 32 [1] iota_S1024x128_d1_w32)
      k1_pay25 (Scalar.ofBits .f32 0x00000000#32) (colX1 x0 x1)

/-- The suppression matrix: row `i` marks the later boxes that box `i`, once kept, removes. -/
def overMat (x0 : Vec F S2048x128 .f32) (x1 : Vec F S1x2048 .f32) : FVec F S1024x1024 .f32 :=
  k1_pay32 (k1_pay19 (k1_pay3 x0 x1) (k1_pay9 x0 x1) (k1_pay11 x0 x1) (k1_pay13 x0 x1)) (colY1 x0 x1) (colX2 x0 x1) (colY2 x0 x1) (colArea x0 x1)
    (iota .tc S1024x1024 32 [0] iota_S1024x1024_d0_w32) (iota .tc S1024x1024 32 [1] iota_S1024x1024_d1_w32)
    (k1_pay28 (colY1 x0 x1) (colX2 x0 x1) (colY2 x0 x1) (colScore x0 x1) (colArea x0 x1) (iota .tc S1024x128 32 [1] iota_S1024x128_d1_w32)
      k1_pay25 (Scalar.ofBits .f32 0x00000000#32) (colX1 x0 x1)) (k1_pay29 (colY1 x0 x1) (colX2 x0 x1) (colY2 x0 x1) (colScore x0 x1) (colArea x0 x1) (iota .tc S1024x128 32 [1] iota_S1024x128_d1_w32)
      k1_pay25 (Scalar.ofBits .f32 0x00000000#32) (colX1 x0 x1)) (k1_pay30 (colY1 x0 x1) (colX2 x0 x1) (colY2 x0 x1) (colScore x0 x1) (colArea x0 x1) (iota .tc S1024x128 32 [1] iota_S1024x128_d1_w32)
      k1_pay25 (Scalar.ofBits .f32 0x00000000#32) (colX1 x0 x1)) (k1_pay31 (colY1 x0 x1) (colX2 x0 x1) (colY2 x0 x1) (colScore x0 x1) (colArea x0 x1) (iota .tc S1024x128 32 [1] iota_S1024x128_d1_w32)
      k1_pay25 (Scalar.ofBits .f32 0x00000000#32) (colX1 x0 x1))

/-- The lane index of a row of 128. -/
abbrev lanes : IVec S1x128 32 := iota .tc S1x128 32 [1] iota_S1x128_d1_w32

/-- Rows `r` of a matrix of 128 columns. -/
def rowOf (D : Vec F S1024x128 .f32) (r : ℕ) : Vec F S1x128 .f32 := fun i => D (ValueIdx.ix2 (Fin.ofNat 1024 r) (i 1))

/-- The 128 columns of block `b`. -/
def colBlk (M : Vec F S1024x1024 .f32) (b : ℕ) : Vec F S1024x128 .f32 := fun i => M (ValueIdx.ix2 (i 0) (Fin.ofNat 1024 (128 * b + (i 1).val)))

/-- The diagonal blocks of a matrix, one below the other. -/
def diagOf (M : Vec F S1024x1024 .f32) : Vec F S1024x128 .f32 :=
  fun i => M (ValueIdx.ix2 (i 0) (Fin.ofNat 1024 (128 * ((i 0).val / 128) + (i 1).val)))

/-- Entry `k` of a row of 128, found as the sum of the row masked to lane `k`. -/
def laneAt (k : ℕ) (acc : FVec F S1x128 .f32) : F .f32 :=
  extractAt ![0, 0, 0] (shapeCast S1x1x1 (multiReduction .add [1, 2] S1
    (shapeCast S1x1x128 (select (cmpi .eq lanes (broadcast S1x128 (Scf.iv 0#32 1#32 k))) acc
      (broadcast S1x128 (Scalar.ofBits (F := F) .f32 0x00000000#32))) shapeCasts_S1x128_S1x1x128)
    0x00000000#32 reduces_S1x1x128_S1 (.inl rfl) rfl) shapeCasts_S1_S1x1x1) inpos_S1x1x1_p0_0_0

/-- One box of a block: when it is kept, the boxes of the block that it removes are cleared. -/
def nmsStep (D : Vec F S1024x128 .f32) (lo k : ℕ) (acc : FVec F S1x128 .f32) : FVec F S1x128 .f32 :=
  if Scalar.cmpi .ne (Scalar.extui (Scalar.cmpf .ogt (laneAt k acc) (Scalar.ofBits .f32 0x00000000#32)) : BitVec 32) 0#32 = 1#1 then
    k1_pay44 acc (rowOf D (lo + k)) else acc

/-- The first `n` boxes of the block that starts at row `lo`. -/
def nmsLoop (D : Vec F S1024x128 .f32) (lo : ℕ) (init : FVec F S1x128 .f32) : ℕ → FVec F S1x128 .f32
  | 0 => init
  | k + 1 => nmsStep D lo k (nmsLoop D lo init k)

/-! The kept flags block by block: `blkN` the flags of block N after its loop, `keepN` the row of all blocks so far. -/

def blk1 (M : Vec F S1024x1024 .f32) : FVec F S1x128 .f32 := nmsLoop (diagOf M) 0 (k1_pay42 lanes k1_pay33 (colBlk M 0)) 128
def keep1 (M : Vec F S1024x1024 .f32) : FVec F S1x1024 .f32 := k1_pay45 k1_pay33 (blk1 M)
def blk2 (M : Vec F S1024x1024 .f32) : FVec F S1x128 .f32 := nmsLoop (diagOf M) 128 (k1_pay46 lanes k1_pay33 (blk1 M) (colBlk M 1)) 128
def blk3 (M : Vec F S1024x1024 .f32) : FVec F S1x128 .f32 := nmsLoop (diagOf M) 256 (k1_pay50 lanes (keep1 M) (blk2 M) (colBlk M 2)) 128
def keep3 (M : Vec F S1024x1024 .f32) : FVec F S1x1024 .f32 := k1_pay53 (keep1 M) (blk2 M) (blk3 M)
def blk4 (M : Vec F S1024x1024 .f32) : FVec F S1x128 .f32 :=
  nmsLoop (diagOf M) 384 (k1_pay55 (keep3 M) (k1_pay54 lanes) (colBlk M 3) (constant S1x128 .f32 0x00000000#32)) 128
def blk5 (M : Vec F S1024x1024 .f32) : FVec F S1x128 .f32 := nmsLoop (diagOf M) 512 (k1_pay59 lanes (keep3 M) (blk4 M) (colBlk M 4)) 128
def keep5 (M : Vec F S1024x1024 .f32) : FVec F S1x1024 .f32 := k1_pay62 (keep3 M) (blk4 M) (blk5 M)
def blk6 (M : Vec F S1024x1024 .f32) : FVec F S1x128 .f32 := nmsLoop (diagOf M) 640 (k1_pay65 (keep5 M) (k1_pay63 lanes) k1_pay64 (colBlk M 5)) 128
def keep6 (M : Vec F S1024x1024 .f32) : FVec F S1x1024 .f32 := k1_pay68 (keep5 M) (blk6 M)
def blk7 (M : Vec F S1024x1024 .f32) : FVec F S1x128 .f32 := nmsLoop (diagOf M) 768 (k1_pay69 lanes (keep5 M) (blk6 M) (colBlk M 6)) 128
def blk8 (M : Vec F S1024x1024 .f32) : FVec F S1x128 .f32 := nmsLoop (diagOf M) 896 (k1_pay74 lanes (keep6 M) (blk7 M) k1_pay72 (colBlk M 7)) 128

/-- The rows of the result: the kept boxes moved to the front. -/
def proposeVal (x0 : Vec F S2048x128 .f32) (x1 : Vec F S1x2048 .f32) : FVec F S384x128 .f32 :=
  k1_pay1 (detMat x0 x1)
    (k1_pay77 (iota .tc S1024x1024 32 [0] iota_S1024x1024_d0_w32) (iota .tc S1024x1024 32 [1] iota_S1024x1024_d1_w32)
      (keep6 (overMat x0 x1)) (blk7 (overMat x0 x1)) k1_pay72 (blk8 (overMat x0 x1)))

end Cert.Proof
end
-- ==== Proof.ProposeRun.lean ====
module

public import proofs.«01_k».proof.Proof.ProposeVal
public import Idealize.ShloMosaic.Lib.Pipeline.Value
public import Idealize.ShloMosaic.Lib.WholeRead
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

/-- The eight stores of the diagonal blocks leave the diagonal blocks. -/
theorem read_diag (M3 : Memref sig .tc .vmem S1024x1024 .f32) (M4 : Memref sig .tc .vmem S1024x128 .f32) (w : Vec F S1024x1024 .f32)
    (f : M4.view.ty.Contents (Elt F)) :
    M4.view.read (Elt F) (M4.view.writes (Elt F) f
      [⟨Rect.unit ![896, 0] S128x128.size inb_S1024x128_S128x128_896_0, k1_pay41 (M3.view.readCov [⟨Rect.unit ![0, 0] S1024x1024.size inb_S1024x1024_S1024x1024_0_0, w⟩] (Rect.unit (s := S1024x1024) ![896, 896] S128x128.size inb_S1024x1024_S128x128_896_896).toLoadRect)⟩,
       ⟨Rect.unit ![768, 0] S128x128.size inb_S1024x128_S128x128_768_0, k1_pay40 (M3.view.readCov [⟨Rect.unit ![0, 0] S1024x1024.size inb_S1024x1024_S1024x1024_0_0, w⟩] (Rect.unit (s := S1024x1024) ![768, 768] S128x128.size inb_S1024x1024_S128x128_768_768).toLoadRect)⟩,
       ⟨Rect.unit ![640, 0] S128x128.size inb_S1024x128_S128x128_640_0, k1_pay39 (M3.view.readCov [⟨Rect.unit ![0, 0] S1024x1024.size inb_S1024x1024_S1024x1024_0_0, w⟩] (Rect.unit (s := S1024x1024) ![640, 640] S128x128.size inb_S1024x1024_S128x128_640_640).toLoadRect)⟩,
       ⟨Rect.unit ![512, 0] S128x128.size inb_S1024x128_S128x128_512_0, k1_pay38 (M3.view.readCov [⟨Rect.unit ![0, 0] S1024x1024.size inb_S1024x1024_S1024x1024_0_0, w⟩] (Rect.unit (s := S1024x1024) ![512, 512] S128x128.size inb_S1024x1024_S128x128_512_512).toLoadRect)⟩,
       ⟨Rect.unit ![384, 0] S128x128.size inb_S1024x128_S128x128_384_0, k1_pay37 (M3.view.readCov [⟨Rect.unit ![0, 0] S1024x1024.size inb_S1024x1024_S1024x1024_0_0, w⟩] (Rect.unit (s := S1024x1024) ![384, 384] S128x128.size inb_S1024x1024_S128x128_384_384).toLoadRect)⟩,
       ⟨Rect.unit ![256, 0] S128x128.size inb_S1024x128_S128x128_256_0, k1_pay36 (M3.view.readCov [⟨Rect.unit ![0, 0] S1024x1024.size inb_S1024x1024_S1024x1024_0_0, w⟩] (Rect.unit (s := S1024x1024) ![256, 256] S128x128.size inb_S1024x1024_S128x128_256_256).toLoadRect)⟩,
       ⟨Rect.unit ![128, 0] S128x128.size inb_S1024x128_S128x128_128_0, k1_pay35 (M3.view.readCov [⟨Rect.unit ![0, 0] S1024x1024.size inb_S1024x1024_S1024x1024_0_0, w⟩] (Rect.unit (s := S1024x1024) ![128, 128] S128x128.size inb_S1024x1024_S128x128_128_128).toLoadRect)⟩,
       ⟨Rect.unit ![0, 0] S128x128.size inb_S1024x128_S128x128_0_0, k1_pay34 (M3.view.readCov [⟨Rect.unit ![0, 0] S1024x1024.size inb_S1024x1024_S1024x1024_0_0, w⟩] (Rect.unit (s := S1024x1024) ![0, 0] S128x128.size inb_S1024x1024_S128x128_0_0).toLoadRect)⟩])
      = diagOf w := by
  funext y
  have hcov : ∀ r : Rect S1024x1024, M3.view.readCov [⟨Rect.unit ![0, 0] S1024x1024.size inb_S1024x1024_S1024x1024_0_0, w⟩] r.toLoadRect
      = fun x => w (r.emb x) := by
    intro r
    rw [View.readCov_eq_canon', View.canon_cons_unit_lit _ _ _ (by decide)]
    rfl
  simp only [hcov]
  have hmem : ∀ (pay : ∀ b : Fin 8, Vec F S128x128 .f32), ∃ p ∈ ([⟨Rect.unit (s := S1024x128) ![896, 0] S128x128.size inb_S1024x128_S128x128_896_0, pay 7⟩,
      ⟨Rect.unit (s := S1024x128) ![768, 0] S128x128.size inb_S1024x128_S128x128_768_0, pay 6⟩,
      ⟨Rect.unit (s := S1024x128) ![640, 0] S128x128.size inb_S1024x128_S128x128_640_0, pay 5⟩,
      ⟨Rect.unit (s := S1024x128) ![512, 0] S128x128.size inb_S1024x128_S128x128_512_0, pay 4⟩,
      ⟨Rect.unit (s := S1024x128) ![384, 0] S128x128.size inb_S1024x128_S128x128_384_0, pay 3⟩,
      ⟨Rect.unit (s := S1024x128) ![256, 0] S128x128.size inb_S1024x128_S128x128_256_0, pay 2⟩,
      ⟨Rect.unit (s := S1024x128) ![128, 0] S128x128.size inb_S1024x128_S128x128_128_0, pay 1⟩,
      ⟨Rect.unit (s := S1024x128) ![0, 0] S128x128.size inb_S1024x128_S128x128_0_0, pay 0⟩] : List (View.Piece (Elt F) S1024x128 .f32)), y ∈ p.1.set := by
    intro pay
    have h0 : (y 0).val < 1024 := (y 0).isLt
    have h1 : (y 1).val < 128 := (y 1).isLt
    have e : ∀ (b : ℕ) (inb), 128 * b ≤ (y 0).val → (y 0).val < 128 * b + 128 →
        y ∈ (Rect.unit (s := S1024x128) ![128 * b, 0] S128x128.size inb).set := by
      intro b inb hl hu
      rw [Rect.mem_set_unit]
      intro a
      match a with
      | ⟨0, _⟩ => exact ⟨hl, hu⟩
      | ⟨1, _⟩ => exact ⟨Nat.zero_le _, by show (y 1).val < 0 + 128; omega⟩
    simp only [List.exists_mem_cons_iff, List.not_mem_nil, _root_.false_and, exists_false, _root_.or_false]
    have : (y 0).val / 128 = 0 ∨ (y 0).val / 128 = 1 ∨ (y 0).val / 128 = 2 ∨ (y 0).val / 128 = 3 ∨ (y 0).val / 128 = 4
      ∨ (y 0).val / 128 = 5 ∨ (y 0).val / 128 = 6 ∨ (y 0).val / 128 = 7 := by omega
    rcases this with h | h | h | h | h | h | h | h
    · exact .inr (.inr (.inr (.inr (.inr (.inr (.inr (e 0 _ (by omega) (by omega))))))))
    · exact .inr (.inr (.inr (.inr (.inr (.inr (.inl (e 1 _ (by omega) (by omega))))))))
    · exact .inr (.inr (.inr (.inr (.inr (.inl (e 2 _ (by omega) (by omega)))))))
    · exact .inr (.inr (.inr (.inr (.inl (e 3 _ (by omega) (by omega))))))
    · exact .inr (.inr (.inr (.inl (e 4 _ (by omega) (by omega)))))
    · exact .inr (.inr (.inl (e 5 _ (by omega) (by omega))))
    · exact .inr (.inl (e 6 _ (by omega) (by omega)))
    · exact .inl (e 7 _ (by omega) (by omega))
  rw [View.read_writes_apply_eq_canon]
  · refine View.canon_apply_of_pieces (diagOf w) _ ?_ y ?_
    · intro p hp
      have e : ∀ (b : ℕ) (hb : b < 8) (inb inb') (x : S128x128.Idx), w ((Rect.unit (s := S1024x1024) ![128 * b, 128 * b] S128x128.size inb).emb x)
          = diagOf w ((Rect.unit (s := S1024x128) ![128 * b, 0] S128x128.size inb').emb x) := by
        intro b hb inb inb' x
        have h0 : (x 0).val < 128 := (x 0).isLt
        have h1 : (x 1).val < 128 := (x 1).isLt
        show w _ = w _
        congr 1
        funext a
        apply Fin.ext
        match a with
        | ⟨0, _⟩ => rfl
        | ⟨1, _⟩ =>
          show 128 * b + 1 * (x 1).val = (128 * ((128 * b + 1 * (x 0).val) / 128) + (0 + 1 * (x 1).val)) % 1024
          omega
      simp only [List.mem_cons, List.not_mem_nil, _root_.or_false] at hp
      intro x
      rcases hp with rfl | rfl | rfl | rfl | rfl | rfl | rfl | rfl
      · simp only [k1_pay41, shapeCast_self]; exact e 7 (by decide) _ _ x
      · simp only [k1_pay40, shapeCast_self]; exact e 6 (by decide) _ _ x
      · simp only [k1_pay39, shapeCast_self]; exact e 5 (by decide) _ _ x
      · simp only [k1_pay38, shapeCast_self]; exact e 4 (by decide) _ _ x
      · simp only [k1_pay37, shapeCast_self]; exact e 3 (by decide) _ _ x
      · simp only [k1_pay36, shapeCast_self]; exact e 2 (by decide) _ _ x
      · simp only [k1_pay35, shapeCast_self]; exact e 1 (by decide) _ _ x
      · simp only [k1_pay34, shapeCast_self]; exact e 0 (by decide) _ _ x
    · exact hmem (fun b => match b with | 0 => _ | 1 => _ | 2 => _ | 3 => _ | 4 => _ | 5 => _ | 6 => _ | 7 => _)
  · exact hmem (fun b => match b with | 0 => _ | 1 => _ | 2 => _ | 3 => _ | 4 => _ | 5 => _ | 6 => _ | 7 => _)

/-- A load of one row of the buffer of the diagonal blocks. -/
theorem readAt_row {M4 : Memref sig .tc .vmem S1024x128 .f32} (h4 : M4.IsWhole) (D : Vec F S1024x128 .f32) (off : Fin 2 → ℕ) (inb)
    (r : ℕ) (e0 : off 0 = r) (e1 : off 1 = 0) :
    M4.view.readAt (Elt F) (Rect.unit (s := S1024x128) off S1x128.size inb).toLoadRect (h4.unread D) = rowOf D r := by
  funext i
  refine (h4.readAt_unread D _ i).trans ?_
  have h0 : (i 0).val < 1 := (i 0).isLt
  have h1 : (i 1).val < 128 := (i 1).isLt
  have hr : off 0 + 1 ≤ 1024 := inb 0
  show D _ = D _
  congr 1
  funext a
  apply Fin.ext
  match a with
  | ⟨0, _⟩ => show off 0 + 1 * (i 0).val = r % 1024; omega
  | ⟨1, _⟩ => show off 1 + 1 * (i 1).val = (i 1).val; omega

theorem off1_eq : ∀ k : Fin k1_t1_loop.trips, k1_off1 k 0 = 0 + k.val := by decide +kernel

theorem trip1 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v180 v209) (E : Set ℕ) (k : Fin k1_t1_loop.trips) (acc : FVec F S1x128 .f32) :
    (iprop((View.loc c.tc M4.view ↦[M4.view.set]{fullShare} h4.unread D) ∗ ⌜acc = nmsLoop D 0 init k.val⌝) : sProp 𝕄)
      ⊢ wp frame (wpE (defs₀ (F := F)) 𝒱₀ c none) E (k1_t1_body M0 h0 M1 h1 M2 h2 M3 h3 M4 h4 lanes v180 v209 k acc)
        (fun acc' => iprop((View.loc c.tc M4.view ↦[M4.view.set]{fullShare} h4.unread D) ∗ ⌜acc' = nmsLoop D 0 init (k.val + 1)⌝)) := by
  iintro ⟨H4, %hacc⟩
  sl_unfold [k1_t1_body]
  by_cases h : Scalar.cmpi .ne (Scalar.extui (Scalar.cmpf .ogt (k1_pay43 lanes k acc) (Scalar.ofBits .f32 0x00000000#32)) : BitVec 32) 0#32 = 1#1
  · have hs : nmsLoop D 0 init (k.val + 1) = k1_pay44 acc (rowOf D (0 + k.val)) := by
      rw [hacc]; exact if_pos (hacc ▸ h)
    sl_exec!
    sl_step
    isplitl [H4]
    · iexact H4
    ipureintro
    exact (congrArg (k1_pay44 acc) (readAt_row h4 D _ _ _ (off1_eq k) rfl)).trans hs.symm
  · have hs : nmsLoop D 0 init (k.val + 1) = acc := by
      rw [hacc]; exact if_neg (hacc ▸ h)
    sl_exec!
    sl_step
    isplitl [H4]
    · iexact H4
    ipureintro
    exact hs.symm

theorem off2_eq : ∀ k : Fin k1_t2_loop.trips, k1_off2 k 0 = 128 + k.val := by decide +kernel

theorem trip2 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v231 v244) (E : Set ℕ) (k : Fin k1_t2_loop.trips) (acc : FVec F S1x128 .f32) :
    (iprop((View.loc c.tc M4.view ↦[M4.view.set]{fullShare} h4.unread D) ∗ ⌜acc = nmsLoop D 128 init k.val⌝) : sProp 𝕄)
      ⊢ wp frame (wpE (defs₀ (F := F)) 𝒱₀ c none) E (k1_t2_body M0 h0 M1 h1 M2 h2 M3 h3 M4 h4 lanes v231 v244 0#32 k acc)
        (fun acc' => iprop((View.loc c.tc M4.view ↦[M4.view.set]{fullShare} h4.unread D) ∗ ⌜acc' = nmsLoop D 128 init (k.val + 1)⌝)) := by
  iintro ⟨H4, %hacc⟩
  sl_unfold [k1_t2_body]
  by_cases h : Scalar.cmpi .ne (Scalar.extui (Scalar.cmpf .ogt (k1_pay47 lanes 0#32 k acc) (Scalar.ofBits .f32 0x00000000#32)) : BitVec 32) 0#32 = 1#1
  · have hs : nmsLoop D 128 init (k.val + 1) = k1_pay48 acc (rowOf D (128 + k.val)) := by
      rw [hacc]; exact if_pos (hacc ▸ h)
    sl_exec!
    sl_step
    isplitl [H4]
    · iexact H4
    ipureintro
    exact (congrArg (k1_pay48 acc) (readAt_row h4 D _ _ _ (off2_eq k) rfl)).trans hs.symm
  · have hs : nmsLoop D 128 init (k.val + 1) = acc := by
      rw [hacc]; exact if_neg (hacc ▸ h)
    sl_exec!
    sl_step
    isplitl [H4]
    · iexact H4
    ipureintro
    exact hs.symm

theorem off3_eq : ∀ k : Fin k1_t3_loop.trips, k1_off3 k 0 = 256 + k.val := by decide +kernel

theorem trip3 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v231 v244) (E : Set ℕ) (k : Fin k1_t3_loop.trips) (acc : FVec F S1x128 .f32) :
    (iprop((View.loc c.tc M4.view ↦[M4.view.set]{fullShare} h4.unread D) ∗ ⌜acc = nmsLoop D 256 init k.val⌝) : sProp 𝕄)
      ⊢ wp frame (wpE (defs₀ (F := F)) 𝒱₀ c none) E (k1_t3_body M0 h0 M1 h1 M2 h2 M3 h3 M4 h4 lanes v231 v244 0#32 k acc)
        (fun acc' => iprop((View.loc c.tc M4.view ↦[M4.view.set]{fullShare} h4.unread D) ∗ ⌜acc' = nmsLoop D 256 init (k.val + 1)⌝)) := by
  iintro ⟨H4, %hacc⟩
  sl_unfold [k1_t3_body]
  by_cases h : Scalar.cmpi .ne (Scalar.extui (Scalar.cmpf .ogt (k1_pay51 lanes k acc) (Scalar.ofBits .f32 0x00000000#32)) : BitVec 32) 0#32 = 1#1
  · have hs : nmsLoop D 256 init (k.val + 1) = k1_pay52 acc (rowOf D (256 + k.val)) := by
      rw [hacc]; exact if_pos (hacc ▸ h)
    sl_exec!
    sl_step
    isplitl [H4]
    · iexact H4
    ipureintro
    exact (congrArg (k1_pay52 acc) (readAt_row h4 D _ _ _ (off3_eq k) rfl)).trans hs.symm
  · have hs : nmsLoop D 256 init (k.val + 1) = acc := by
      rw [hacc]; exact if_neg (hacc ▸ h)
    sl_exec!
    sl_step
    isplitl [H4]
    · iexact H4
    ipureintro
    exact hs.symm

theorem off4_eq : ∀ k : Fin k1_t4_loop.trips, k1_off4 k 0 = 384 + k.val := by decide +kernel

theorem trip4 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v273 v280 v281 cst_109) (E : Set ℕ) (k : Fin k1_t4_loop.trips) (acc : FVec F S1x128 .f32) :
    (iprop((View.loc c.tc M4.view ↦[M4.view.set]{fullShare} h4.unread D) ∗ ⌜acc = nmsLoop D 384 init k.val⌝) : sProp 𝕄)
      ⊢ wp frame (wpE (defs₀ (F := F)) 𝒱₀ c none) E (k1_t4_body M0 h0 M1 h1 M2 h2 M3 h3 M4 h4 lanes v273 v280 v281 cst_109 k acc)
        (fun acc' => iprop((View.loc c.tc M4.view ↦[M4.view.set]{fullShare} h4.unread D) ∗ ⌜acc' = nmsLoop D 384 init (k.val + 1)⌝)) := by
  iintro ⟨H4, %hacc⟩
  sl_unfold [k1_t4_body]
  by_cases h : Scalar.cmpi .ne (Scalar.extui (Scalar.cmpf .ogt (k1_pay56 lanes k acc) (Scalar.ofBits .f32 0x00000000#32)) : BitVec 32) 0#32 = 1#1
  · have hs : nmsLoop D 384 init (k.val + 1) = k1_pay57 acc (rowOf D (384 + k.val)) := by
      rw [hacc]; exact if_pos (hacc ▸ h)
    sl_exec!
    sl_step
    isplitl [H4]
    · iexact H4
    ipureintro
    exact (congrArg (k1_pay57 acc) (readAt_row h4 D _ _ _ (off4_eq k) rfl)).trans hs.symm
  · have hs : nmsLoop D 384 init (k.val + 1) = acc := by
      rw [hacc]; exact if_neg (hacc ▸ h)
    sl_exec!
    sl_step
    isplitl [H4]
    · iexact H4
    ipureintro
    exact hs.symm

theorem off5_eq : ∀ k : Fin k1_t5_loop.trips, k1_off5 k 0 = 512 + k.val := by decide +kernel

theorem trip5 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v273 v280 v281 cst_109) (E : Set ℕ) (k : Fin k1_t5_loop.trips) (acc : FVec F S1x128 .f32) :
    (iprop((View.loc c.tc M4.view ↦[M4.view.set]{fullShare} h4.unread D) ∗ ⌜acc = nmsLoop D 512 init k.val⌝) : sProp 𝕄)
      ⊢ wp frame (wpE (defs₀ (F := F)) 𝒱₀ c none) E (k1_t5_body M0 h0 M1 h1 M2 h2 M3 h3 M4 h4 lanes v273 v280 v281 cst_109 k acc)
        (fun acc' => iprop((View.loc c.tc M4.view ↦[M4.view.set]{fullShare} h4.unread D) ∗ ⌜acc' = nmsLoop D 512 init (k.val + 1)⌝)) := by
  iintro ⟨H4, %hacc⟩
  sl_unfold [k1_t5_body]
  by_cases h : Scalar.cmpi .ne (Scalar.extui (Scalar.cmpf .ogt (k1_pay60 lanes k acc) (Scalar.ofBits .f32 0x00000000#32)) : BitVec 32) 0#32 = 1#1
  · have hs : nmsLoop D 512 init (k.val + 1) = k1_pay61 acc (rowOf D (512 + k.val)) := by
      rw [hacc]; exact if_pos (hacc ▸ h)
    sl_exec!
    sl_step
    isplitl [H4]
    · iexact H4
    ipureintro
    exact (congrArg (k1_pay61 acc) (readAt_row h4 D _ _ _ (off5_eq k) rfl)).trans hs.symm
  · have hs : nmsLoop D 512 init (k.val + 1) = acc := by
      rw [hacc]; exact if_neg (hacc ▸ h)
    sl_exec!
    sl_step
    isplitl [H4]
    · iexact H4
    ipureintro
    exact hs.symm

theorem off6_eq : ∀ k : Fin k1_t6_loop.trips, k1_off6 k 0 = 640 + k.val := by decide +kernel

theorem trip6 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v315 v317 v318) (E : Set ℕ) (k : Fin k1_t6_loop.trips) (acc : FVec F S1x128 .f32) :
    (iprop((View.loc c.tc M4.view ↦[M4.view.set]{fullShare} h4.unread D) ∗ ⌜acc = nmsLoop D 640 init k.val⌝) : sProp 𝕄)
      ⊢ wp frame (wpE (defs₀ (F := F)) 𝒱₀ c none) E (k1_t6_body M0 h0 M1 h1 M2 h2 M3 h3 M4 h4 lanes v315 v317 v318 k acc)
        (fun acc' => iprop((View.loc c.tc M4.view ↦[M4.view.set]{fullShare} h4.unread D) ∗ ⌜acc' = nmsLoop D 640 init (k.val + 1)⌝)) := by
  iintro ⟨H4, %hacc⟩
  sl_unfold [k1_t6_body]
  by_cases h : Scalar.cmpi .ne (Scalar.extui (Scalar.cmpf .ogt (k1_pay66 lanes k acc) (Scalar.ofBits .f32 0x00000000#32)) : BitVec 32) 0#32 = 1#1
  · have hs : nmsLoop D 640 init (k.val + 1) = k1_pay67 acc (rowOf D (640 + k.val)) := by
      rw [hacc]; exact if_pos (hacc ▸ h)
    sl_exec!
    sl_step
    isplitl [H4]
    · iexact H4
    ipureintro
    exact (congrArg (k1_pay67 acc) (readAt_row h4 D _ _ _ (off6_eq k) rfl)).trans hs.symm
  · have hs : nmsLoop D 640 init (k.val + 1) = acc := by
      rw [hacc]; exact if_neg (hacc ▸ h)
    sl_exec!
    sl_step
    isplitl [H4]
    · iexact H4
    ipureintro
    exact hs.symm

theorem off7_eq : ∀ k : Fin k1_t7_loop.trips, k1_off7 k 0 = 768 + k.val := by decide +kernel

theorem trip7 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v315 v317 v318) (E : Set ℕ) (k : Fin k1_t7_loop.trips) (acc : FVec F S1x128 .f32) :
    (iprop((View.loc c.tc M4.view ↦[M4.view.set]{fullShare} h4.unread D) ∗ ⌜acc = nmsLoop D 768 init k.val⌝) : sProp 𝕄)
      ⊢ wp frame (wpE (defs₀ (F := F)) 𝒱₀ c none) E (k1_t7_body M0 h0 M1 h1 M2 h2 M3 h3 M4 h4 lanes v315 v317 v318 k acc)
        (fun acc' => iprop((View.loc c.tc M4.view ↦[M4.view.set]{fullShare} h4.unread D) ∗ ⌜acc' = nmsLoop D 768 init (k.val + 1)⌝)) := by
  iintro ⟨H4, %hacc⟩
  sl_unfold [k1_t7_body]
  by_cases h : Scalar.cmpi .ne (Scalar.extui (Scalar.cmpf .ogt (k1_pay70 lanes k acc) (Scalar.ofBits .f32 0x00000000#32)) : BitVec 32) 0#32 = 1#1
  · have hs : nmsLoop D 768 init (k.val + 1) = k1_pay71 acc (rowOf D (768 + k.val)) := by
      rw [hacc]; exact if_pos (hacc ▸ h)
    sl_exec!
    sl_step
    isplitl [H4]
    · iexact H4
    ipureintro
    exact (congrArg (k1_pay71 acc) (readAt_row h4 D _ _ _ (off7_eq k) rfl)).trans hs.symm
  · have hs : nmsLoop D 768 init (k.val + 1) = acc := by
      rw [hacc]; exact if_neg (hacc ▸ h)
    sl_exec!
    sl_step
    isplitl [H4]
    · iexact H4
    ipureintro
    exact hs.symm

theorem off8_eq : ∀ k : Fin k1_t8_loop.trips, k1_off8 k 0 = 896 + k.val := by decide +kernel

theorem trip8 (c : Dev nD) {M0 : Memref sig .tc .vmem S2048x128 .f32} {h0 : M0.IsWhole}
    {M1 : Memref sig .tc .vmem S1x2048 .f32} {h1 : M1.IsWhole} {M2 : Memref sig .tc .vmem S384x128 .f32} {h2 : M2.IsWhole}
    {M3 : Memref sig .tc .vmem S1024x1024 .f32} {h3 : M3.IsWhole} {M4 : Memref sig .tc .vmem S1024x128 .f32} {h4 : M4.IsWhole}
    (D : Vec F S1024x128 .f32) (init : FVec F S1x128 .f32) (v131 v132 v336 v351 v352) (E : Set ℕ) (k : Fin k1_t8_loop.trips) (acc : FVec F S1x128 .f32) :
    (iprop((View.loc c.tc M4.view ↦[M4.view.set]{fullShare} h4.unread D) ∗ ⌜acc = nmsLoop D 896 init k.val⌝) : sProp 𝕄)
      ⊢ wp frame (wpE (defs₀ (F := F)) 𝒱₀ c none) E (k1_t8_body M0 h0 M1 h1 M2 h2 M3 h3 M4 h4 v131 v132 lanes v336 v351 v352 k acc)
        (fun acc' => iprop((View.loc c.tc M4.view ↦[M4.view.set]{fullShare} h4.unread D) ∗ ⌜acc' = nmsLoop D 896 init (k.val + 1)⌝)) := by
  iintro ⟨H4, %hacc⟩
  sl_unfold [k1_t8_body]
  by_cases h : Scalar.cmpi .ne (Scalar.extui (Scalar.cmpf .ogt (k1_pay75 lanes k acc) (Scalar.ofBits .f32 0x00000000#32)) : BitVec 32) 0#32 = 1#1
  · have hs : nmsLoop D 896 init (k.val + 1) = k1_pay76 acc (rowOf D (896 + k.val)) := by
      rw [hacc]; exact if_pos (hacc ▸ h)
    sl_exec!
    sl_step
    isplitl [H4]
    · iexact H4
    ipureintro
    exact (congrArg (k1_pay76 acc) (readAt_row h4 D _ _ _ (off8_eq k) rfl)).trans hs.symm
  · have hs : nmsLoop D 896 init (k.val + 1) = acc := by
      rw [hacc]; exact if_neg (hacc ▸ h)
    sl_exec!
    sl_step
    isplitl [H4]
    · iexact H4
    ipureintro
    exact hs.symm

end Cert.Proof
end
-- ==== Proof.ProposeTriple.lean ====
module

public import proofs.«01_k».proof.Proof.ProposeRun

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
local notation "𝕄" => MT nD τ sig Unit (Elt F) ℕ (UR sig nD τ) ℕ

/-- A load of 128 columns of the buffer of the suppression matrix. -/
theorem readAt_cols {M3 : Memref sig .tc .vmem S1024x1024 .f32} (h3 : M3.IsWhole) (M : Vec F S1024x1024 .f32) (b : ℕ) (off : Fin 2 → ℕ) (inb)
    (e0 : off 0 = 0) (e1 : off 1 = 128 * b) :
    M3.view.readAt (Elt F) (Rect.unit (s := S1024x1024) off S1024x128.size inb).toLoadRect (h3.unread M) = colBlk M b := by
  funext i
  refine (Memref.IsWhole.readAt_unread h3 M _ i).trans ?_
  have h0 : (i 0).val < 1024 := (i 0).isLt
  have h1 : (i 1).val < 128 := (i 1).isLt
  have hr : off 1 + 128 ≤ 1024 := inb 1
  show M _ = M _
  congr 1
  funext a
  apply Fin.ext
  match a with
  | ⟨0, _⟩ => show off 0 + 1 * (i 0).val = (i 0).val; omega
  | ⟨1, _⟩ => show off 1 + 1 * (i 1).val = (128 * b + (i 1).val) % 1024; omega

/-- The same load of what one whole store left. -/
theorem readCov_cols (M3 : Memref sig .tc .vmem S1024x1024 .f32) (M : Vec F S1024x1024 .f32) (b : ℕ) (off : Fin 2 → ℕ) (inb)
    (e0 : off 0 = 0) (e1 : off 1 = 128 * b) :
    M3.view.readCov [⟨Rect.unit ![0, 0] S1024x1024.size inb_S1024x1024_S1024x1024_0_0, M⟩]
      (Rect.unit (s := S1024x1024) off S1024x128.size inb).toLoadRect = colBlk M b := by
  rw [View.readCov_eq_canon', View.canon_cons_unit_lit _ _ _ (by decide)]
  funext i
  have h0 : (i 0).val < 1024 := (i 0).isLt
  have h1 : (i 1).val < 128 := (i 1).isLt
  have hr : off 1 + 128 ≤ 1024 := inb 1
  show M _ = M _
  congr 1
  funext a
  apply Fin.ext
  match a with
  | ⟨0, _⟩ => show off 0 + 1 * (i 0).val = (i 0).val; omega
  | ⟨1, _⟩ => show off 1 + 1 * (i 1).val = (128 * b + (i 1).val) % 1024; omega

set_option maxHeartbeats 1600000 in
/-- The propose body leaves `proposeVal` in its result's buffer. -/
theorem proposeRun (c : Dev nD) (M0 : Memref sig .tc .vmem S2048x128 .f32) (h0 : M0.IsWhole)
    (M1 : Memref sig .tc .vmem S1x2048 .f32) (h1 : M1.IsWhole) (M2 : Memref sig .tc .vmem S384x128 .f32) (h2 : M2.IsWhole)
    (M3 : Memref sig .tc .vmem S1024x1024 .f32) (h3 : M3.IsWhole) (M4 : Memref sig .tc .vmem S1024x128 .f32) (h4 : M4.IsWhole)
    (x0 : Vec F S2048x128 .f32) (x1 : Vec F S1x2048 .f32) (E : Set ℕ) (K : PUnit → sProp 𝕄) :
        iprop(owns (c : Thread nD τ) M0 fullShare x0 ∗ owns (c : Thread nD τ) M1 fullShare x1 ∗ (∃ d, owns (c : Thread nD τ) M2 fullShare d)
            ∗ (∃ d, owns (c : Thread nD τ) M3 fullShare d) ∗ (∃ d, owns (c : Thread nD τ) M4 fullShare d)
            ∗ (iprop(owns (c : Thread nD τ) M0 fullShare x0 ∗ owns (c : Thread nD τ) M1 fullShare x1 ∗ owns (c : Thread nD τ) M2 fullShare (proposeVal x0 x1)
            ∗ (∃ d, owns (c : Thread nD τ) M3 fullShare d) ∗ (∃ d, owns (c : Thread nD τ) M4 fullShare d)) -∗ K ⟨⟩))
          ⊢ wp frame (wpE (defs₀ (F := F)) 𝒱₀ c none) E (cc1__propose_body M0 h0 M1 h1 M2 h2 M3 h3 M4 h4) K := by
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := h0.eq_unread hf0; obtain rfl := h1.eq_unread hf1
  sl_unfold [cc1__propose_body]
  sl_exec!
  have q0 : M0.view.readAt (Elt F) (Rect.unit ![0, 0] S2048x128.size inb_S2048x128_S2048x128_0_0).toLoadRect (h0.unread x0) = x0 := by
    rw [View.readAt_full, h0.read_unread]
  have q1 : M1.view.readAt (Elt F) (Rect.unit ![0, 0] S1x2048.size inb_S1x2048_S1x2048_0_0).toLoadRect (h1.unread x1) = x1 := by
    rw [View.readAt_full, h1.read_unread]
  have eH : proposeRun.sl.H3_1 c M0 h0 M1 h1 x0 x1
      = [⟨Rect.unit ![0, 0] S1024x1024.size inb_S1024x1024_S1024x1024_0_0, overMat x0 x1⟩] := by
    unfold overMat colY1 colX2 colY2 colScore colArea colX1
    sl_unfold_words
    rw [q0, q1]
  have eD : proposeRun.sl.r_16 c M0 h0 M1 h1 x0 x1 = detMat x0 x1 := by
    have e10 : proposeRun.sl.r_10 c M0 h0 M1 h1 x0 x1 = colY1 x0 x1 := by
      sl_unfold_words; rw [q0, q1]; rfl
    have e11 : proposeRun.sl.r_11 c M0 h0 M1 h1 x0 x1 = colX2 x0 x1 := by
      sl_unfold_words; rw [q0, q1]; rfl
    have e12 : proposeRun.sl.r_12 c M0 h0 M1 h1 x0 x1 = colY2 x0 x1 := by
      sl_unfold_words; rw [q0, q1]; rfl
    have e13 : proposeRun.sl.r_13 c M0 h0 M1 h1 x0 x1 = colScore x0 x1 := by
      sl_unfold_words; rw [q0, q1]; rfl
    have e14 : proposeRun.sl.r_14 c M0 h0 M1 h1 x0 x1 = colArea x0 x1 := by
      sl_unfold_words; rw [q0, q1]; rfl
    have e15 : proposeRun.sl.r_15 c M0 h0 M1 h1 x0 x1 = colX1 x0 x1 := by
      sl_unfold_words; rw [q0, q1]; rfl
    unfold proposeRun.sl.r_16
    rw [e10, e11, e12, e13, e14, e15]
    rfl
  have e3 : M3.view.writes (Elt F) M3.view.junk (proposeRun.sl.H3_1 c M0 h0 M1 h1 x0 x1) = h3.unread (overMat x0 x1) := by
    refine h3.eq_unread ?_
    rw [eH]
    exact View.read_writes_full _ _ _ _ _
  have e4 : M4.view.writes (Elt F) M4.view.junk (proposeRun.sl.H4_8 c M0 h0 M1 h1 M3 x0 x1) = h4.unread (diagOf (overMat x0 x1)) := by
    refine h4.eq_unread ?_
    unfold proposeRun.sl.H4_8 proposeRun.sl.v209 proposeRun.sl.v208 proposeRun.sl.v204 proposeRun.sl.v200 proposeRun.sl.v196 proposeRun.sl.v192 proposeRun.sl.v188 proposeRun.sl.v181
    unfold proposeRun.sl.v205 proposeRun.sl.v201 proposeRun.sl.v197 proposeRun.sl.v193 proposeRun.sl.v189 proposeRun.sl.v185
    rw [eH]
    exact read_diag M3 M4 _ _
  have e5 : proposeRun.sl.v220 c M0 h0 M1 h1 M3 x0 x1 = colBlk (overMat x0 x1) 0 := by
    unfold proposeRun.sl.v220
    rw [eH]
    exact readCov_cols M3 _ 0 _ _ rfl rfl
  rw [e3, e4, e5]
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 0 (k1_pay42 lanes k1_pay33 (colBlk (overMat x0 x1) 0)) k⌝) : sProp 𝕄)) $$ [H4]
  · intro k acc; exact trip1 c _ _ _ _ _ k acc
  · isplitl [H4]
    · iexact H4
    ipureintro; rfl
  iintro %acc1 ⟨H4, %hacc1⟩
  have hacc1' : acc1 = blk1 (overMat x0 x1) := hacc1
  subst hacc1'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 128 ((k1_pay46 lanes k1_pay33 (blk1 (overMat x0 x1))) (colBlk (overMat x0 x1) 1)) k⌝) : sProp 𝕄)) $$ [H4]
  · intro k acc; exact trip2 c _ _ _ _ _ k acc
  · isplitl [H4]
    · iexact H4
    ipureintro
    exact congrArg (k1_pay46 lanes k1_pay33 (blk1 (overMat x0 x1))) (readAt_cols h3 (overMat x0 x1) 1 _ _ rfl rfl)
  iintro %acc2 ⟨H4, %hacc2⟩
  have hacc2' : acc2 = blk2 (overMat x0 x1) := hacc2
  subst hacc2'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 256 ((k1_pay50 lanes (keep1 (overMat x0 x1)) (blk2 (overMat x0 x1))) (colBlk (overMat x0 x1) 2)) k⌝) : sProp 𝕄)) $$ [H4]
  · intro k acc; exact trip3 c _ _ _ _ _ k acc
  · isplitl [H4]
    · iexact H4
    ipureintro
    exact congrArg (k1_pay50 lanes (keep1 (overMat x0 x1)) (blk2 (overMat x0 x1))) (readAt_cols h3 (overMat x0 x1) 2 _ _ rfl rfl)
  iintro %acc3 ⟨H4, %hacc3⟩
  have hacc3' : acc3 = blk3 (overMat x0 x1) := hacc3
  subst hacc3'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 384 ((fun w => k1_pay55 (keep3 (overMat x0 x1)) (k1_pay54 lanes) w (constant S1x128 .f32 0x00000000#32)) (colBlk (overMat x0 x1) 3)) k⌝) : sProp 𝕄)) $$ [H4]
  · intro k acc; exact trip4 c _ _ _ _ _ _ _ k acc
  · isplitl [H4]
    · iexact H4
    ipureintro
    exact congrArg (fun w => k1_pay55 (keep3 (overMat x0 x1)) (k1_pay54 lanes) w (constant S1x128 .f32 0x00000000#32)) (readAt_cols h3 (overMat x0 x1) 3 _ _ rfl rfl)
  iintro %acc4 ⟨H4, %hacc4⟩
  have hacc4' : acc4 = blk4 (overMat x0 x1) := hacc4
  subst hacc4'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 512 ((k1_pay59 lanes (keep3 (overMat x0 x1)) (blk4 (overMat x0 x1))) (colBlk (overMat x0 x1) 4)) k⌝) : sProp 𝕄)) $$ [H4]
  · intro k acc; exact trip5 c _ _ _ _ _ _ _ k acc
  · isplitl [H4]
    · iexact H4
    ipureintro
    exact congrArg (k1_pay59 lanes (keep3 (overMat x0 x1)) (blk4 (overMat x0 x1))) (readAt_cols h3 (overMat x0 x1) 4 _ _ rfl rfl)
  iintro %acc5 ⟨H4, %hacc5⟩
  have hacc5' : acc5 = blk5 (overMat x0 x1) := hacc5
  subst hacc5'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 640 ((k1_pay65 (keep5 (overMat x0 x1)) (k1_pay63 lanes) k1_pay64) (colBlk (overMat x0 x1) 5)) k⌝) : sProp 𝕄)) $$ [H4]
  · intro k acc; exact trip6 c _ _ _ _ _ _ k acc
  · isplitl [H4]
    · iexact H4
    ipureintro
    exact congrArg (k1_pay65 (keep5 (overMat x0 x1)) (k1_pay63 lanes) k1_pay64) (readAt_cols h3 (overMat x0 x1) 5 _ _ rfl rfl)
  iintro %acc6 ⟨H4, %hacc6⟩
  have hacc6' : acc6 = blk6 (overMat x0 x1) := hacc6
  subst hacc6'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 768 ((k1_pay69 lanes (keep5 (overMat x0 x1)) (blk6 (overMat x0 x1))) (colBlk (overMat x0 x1) 6)) k⌝) : sProp 𝕄)) $$ [H4]
  · intro k acc; exact trip7 c _ _ _ _ _ _ k acc
  · isplitl [H4]
    · iexact H4
    ipureintro
    exact congrArg (k1_pay69 lanes (keep5 (overMat x0 x1)) (blk6 (overMat x0 x1))) (readAt_cols h3 (overMat x0 x1) 6 _ _ rfl rfl)
  iintro %acc7 ⟨H4, %hacc7⟩
  have hacc7' : acc7 = blk7 (overMat x0 x1) := hacc7
  subst hacc7'
  sl_exec!
  sl_for (fun (k : ℕ) (acc : FVec F S1x128 .f32) => (iprop((View.loc c.tc M4.view ↦[M4.view.set]{fullShare} h4.unread (diagOf (overMat x0 x1)))
      ∗ ⌜acc = nmsLoop (diagOf (overMat x0 x1)) 896 ((k1_pay74 lanes (keep6 (overMat x0 x1)) (blk7 (overMat x0 x1)) k1_pay72) (colBlk (overMat x0 x1) 7)) k⌝) : sProp 𝕄)) $$ [H4]
  · intro k acc; exact trip8 c _ _ _ _ _ _ _ _ k acc
  · isplitl [H4]
    · iexact H4
    ipureintro
    exact congrArg (k1_pay74 lanes (keep6 (overMat x0 x1)) (blk7 (overMat x0 x1)) k1_pay72) (readAt_cols h3 (overMat x0 x1) 7 _ _ rfl rfl)
  iintro %acc8 ⟨H4, %hacc8⟩
  have hacc8' : acc8 = blk8 (overMat x0 x1) := hacc8
  subst hacc8'
  sl_exec!
  sl_step
  have e2 : M2.view.read (Elt F) (M2.view.writes (Elt F) M2.view.junk (proposeRun.sl.H2_1 c M0 h0 M1 h1 x0 x1)) = proposeVal x0 x1 := by
    unfold proposeRun.sl.H2_1
    refine (View.read_writes_full _ _ _ _ _).trans ?_
    rw [eD]
    unfold proposeVal keep6 keep5 keep3 keep1
    sl_unfold_words
    with_reducible rfl
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact e2
    iexact H2
  isplitl [H3]
  · iexists (overMat x0 x1), (h3.unread (overMat x0 x1)); isplitr; · ipureintro; exact h3.read_unread _
    iexact H3
  iexists (diagOf (overMat x0 x1)), (h4.unread (diagOf (overMat x0 x1))); isplitr; · ipureintro; exact h4.read_unread _
  iexact H4

end Cert.Proof
end
-- ==== Proof.LaunchRun.lean ====
module

public import proofs.«01_k».proof.Proof.ConvRun
public import proofs.«01_k».proof.Proof.ProposeTriple
public import Idealize.ShloMosaic.Lib.Pipeline.RegionArrays

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg HostSeg LevelCut)

variable {F : FTy → Type} [FloatOps F]

/-- The resource algebra of the launch. -/
local notation "𝕄" => MT nD τ sig Unit (Elt F) ℕ (UR sig nD τ) ℕ

variable (m : (ℓ : Loc nD τ sig) → Buf (Elt F) ℓ)

/-! ## What the two calls leave -/

/-- What the first call leaves in its result, of the buffers it is entered with. -/
def convOut (c : Dev nD) : Buf (Elt F) ((c : Thread nD τ).loc main_v20) :=
  convVal (V3 m c main_v7) (V3 m c main_v9) (V3 m c main_v10) (V3 m c main_v16) (V3 m c main_v19)

/-- The contents the regions leave, the second call's still as launched. -/
def outs₀ : Outs (F := F) := fun _ =>
  Function.update (fun (r : Ref sig .tc) (c : Dev nD) => m ((c : Thread nD τ).loc r)) main_v20 (fun c => convOut m c)

/-- What the second call leaves in its result, of the buffers it is entered with. -/
def propOut (c : Dev nD) : Buf (Elt F) ((c : Thread nD τ).loc main_v83) :=
  proposeVal (V13 m (outs₀ m) c main_v81) (V13 m (outs₀ m) c main_v82)

/-- The contents the regions leave. -/
def outs : Outs (F := F) := fun k =>
  Function.update (outs₀ m k) main_v83 (fun c => propOut m c)

theorem outs_v20 (c : Dev nD) : outs m 4 main_v20 c = convOut m c := by
  unfold outs outs₀
  rw [Function.update_of_ne (by decide), Function.update_self]

theorem outs₀_v20 (c : Dev nD) : outs₀ m 4 main_v20 c = convOut m c := by
  unfold outs₀
  rw [Function.update_self]

theorem outs_v83 (c : Dev nD) : outs m 14 main_v83 c = propOut m c := by
  unfold outs
  rw [Function.update_self]

theorem V4_eq (c : Dev nD) : V4 m (outs m) c = V4 m (outs₀ m) c := by
  unfold V4; rw [outs_v20, outs₀_v20]

theorem V13_eq (c : Dev nD) : V13 m (outs m) c = V13 m (outs₀ m) c := by
  unfold V13 V12 V11 V10 V9 V8 V7 V6 V5; rw [V4_eq]

/-! ## The two pipelines' data -/

/-- The first call's data on core `c`. -/
def dat0 (c : Dev nD) : Dat τ (Elt F) Unit ℕ (UR sig nD τ) ℕ cfg0 c where
  A w := V3 m c (Proc.devRef .tc (Pipeline.arrRef spec0 w))
  after w _ := match w with
    | ⟨0, _⟩ => (V3 m c main_v7 : Vec F S320x768 .f32)
    | ⟨1, _⟩ => (V3 m c main_v9 : Vec F S6912x768 .f32)
    | ⟨2, _⟩ => (V3 m c main_v10 : Vec F S1x768 .f32)
    | ⟨3, _⟩ => (V3 m c main_v16 : Vec F S768x128 .f32)
    | ⟨4, _⟩ => (V3 m c main_v19 : Vec F S1x128 .f32)
    | ⟨5, _⟩ => (convOut m c : Vec F S256x128 .f32)
  Φ _ := Pipeline.scopedRest (Ix := Unit) (Name := ℕ) (U := UR sig nD τ) (Lvl := ℕ) (Val := Elt F) spec0 c
  q _ := fullShare
  owed _ := 0

/-- The second call's data on core `c`. -/
def dat1 (c : Dev nD) : Dat τ (Elt F) Unit ℕ (UR sig nD τ) ℕ cfg1 c where
  A w := V13 m (outs m) c (Proc.devRef .tc (Pipeline.arrRef spec1 w))
  after w _ := match w with
    | ⟨0, _⟩ => (V13 m (outs m) c main_v81 : Vec F S2048x128 .f32)
    | ⟨1, _⟩ => (V13 m (outs m) c main_v82 : Vec F S1x2048 .f32)
    | ⟨2, _⟩ => (propOut m c : Vec F S384x128 .f32)
  Φ _ := Pipeline.scopedRest (Ix := Unit) (Name := ℕ) (U := UR sig nD τ) (Lvl := ℕ) (Val := Elt F) spec1 c
  q _ := fullShare
  owed _ := 0

/-- The two pipelines' data. -/
def pdats : (p : Fin 2) → (c : Dev nD) → Dat τ (Elt F) Unit ℕ (UR sig nD τ) ℕ (cfgs p) c
  | 0 => dat0 m
  | 1 => dat1 m

/-- A rectangle of stride one at the origin has each index at itself. -/
theorem emb_origin {s : Shape} (r : Rect s) (hoff : ∀ a, r.off a = 0) (hstr : ∀ a, r.stride a = 1) (y : r.shape.Idx) (a : Fin s.rank) :
    (r.emb y a : ℕ) = y a := by
  rw [Rect.emb_apply, hoff, hstr, Nat.zero_add, Nat.one_mul]

theorem before0_0 (c : Dev nD) (t : Fin cfg0.N) (d) : (dat0 m c).before 0 t d = (V3 m c main_v7 : Vec F S320x768 .f32) := by
  obtain rfl := fin_N0 t
  rw [Dat.before_fetched _ _ _ (fetch0_0 _)]
  unfold Dat.fetched Dat.blockOf; dsimp only [dat0]
  funext y
  exact congrArg (V3 m c (Proc.devRef .tc main_v7)) (funext fun a => Fin.ext
    (emb_origin ((win0 0).rect t0_0) (by decide +kernel) (fun _ => rfl) y a))

theorem before0_1 (c : Dev nD) (t : Fin cfg0.N) (d) : (dat0 m c).before 1 t d = (V3 m c main_v9 : Vec F S6912x768 .f32) := by
  obtain rfl := fin_N0 t
  rw [Dat.before_fetched _ _ _ (fetch0_1 _)]
  unfold Dat.fetched Dat.blockOf; dsimp only [dat0]
  funext y
  exact congrArg (V3 m c (Proc.devRef .tc main_v9)) (funext fun a => Fin.ext
    (emb_origin ((win0 1).rect t0_0) (by decide +kernel) (fun _ => rfl) y a))

theorem before0_2 (c : Dev nD) (t : Fin cfg0.N) (d) : (dat0 m c).before 2 t d = (V3 m c main_v10 : Vec F S1x768 .f32) := by
  obtain rfl := fin_N0 t
  rw [Dat.before_fetched _ _ _ (fetch0_2 _)]
  unfold Dat.fetched Dat.blockOf; dsimp only [dat0]
  funext y
  exact congrArg (V3 m c (Proc.devRef .tc main_v10)) (funext fun a => Fin.ext
    (emb_origin ((win0 2).rect t0_0) (by decide +kernel) (fun _ => rfl) y a))

theorem before0_3 (c : Dev nD) (t : Fin cfg0.N) (d) : (dat0 m c).before 3 t d = (V3 m c main_v16 : Vec F S768x128 .f32) := by
  obtain rfl := fin_N0 t
  rw [Dat.before_fetched _ _ _ (fetch0_3 _)]
  unfold Dat.fetched Dat.blockOf; dsimp only [dat0]
  funext y
  exact congrArg (V3 m c (Proc.devRef .tc main_v16)) (funext fun a => Fin.ext
    (emb_origin ((win0 3).rect t0_0) (by decide +kernel) (fun _ => rfl) y a))

theorem before0_4 (c : Dev nD) (t : Fin cfg0.N) (d) : (dat0 m c).before 4 t d = (V3 m c main_v19 : Vec F S1x128 .f32) := by
  obtain rfl := fin_N0 t
  rw [Dat.before_fetched _ _ _ (fetch0_4 _)]
  unfold Dat.fetched Dat.blockOf; dsimp only [dat0]
  funext y
  exact congrArg (V3 m c (Proc.devRef .tc main_v19)) (funext fun a => Fin.ext
    (emb_origin ((win0 4).rect t0_0) (by decide +kernel) (fun _ => rfl) y a))

theorem after0_0 (c : Dev nD) (t : Fin cfg0.N) : (dat0 m c).after 0 t = (V3 m c main_v7 : Vec F S320x768 .f32) := by dsimp only [dat0]
theorem after0_1 (c : Dev nD) (t : Fin cfg0.N) : (dat0 m c).after 1 t = (V3 m c main_v9 : Vec F S6912x768 .f32) := by dsimp only [dat0]
theorem after0_2 (c : Dev nD) (t : Fin cfg0.N) : (dat0 m c).after 2 t = (V3 m c main_v10 : Vec F S1x768 .f32) := by dsimp only [dat0]
theorem after0_3 (c : Dev nD) (t : Fin cfg0.N) : (dat0 m c).after 3 t = (V3 m c main_v16 : Vec F S768x128 .f32) := by dsimp only [dat0]
theorem after0_4 (c : Dev nD) (t : Fin cfg0.N) : (dat0 m c).after 4 t = (V3 m c main_v19 : Vec F S1x128 .f32) := by dsimp only [dat0]
theorem before1_0 (c : Dev nD) (t : Fin cfg1.N) (d) : (dat1 m c).before 0 t d = (V13 m (outs m) c main_v81 : Vec F S2048x128 .f32) := by
  obtain rfl := fin_N1 t
  rw [Dat.before_fetched _ _ _ (fetch1_0 _)]
  unfold Dat.fetched Dat.blockOf; dsimp only [dat1]
  funext y
  exact congrArg (V13 m (outs m) c (Proc.devRef .tc main_v81)) (funext fun a => Fin.ext
    (emb_origin ((win1 0).rect t1_0) (by decide +kernel) (fun _ => rfl) y a))

theorem before1_1 (c : Dev nD) (t : Fin cfg1.N) (d) : (dat1 m c).before 1 t d = (V13 m (outs m) c main_v82 : Vec F S1x2048 .f32) := by
  obtain rfl := fin_N1 t
  rw [Dat.before_fetched _ _ _ (fetch1_1 _)]
  unfold Dat.fetched Dat.blockOf; dsimp only [dat1]
  funext y
  exact congrArg (V13 m (outs m) c (Proc.devRef .tc main_v82)) (funext fun a => Fin.ext
    (emb_origin ((win1 1).rect t1_0) (by decide +kernel) (fun _ => rfl) y a))

theorem after1_0 (c : Dev nD) (t : Fin cfg1.N) : (dat1 m c).after 0 t = (V13 m (outs m) c main_v81 : Vec F S2048x128 .f32) := by dsimp only [dat1]
theorem after1_1 (c : Dev nD) (t : Fin cfg1.N) : (dat1 m c).after 1 t = (V13 m (outs m) c main_v82 : Vec F S1x2048 .f32) := by dsimp only [dat1]
theorem after0_5 (c : Dev nD) (t : Fin cfg0.N) : (dat0 m c).after 5 t = (convOut m c : Vec F S256x128 .f32) := by dsimp only [dat0]
theorem after1_2 (c : Dev nD) (t : Fin cfg1.N) : (dat1 m c).after 2 t = (propOut m c : Vec F S384x128 .f32) := by dsimp only [dat1]

/-- The first body, at its one point, does what its data say. -/
theorem body0 (c : Dev nD) : BodyObligation (dat0 (F := F) m c) (defs₀ (F := F)) 𝒱₀ () Set.univ := fun t => by
  rw [bigSep_W0, bigSep_W0]
  sl_whnfR [defs₀, Defs.onTc]
  simp only [before0_0, before0_1, before0_2, before0_3, before0_4]
  rw [show (dat0 m c).Φ t.succ = (dat0 m c).Φ t.castSucc from rfl,
    show (dat0 m c).owesAt () t.succ = (dat0 m c).owesAt () t.castSucc from rfl, after0_0, after0_1, after0_2, after0_3, after0_4, after0_5]
  unfold convOut
  iintro ⟨HΦ, Ho, ⟨%d0, H0⟩, ⟨%d1, H1⟩, ⟨%d2, H2⟩, ⟨%d3, H3⟩, ⟨%d4, H4⟩, ⟨%d5, H5⟩⟩
  iapply (convRun c _ _ _ _ _ _ _ _ _ _ _ _ (V3 m c main_v7) (V3 m c main_v9) (V3 m c main_v10) (V3 m c main_v16) (V3 m c main_v19) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The second body, at its one point, does what its data say. -/
theorem body1 (c : Dev nD) : BodyObligation (dat1 (F := F) m c) (defs₀ (F := F)) 𝒱₀ () Set.univ := fun t => by
  rw [bigSep_W1, bigSep_W1]
  sl_whnfR [defs₀, Defs.onTc]
  simp only [before1_0, before1_1]
  rw [show (dat1 m c).owesAt () t.succ = (dat1 m c).owesAt () t.castSucc from rfl, after1_0, after1_1, after1_2,
    show (dat1 m c).Φ t.succ = Pipeline.scopedRest spec1 c from rfl, show (dat1 m c).Φ t.castSucc = Pipeline.scopedRest spec1 c from rfl,
    scopedRest1_eq]
  unfold propOut
  rw [← V13_eq]
  iintro ⟨⟨G0, G1, G2, G3, G4, G5, ⟨%g6, G6⟩, ⟨%g7, G7⟩⟩, Ho, ⟨%d0, H0⟩, ⟨%d1, H1⟩, ⟨%d2, H2⟩⟩
  iapply (proposeRun c _ _ _ _ _ _ (Memref.whole cc1_scratch0) (Memref.isWhole_whole _) (Memref.whole cc1_scratch1) (Memref.isWhole_whole _)
    (V13 m (outs m) c main_v81) (V13 m (outs m) c main_v82) Set.univ _)
  simp only [owns_whole_eq]
  isplitl [H0]; · iexact H0
  isplitl [H1]; · iexact H1
  isplitl [H2]; · iexists _; iexact H2
  isplitl [G6]
  · iexists g6; iexists g6
    isplitr
    · ipureintro; rfl
    iexact G6
  isplitl [G7]
  · iexists g7; iexists g7
    isplitr
    · ipureintro; rfl
    iexact G7
  iintro ⟨H0, H1, H2, ⟨%e3, %g3, -, G6⟩, ⟨%e4, %g4, -, G7⟩⟩
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexists _; iexact G6
    iexists _; iexact G7
  isplitl [Ho]; · iexact Ho
  isplitl [H0]; · iexact H0
  isplitl [H1]; · iexact H1
  iexact H2

end Cert.Proof
end
-- ==== Proof.RunMain.lean ====
module

public import proofs.«01_k».proof.Proof.LaunchRun

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg HostSeg LevelCut)

variable {F : FTy → Type} [FloatOps F]

/-- The resource algebra of the launch. -/
local notation "𝕄" => MT nD τ sig Unit (Elt F) ℕ (UR sig nD τ) ℕ

variable (m : (ℓ : Loc nD τ sig) → Buf (Elt F) ℓ)

/-! ## The arrays after each call -/

theorem arrAt0_5 (c : Dev nD) : (dat0 m c).arrAt 5 cfg0.N = convOut m c :=
  (dat0 m c).arrAt_eq_of_after_last 5 t0_0 (by decide +kernel) _ (fun j => by rw [after0_5]; rfl)

theorem arrAt1_2 (c : Dev nD) : (dat1 m c).arrAt 2 cfg1.N = propOut m c :=
  (dat1 m c).arrAt_eq_of_after_last 2 t1_0 (by decide +kernel) _ (fun j => by rw [after1_2]; rfl)

theorem V4_of_ne (c : Dev nD) (b : DevRef τ sig) (hb : b ≠ Proc.devRef .tc main_v20) : V4 m (outs m) c b = V3 m c b := by
  unfold V4; exact Function.update_of_ne hb _ _

theorem V4_v20 (c : Dev nD) : V4 m (outs m) c (Proc.devRef .tc main_v20) = convOut m c := by
  unfold V4; rw [Function.update_self, outs_v20]

theorem V14_of_ne (c : Dev nD) (b : DevRef τ sig) (hb : b ≠ Proc.devRef .tc main_v83) : V14 m (outs m) c b = V13 m (outs m) c b := by
  unfold V14; exact Function.update_of_ne hb _ _

theorem V14_v83 (c : Dev nD) : V14 m (outs m) c (Proc.devRef .tc main_v83) = propOut m c := by
  unfold V14; rw [Function.update_self, outs_v83]

/-- A property of six windows, window by window. -/
theorem forall_six {P : Fin 6 → Prop} (h0 : P 0) (h1 : P 1) (h2 : P 2) (h3 : P 3) (h4 : P 4) (h5 : P 5) : ∀ w, P w
  | 0 => h0 | 1 => h1 | 2 => h2 | 3 => h3 | 4 => h4 | 5 => h5

theorem exit0_0 (c : Dev nD) : (dat0 m c).arrAt 0 cfg0.N = V4 m (outs m) c (Proc.devRef .tc main_v7) :=
  ((dat0 m c).arrAt_in 0 rfl _).trans (V4_of_ne m c (Proc.devRef .tc main_v7) (by decide)).symm
theorem exit0_1 (c : Dev nD) : (dat0 m c).arrAt 1 cfg0.N = V4 m (outs m) c (Proc.devRef .tc main_v9) :=
  ((dat0 m c).arrAt_in 1 rfl _).trans (V4_of_ne m c (Proc.devRef .tc main_v9) (by decide)).symm
theorem exit0_2 (c : Dev nD) : (dat0 m c).arrAt 2 cfg0.N = V4 m (outs m) c (Proc.devRef .tc main_v10) :=
  ((dat0 m c).arrAt_in 2 rfl _).trans (V4_of_ne m c (Proc.devRef .tc main_v10) (by decide)).symm
theorem exit0_3 (c : Dev nD) : (dat0 m c).arrAt 3 cfg0.N = V4 m (outs m) c (Proc.devRef .tc main_v16) :=
  ((dat0 m c).arrAt_in 3 rfl _).trans (V4_of_ne m c (Proc.devRef .tc main_v16) (by decide)).symm
theorem exit0_4 (c : Dev nD) : (dat0 m c).arrAt 4 cfg0.N = V4 m (outs m) c (Proc.devRef .tc main_v19) :=
  ((dat0 m c).arrAt_in 4 rfl _).trans (V4_of_ne m c (Proc.devRef .tc main_v19) (by decide)).symm
theorem exit0 (c : Dev nD) : ∀ w : Fin cfg0.W, (dat0 m c).arrAt w cfg0.N = V4 m (outs m) c (Proc.devRef .tc (Pipeline.arrRef spec0 w)) :=
  forall_six (P := fun w : Fin 6 => (dat0 m c).arrAt w cfg0.N = V4 m (outs m) c (Proc.devRef .tc (Pipeline.arrRef spec0 w)))
    (exit0_0 m c) (exit0_1 m c) (exit0_2 m c) (exit0_3 m c) (exit0_4 m c) ((arrAt0_5 m c).trans (V4_v20 m c).symm)

theorem exit1 (c : Dev nD) : ∀ w : Fin cfg1.W, (dat1 m c).arrAt w cfg1.N = V14 m (outs m) c (Proc.devRef .tc (Pipeline.arrRef spec1 w))
  | ⟨0, _⟩ => ((dat1 m c).arrAt_in 0 rfl _).trans (V14_of_ne m c (Proc.devRef .tc main_v81) (by decide)).symm
  | ⟨1, _⟩ => ((dat1 m c).arrAt_in 1 rfl _).trans (V14_of_ne m c (Proc.devRef .tc main_v82) (by decide)).symm
  | ⟨2, _⟩ => (arrAt1_2 m c).trans (V14_v83 m c).symm

/-! ## The regions -/

/-- The index of every staging wait is assigned on the TensorCores. -/
abbrev L : GSem nD τ sig → Finset Unit := fun g => if g.1.2 = .tc then Finset.univ else ∅
abbrev lv : GSem nD τ sig → Unit → ℕ := fun _ _ => 0

/-- What rides beside the buffers: the core owes nothing. -/
abbrev Ev (c : Dev nD) : sProp 𝕄 := iprop(∃ W, owes (c : Thread nD τ) (0 : CellTallies nD τ sig Unit) W)

theorem cut (p : Fin 2) : LevelCut (pcfgs (F := F)) adm () L lv p (fun _ => (0 : CellTallies nD τ sig Unit)) (fun _ => 0) where
  hι c w s := by rw [show L ((c : Thread nD τ), _) = Finset.univ from if_pos rfl]; exact Finset.mem_univ _
  hιb c w s := Nat.le_refl _
  hD c g i h := absurd h (Nat.lt_irrefl 0)

set_option backward.isDefEq.respectTransparency.types false in
/-- The first call's region. -/
def reg0 : RegionSeg (pcfgs (F := F)) adm (pdats m) () defs₀ 𝒱₀ L lv 0 :=
  RegionSeg.ofHeld (pcfgs (F := F)) adm (pdats m) () defs₀ 𝒱₀ L lv 0 (fun _ => 0) (fun _ => iprop(emp)) (fun _ => iprop(emp))
    (launch0.toP) rfl (fun c => (body0 m c).loose) (fun _ _ => rfl) (fun _ => rfl) (fun c => (dat0 m c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]; · iexact H
      iempintro)
    (fun _ => 0) (cut 0) (fun c => StableHlo.held (c : Thread nD τ) (Pipeline.ucRefs τ sig \ Pipeline.arrRefs spec0) (V3 m c))
    (fun c => V3 m c) (fun c => V4 m (outs m) c) (fun _ _ => rfl) (fun c w => exit0 m c w)

set_option backward.isDefEq.respectTransparency.types false in
/-- The second call's region. -/
def reg1 : RegionSeg (pcfgs (F := F)) adm (pdats m) () defs₀ 𝒱₀ L lv 1 :=
  RegionSeg.ofHeld (pcfgs (F := F)) adm (pdats m) () defs₀ 𝒱₀ L lv 1 (fun _ => 0) (fun _ => iprop(emp)) (fun _ => iprop(emp))
    (launch1.toP) rfl (fun c => (body1 m c).loose) (fun _ _ => rfl) (fun _ => rfl) (fun c => (dat1 m c).share_full fun _ => rfl)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H
      isplitl [H]; · iexact H
      iempintro)
    (fun _ => 0) (cut 1) (fun c => StableHlo.held (c : Thread nD τ) (Pipeline.ucRefs τ sig \ Pipeline.arrRefs spec1) (V13 m (outs m) c))
    (fun c => V13 m (outs m) c) (fun c => V14 m (outs m) c) (fun _ _ => rfl) (fun c w => exit1 m c w)

theorem arrs0_sub : Pipeline.arrRefs (τ := τ) spec0 ⊆ Pipeline.ucRefs τ sig := Pipeline.arrRefs_sub_ucRefs spec0 (by decide)
theorem arrs1_sub : Pipeline.arrRefs (τ := τ) spec1 ⊆ Pipeline.ucRefs τ sig := Pipeline.arrRefs_sub_ucRefs spec1 (by decide)

theorem v20_mem : Proc.devRef .tc main_v20 ∈ Pipeline.arrRefs (τ := τ) spec0 := by
  unfold Pipeline.arrRefs
  exact Finset.mem_map.mpr ⟨main_v20, Finset.mem_image.mpr ⟨5, Finset.mem_univ _, rfl⟩, rfl⟩
theorem v83_mem : Proc.devRef .tc main_v83 ∈ Pipeline.arrRefs (τ := τ) spec1 := by
  unfold Pipeline.arrRefs
  exact Finset.mem_map.mpr ⟨main_v83, Finset.mem_image.mpr ⟨2, Finset.mem_univ _, rfl⟩, rfl⟩

theorem pre0 (c : Dev nD) : iprop(StableHlo.held (c : Thread nD τ) (Pipeline.ucRefs τ sig) (V3 m c) ∗ Ev c) ⊢ (reg0 m).pre c := by
  rw [show (reg0 m).pre c = iprop(StableHlo.held (c.tc : Thread nD τ) (Pipeline.arrRefs spec0) (V3 m c) ∗ iprop(emp)
    ∗ StableHlo.held (c : Thread nD τ) (Pipeline.ucRefs τ sig \ Pipeline.arrRefs spec0) (V3 m c)
    ∗ ∃ Wd, owes (c : Thread nD τ) (0 : CellTallies nD τ sig Unit) Wd) from rfl,
    StableHlo.held_sub_split _ arrs0_sub]
  iintro ⟨⟨Ha, Hr⟩, HE⟩
  isplitl [Ha]; · iexact Ha
  isplitr; · iempintro
  isplitl [Hr]; · iexact Hr
  iexact HE

theorem post0 (c : Dev nD) : (reg0 m).post c ⊢ iprop(StableHlo.held (c : Thread nD τ) (Pipeline.ucRefs τ sig) (V4 m (outs m) c) ∗ Ev c) := by
  rw [show (reg0 m).post c = iprop(StableHlo.held (c.tc : Thread nD τ) (Pipeline.arrRefs spec0) (V4 m (outs m) c) ∗ iprop(emp)
    ∗ StableHlo.held (c : Thread nD τ) (Pipeline.ucRefs τ sig \ Pipeline.arrRefs spec0) (V3 m c)
    ∗ ∃ Wd, owes (c : Thread nD τ) (0 : CellTallies nD τ sig Unit) Wd) from rfl,
    StableHlo.held_sub_split _ arrs0_sub (V4 m (outs m) c),
    StableHlo.held_congr (c : Thread nD τ) (S := Pipeline.ucRefs τ sig \ Pipeline.arrRefs spec0) (V := V4 m (outs m) c) (V' := V3 m c)
      (fun b hb => V4_of_ne m c b (fun e => (Finset.mem_sdiff.mp hb).2 (e ▸ v20_mem)))]
  iintro ⟨Ha, -, Hr, HE⟩
  isplitl [Ha Hr]
  · isplitl [Ha]; · iexact Ha
    iexact Hr
  iexact HE

theorem pre1 (c : Dev nD) : iprop(StableHlo.held (c : Thread nD τ) (Pipeline.ucRefs τ sig) (V13 m (outs m) c) ∗ Ev c) ⊢ (reg1 m).pre c := by
  rw [show (reg1 m).pre c = iprop(StableHlo.held (c.tc : Thread nD τ) (Pipeline.arrRefs spec1) (V13 m (outs m) c) ∗ iprop(emp)
    ∗ StableHlo.held (c : Thread nD τ) (Pipeline.ucRefs τ sig \ Pipeline.arrRefs spec1) (V13 m (outs m) c)
    ∗ ∃ Wd, owes (c : Thread nD τ) (0 : CellTallies nD τ sig Unit) Wd) from rfl,
    StableHlo.held_sub_split _ arrs1_sub]
  iintro ⟨⟨Ha, Hr⟩, HE⟩
  isplitl [Ha]; · iexact Ha
  isplitr; · iempintro
  isplitl [Hr]; · iexact Hr
  iexact HE

theorem post1 (c : Dev nD) : (reg1 m).post c ⊢ iprop(StableHlo.held (c : Thread nD τ) (Pipeline.ucRefs τ sig) (V14 m (outs m) c) ∗ Ev c) := by
  rw [show (reg1 m).post c = iprop(StableHlo.held (c.tc : Thread nD τ) (Pipeline.arrRefs spec1) (V14 m (outs m) c) ∗ iprop(emp)
    ∗ StableHlo.held (c : Thread nD τ) (Pipeline.ucRefs τ sig \ Pipeline.arrRefs spec1) (V13 m (outs m) c)
    ∗ ∃ Wd, owes (c : Thread nD τ) (0 : CellTallies nD τ sig Unit) Wd) from rfl,
    StableHlo.held_sub_split _ arrs1_sub (V14 m (outs m) c),
    StableHlo.held_congr (c : Thread nD τ) (S := Pipeline.ucRefs τ sig \ Pipeline.arrRefs spec1) (V := V14 m (outs m) c) (V' := V13 m (outs m) c)
      (fun b hb => V14_of_ne m c b (fun e => (Finset.mem_sdiff.mp hb).2 (e ▸ v83_mem)))]
  iintro ⟨Ha, -, Hr, HE⟩
  isplitl [Ha Hr]
  · isplitl [Ha]; · iexact Ha
    iexact Hr
  iexact HE

/-! ## The run -/

/-- What every final state of @main satisfies: the arguments as launched, the two results at what the last valuation
    holds, every semaphore counter at zero. -/
abbrev Ends (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_v84) = V15 m (outs m) c main_v84
    ∧ s.mem ((c.tc : Thread nD τ).loc main_v86) = V15 m (outs m) c main_v86)
    ∧ s.sem = fun _ => 0

set_option backward.isDefEq.respectTransparency.types false in
/-- Every weakly fair execution of @main terminates, and every final state is as `Ends` says. -/
theorem run_main (ρ : Dev nD → PrngReg) :
    θ_run defs (onTc (τ := τ) (main (F := F))) ⟨m, fun _ => 0, ρ⟩ (fun r => Ends m r.2) := by
  refine Pipeline.θ_run_regions_kit_dev_sems (pcfgs (F := F)) adm (pdats m) () cellOf_inj emb₁ defs₀ 𝒱₀ L lv m ρ main
    (segs m (outs m) 𝒱₀ L lv (fun _ => Ev) () (pdats m) (reg0 m) (reg1 m))
    (fun c Q => by
      rewrite [main_chain c, Seg.run_eq_chain,
        show (segs m (outs m) 𝒱₀ L lv (fun _ => Ev) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := fun _ => 0) (hL := fun g hg => if_neg hg) (G := fun _ => iprop(emp)) (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ev c))
    (Tₙ := fun c => StableHlo.held (c : Thread nD τ) (Pipeline.ucRefs τ sig) (V15 m (outs m) c))
    (hch := fun c => ⟨.rfl, .rfl, .rfl, pre0 m c, post0 m c, .rfl, .rfl, .rfl, .rfl, .rfl, .rfl, .rfl, .rfl, pre1 m c, post1 m c, sep_mono .rfl .rfl⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_v84) = V15 m (outs m) c main_v84 ∧ s.mem ((c.tc : Thread nD τ).loc main_v86) = V15 m (outs m) c main_v86)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · -- the end: each argument's buffer read off the last valuation
    unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V15_main_arg0 m (outs m) c),
        (h (Proc.devRef .tc main_arg1) (Finset.mem_filter.mpr ⟨StableHlo.devRef_mem_tcRefs main_arg1, by decide⟩)).trans (V15_main_arg1 m (outs m) c),
        (h (Proc.devRef .tc main_arg2) (Finset.mem_filter.mpr ⟨StableHlo.devRef_mem_tcRefs main_arg2, by decide⟩)).trans (V15_main_arg2 m (outs m) c),
        (h (Proc.devRef .tc main_arg3) (Finset.mem_filter.mpr ⟨StableHlo.devRef_mem_tcRefs main_arg3, by decide⟩)).trans (V15_main_arg3 m (outs m) c),
        (h (Proc.devRef .tc main_arg4) (Finset.mem_filter.mpr ⟨StableHlo.devRef_mem_tcRefs main_arg4, by decide⟩)).trans (V15_main_arg4 m (outs m) c),
        (h (Proc.devRef .tc main_arg5) (Finset.mem_filter.mpr ⟨StableHlo.devRef_mem_tcRefs main_arg5, by decide⟩)).trans (V15_main_arg5 m (outs m) c),
        (h (Proc.devRef .tc main_arg6) (Finset.mem_filter.mpr ⟨StableHlo.devRef_mem_tcRefs main_arg6, by decide⟩)).trans (V15_main_arg6 m (outs m) c),
        (h (Proc.devRef .tc main_arg7) (Finset.mem_filter.mpr ⟨StableHlo.devRef_mem_tcRefs main_arg7, by decide⟩)).trans (V15_main_arg7 m (outs m) c),
        h (Proc.devRef .tc main_v84) (Finset.mem_filter.mpr ⟨StableHlo.devRef_mem_tcRefs main_v84, by decide⟩),
        h (Proc.devRef .tc main_v86) (Finset.mem_filter.mpr ⟨StableHlo.devRef_mem_tcRefs main_v86, by decide⟩)⟩
    · iexact HSI

end Cert.Proof
end
-- ==== Proof.RefRun.lean ====
module

public import proofs.«01_k».proof.Proof.Gen.ReferenceIdeal.Run
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The references the operations of `hostOps0_15` write, in order. -/
abbrev hostOps0_15_W : List (Ref sig .tc) := [main_cst_32, main_v257, main_v258, main_cst_33, main_v259, main_v260, main_v261]
theorem hostOps0_15_writes : (hostOps0_15 : List (HloOp τ sig (Elt F))).Forall fun op => op.writes ⊆ (hostOps0_15_W.map (Proc.devRef (τ := τ) .tc)).toFinset :=
  StableHlo.forall_writes_sub_of_map rfl
/-- The references the operations of `hostOps0_16` write, in order. -/
abbrev hostOps0_16_W : List (Ref sig .tc) := [main_call7_call0_c, main_call7_call0_v0, main_v262]
theorem hostOps0_16_writes : (hostOps0_16 : List (HloOp τ sig (Elt F))).Forall fun op => op.writes ⊆ (hostOps0_16_W.map (Proc.devRef (τ := τ) .tc)).toFinset :=
  StableHlo.forall_writes_sub_of_map rfl
/-- The references the operations of `hostOps0_17` write, in order. -/
abbrev hostOps0_17_W : List (Ref sig .tc) := [main_v263, main_v264, main_v265, main_v266, main_v267, main_v268, main_v269, main_c_34, main_v270, main_c_35, main_v271, main_v272, main_c_36, main_v273, main_v274, main_v275, main_v276, main_v277, main_c_37, main_v278, main_v279, main_c_38, main_v280, main_v281, main_v282, main_v283, main_v284]
theorem hostOps0_17_writes : (hostOps0_17 : List (HloOp τ sig (Elt F))).Forall fun op => op.writes ⊆ (hostOps0_17_W.map (Proc.devRef (τ := τ) .tc)).toFinset :=
  StableHlo.forall_writes_sub_of_map rfl

/-- Every reference the loop's condition and body write. -/
abbrev loop_W : List (Ref sig .tc) := condOps_W ++ while0Ops0_W

/-- Every reference the stretches before the loop write. -/
abbrev pre_W : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W

/-- Every reference the stretches after the loop write. -/
abbrev post_W : List (Ref sig .tc) := hostOps0_15_W ++ hostOps0_16_W ++ hostOps0_17_W

/-- A reference none of the stretches before the loop writes keeps its contents to the loop's entry. -/
theorem entry_keep (c : Dev nD) (r : Ref sig .tc) (h : r ∉ pre_W) :
    entryContents preI m c (Proc.devRef .tc r) = m ((c.tc : Thread nD τ).loc r) := by
  simp only [pre_W, List.mem_append, not_or, and_assoc] at h
  obtain ⟨h0, h1, h2, h3, h4, h5, h6, h7, h8, h9, h10, h11, h12, h13, h14⟩ := h
  simp only [entryContents, afterL_cons, afterL_nil]
  rw [after_of_writes_sub hostOps0_14 _ hostOps0_14_writes h14, after_of_writes_sub hostOps0_13 _ hostOps0_13_writes h13, after_of_writes_sub hostOps0_12 _ hostOps0_12_writes h12, after_of_writes_sub hostOps0_11 _ hostOps0_11_writes h11, after_of_writes_sub hostOps0_10 _ hostOps0_10_writes h10, after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- A reference the loop does not write keeps its contents round every trip. -/
theorem atK_keep (k : ℕ) (c : Dev nD) (r : Ref sig .tc) (h : r ∉ loop_W) :
    atK m k c (Proc.devRef .tc r) = entryContents preI m c (Proc.devRef .tc r) := by
  simp only [loop_W, List.mem_append, not_or] at h
  induction k with
  | zero => rfl
  | succ k ih =>
    rw [show atK m (k + 1) c = after while0Ops0 (after condOps (atK m k c)) from rfl,
      after_of_writes_sub while0Ops0 _ while0Ops0_writes h.2, after_of_writes_sub condOps _ condOps_writes h.1, ih]

/-- Every buffer when the loop's last test has failed. -/
def atExit (c : Dev nD) : Valuation τ sig (Elt F) := after condOps (atK m 1000 c)

theorem atExit_keep (c : Dev nD) (r : Ref sig .tc) (h : r ∉ loop_W) :
    atExit m c (Proc.devRef .tc r) = entryContents preI m c (Proc.devRef .tc r) := by
  unfold atExit
  rw [after_of_writes_sub condOps _ condOps_writes (fun hc => h (List.mem_append_left _ hc)), atK_keep m 1000 c r h]

/-- Every buffer when the program has ended. -/
def atEnd (c : Dev nD) : Valuation τ sig (Elt F) := after hostOps0_17 (after hostOps0_16 (after hostOps0_15 (atExit m c)))

theorem finalContents_eq (c : Dev nD) : finalContents condOps preI bodyI postI 1000 m c = atEnd m c := rfl

/-- A reference that no operation writes ends as it began. -/
theorem atEnd_keep (c : Dev nD) (r : Ref sig .tc) (h0 : r ∉ pre_W) (h1 : r ∉ loop_W) (h2 : r ∉ post_W) :
    atEnd m c (Proc.devRef .tc r) = m ((c.tc : Thread nD τ).loc r) := by
  simp only [post_W, List.mem_append, not_or, and_assoc] at h2
  unfold atEnd
  rw [after_of_writes_sub hostOps0_17 _ hostOps0_17_writes h2.2.2, after_of_writes_sub hostOps0_16 _ hostOps0_16_writes h2.2.1,
    after_of_writes_sub hostOps0_15 _ hostOps0_15_writes h2.1, atExit_keep m c r h1, entry_keep m c r h0]

/-- What the reference's run ends with: its arguments as they were, its two results as the operations leave them, and no
    semaphore counted up. -/
abbrev Ends (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_v277) = atEnd m c (Proc.devRef .tc main_v277)
    ∧ s.mem ((c.tc : Thread nD τ).loc main_v284) = atEnd m c (Proc.devRef .tc main_v284))
  ∧ s.sem = fun _ => 0

theorem run_reference : θ_run (defs (F := F)) (onTc (τ := τ) (main (F := F))) ⟨m, fun _ => 0, ρ⟩ (fun r => Ends m r.2) := by
  refine (θ_run (defs (F := F)) _ _).mono (fun r h => ?_) (run_fold m ρ)
  exact ⟨fun c => ⟨
      (h c main_arg0 (by decide)).trans (atEnd_keep m c main_arg0 (by decide +kernel) (by decide +kernel) (by decide +kernel)),
      (h c main_arg1 (by decide)).trans (atEnd_keep m c main_arg1 (by decide +kernel) (by decide +kernel) (by decide +kernel)),
      (h c main_arg2 (by decide)).trans (atEnd_keep m c main_arg2 (by decide +kernel) (by decide +kernel) (by decide +kernel)),
      (h c main_arg3 (by decide)).trans (atEnd_keep m c main_arg3 (by decide +kernel) (by decide +kernel) (by decide +kernel)),
      (h c main_arg4 (by decide)).trans (atEnd_keep m c main_arg4 (by decide +kernel) (by decide +kernel) (by decide +kernel)),
      (h c main_arg5 (by decide)).trans (atEnd_keep m c main_arg5 (by decide +kernel) (by decide +kernel) (by decide +kernel)),
      (h c main_arg6 (by decide)).trans (atEnd_keep m c main_arg6 (by decide +kernel) (by decide +kernel) (by decide +kernel)),
      (h c main_arg7 (by decide)).trans (atEnd_keep m c main_arg7 (by decide +kernel) (by decide +kernel) (by decide +kernel)),
      h c main_v277 (by decide), h c main_v284 (by decide)⟩,
    sem_eq_zero_of_no_sems (by decide) _⟩

end Cert.Proof.Ref

end
-- ==== Proof.SameText.lean ====
/- The printed kernel and its idealization are one text: at the machine's float values they are equal, call by call. -/
module

public import proofs.«01_k».proof.Defs
public import proofs.«01_k».proof.Proof.Gen.Kernel
public import proofs.«01_k».proof.Proof.Gen.KernelIdeal

@[expose] public section

set_option maxRecDepth 100000
set_option maxHeartbeats 2000000

noncomputable section

namespace Cert.Proof

open Idealize.ShloMosaic Idealize.SL.Sem

/-- The two tables of kernel bodies are equal. -/
theorem bodies_same : @Cert.Kernel.defs₀ Bits _ _ = @Cert.KernelIdeal.defs₀ Bits _ _ := by
  unfold Cert.Kernel.defs₀ Cert.KernelIdeal.defs₀
  refine congrArg (Defs.onTc) ?_
  funext l x
  match l, x with
  | 0, (t, s) => rfl
  | 1, (t, s) => rfl
  | ⟨_ + 2, h⟩, _ => exact absurd h (Nat.not_lt.2 (Nat.le_add_left _ _))

/-- So are the two tables the machine runs from. -/
theorem defs_same : @Cert.Kernel.defs Bits _ _ = @Cert.KernelIdeal.defs Bits _ _ :=
  congrArg (Pipeline.defs (Cert.KernelIdeal.pcfgs (F := Bits))) bodies_same

/-- And the two host programs. -/
theorem main_same : @Cert.Kernel.main Bits _ _ = @Cert.KernelIdeal.main Bits _ _ := rfl

end Cert.Proof

end
-- ==== Proof.Order.lean ====
/- Ranks in a list of scores, the greedy choice of boxes and the places of the chosen ones: the facts about finite orders
   and sets that the two programs share, free of either program. -/
module

public import Idealize.ShloMosaic.Lib.SortPrefix
public import Mathlib.Data.EReal.Basic

@[expose] public section

namespace Cert.Proof

open Idealize.ShloMosaic

/-! ## Ranks -/

variable {n : ℕ}

/-- Entry `a` comes before entry `b`: its score is greater, or equal and `a` is the earlier. -/
noncomputable def before (s : Fin n → EReal) (a b : Fin n) : Bool := decide (s b < s a) || (decide (s a = s b) && decide (a < b))

theorem before_iff (s : Fin n → EReal) (a b : Fin n) : before s a b = true ↔ (s b < s a ∨ (s a = s b ∧ a < b)) := by
  simp [before]

theorem before_total (s : Fin n → EReal) : StrictTotalBefore (before s) where
  irrefl a := by simp [before]
  trans a b c hab hbc := by
    rw [before_iff] at *
    rcases hab with h | ⟨h, h'⟩ <;> rcases hbc with k | ⟨k, k'⟩
    · exact Or.inl (k.trans h)
    · exact Or.inl (k ▸ h)
    · exact Or.inl (h ▸ k)
    · exact Or.inr ⟨h.trans k, h'.trans k'⟩
  total a b hab := by
    rw [before_iff, before_iff]
    rcases lt_trichotomy (s a) (s b) with h | h | h
    · exact Or.inr (Or.inl h)
    · rcases lt_or_gt_of_ne hab with k | k
      · exact Or.inl (Or.inr ⟨h, k⟩)
      · exact Or.inr (Or.inr ⟨h.symm, k⟩)
    · exact Or.inl (Or.inl h)

/-- How many entries come before `b`. -/
noncomputable def rk (s : Fin n → EReal) (b : Fin n) : ℕ := (Finset.univ.filter fun a => before s a b = true).card

theorem rk_lt_of_before (s : Fin n → EReal) (a b : Fin n) (h : before s a b = true) : rk s a < rk s b := by
  refine Finset.card_lt_card (Finset.ssubset_iff_subset_ne.mpr ⟨fun x hx => ?_, fun e => ?_⟩)
  · simp only [Finset.mem_filter, Finset.mem_univ, true_and] at hx ⊢
    exact (before_total s).trans x a b hx h
  · have : a ∈ Finset.univ.filter fun x => before s x a = true := by rw [e]; simp [h]
    simp only [Finset.mem_filter, Finset.mem_univ, true_and, (before_total s).irrefl a] at this
    exact absurd this (by decide)

theorem rk_injective (s : Fin n → EReal) : Function.Injective (rk s) := fun a b h => by
  by_contra hne
  rcases (before_total s).total a b hne with k | k
  · exact absurd h (rk_lt_of_before s a b k).ne
  · exact absurd h (rk_lt_of_before s b a k).ne'

theorem rk_lt (s : Fin n → EReal) (b : Fin n) : rk s b < n := by
  have : rk s b < (Finset.univ : Finset (Fin n)).card := by
    refine Finset.card_lt_card (Finset.ssubset_iff_subset_ne.mpr ⟨Finset.subset_univ _, fun e => ?_⟩)
    have : b ∈ Finset.univ.filter fun x => before s x b = true := by rw [e]; simp
    simp only [Finset.mem_filter, Finset.mem_univ, true_and, (before_total s).irrefl b] at this
    exact absurd this (by decide)
  simpa using this

theorem rk_surj (s : Fin n → EReal) (r : Fin n) : ∃ b, rk s b = r.val := by
  have hi : Function.Injective (fun b => (⟨rk s b, rk_lt s b⟩ : Fin n)) := fun a b h => rk_injective s (congrArg Fin.val h)
  obtain ⟨b, hb⟩ := (Finite.injective_iff_surjective.mp hi) r
  exact ⟨b, congrArg Fin.val hb⟩

/-- The entry of rank `r`. -/
noncomputable def byRank (s : Fin n → EReal) (r : Fin n) : Fin n := (rk_surj s r).choose

theorem rk_byRank (s : Fin n → EReal) (r : Fin n) : rk s (byRank s r) = r.val := (rk_surj s r).choose_spec

theorem byRank_eq (s : Fin n → EReal) (r : Fin n) (b : Fin n) (h : rk s b = r.val) : byRank s r = b :=
  rk_injective s ((rk_byRank s r).trans h.symm)

theorem insertBefore_congr {R B : Fin n → Fin n → Bool} (a : Fin n) : ∀ l : List (Fin n), (∀ b ∈ l, R b a = B b a) →
    insertBefore R a l = insertBefore B a l
  | [], _ => rfl
  | b :: l, h => by
    unfold insertBefore
    rw [h b (List.mem_cons_self ..), insertBefore_congr a l fun c hc => h c (List.mem_cons_of_mem _ hc)]

/-- A stable sort of the ascending positions by score is the sort by score and then position. -/
theorem stableSort_score (s : Fin n → EReal) : ∀ l : List (Fin n), l.Pairwise (· < ·) →
    stableSort (fun k k' => decide (s k' < s k)) l = stableSort (before s) l
  | [], _ => rfl
  | a :: l, h => by
    rw [List.pairwise_cons] at h
    unfold stableSort
    rw [stableSort_score s l h.2]
    refine insertBefore_congr a _ fun b hb => ?_
    have hab := h.1 b ((perm_stableSort _ l).mem_iff.mp hb)
    unfold before
    rw [decide_eq_false (p := b < a) (not_lt.mpr hab.le), Bool.and_false, Bool.or_false]

/-- The `r`-th place of the stable sort by descending score holds the entry of rank `r`. -/
theorem sortedFrom_eq_byRank (s : Fin n → EReal) (r : Fin n) : sortedFrom (fun k k' => decide (s k' < s k)) r = byRank s r := by
  have h1 : sortedFrom (fun k k' => decide (s k' < s k)) r = sortedFrom (before s) r := by
    have e : sortPositions n (fun k k' => decide (s k' < s k)) = sortPositions n (before s) :=
      stableSort_score s _ (List.pairwise_lt_finRange n)
    unfold sortedFrom
    simp only [List.get_eq_getElem, Fin.val_cast, e]
  rw [h1]
  refine (before_total s).sortedFrom_eq_of_prefix (le_refl n) (byRank s) (fun i j h => ?_) (fun i j hij => ?_) (fun i p hp => ?_) r
  · have := congrArg (rk s) h
    rw [rk_byRank, rk_byRank] at this
    exact Fin.ext this
  · cases h : before s (byRank s j) (byRank s i)
    · rfl
    · have := rk_lt_of_before s _ _ h
      rw [rk_byRank, rk_byRank] at this
      exact absurd this (not_lt.mpr (le_of_lt hij))
  · exact absurd (byRank_eq s ⟨rk s p, rk_lt s p⟩ p rfl) (hp _)

/-- Ranks among a longer list whose further entries score no more than any of the first `n`. -/
theorem rk_pad {N : ℕ} (hN : n ≤ N) (s : Fin n → EReal) (S : Fin N → EReal) (hS : ∀ i : Fin n, S (i.castLE hN) = s i)
    (lo : EReal) (hlo : ∀ i, lo ≤ s i) (hpad : ∀ i : Fin N, n ≤ i.val → S i = lo) (b : Fin n) : rk S (b.castLE hN) = rk s b := by
  refine (Finset.card_bij (fun (a : Fin n) _ => a.castLE hN) (fun a ha => ?_) (fun a _ a' _ h => ?_) (fun a ha => ?_)).symm
  · simp only [Finset.mem_filter, Finset.mem_univ, true_and, before_iff, hS] at ha ⊢
    exact ha.imp_right fun h => ⟨h.1, h.2⟩
  · exact Fin.ext (by simpa using congrArg Fin.val h)
  · simp only [Finset.mem_filter, Finset.mem_univ, true_and, before_iff, hS] at ha
    have hlt : a.val < n := by
      by_contra hge
      have hge := not_lt.mp hge
      rw [hpad a hge] at ha
      rcases ha with h | ⟨_, h⟩
      · exact absurd h (not_lt.mpr (hlo b))
      · exact absurd (Fin.lt_def.mp h) (by have := b.isLt; simp; omega)
    refine ⟨⟨a.val, hlt⟩, ?_, Fin.ext rfl⟩
    simp only [Finset.mem_filter, Finset.mem_univ, true_and, before_iff]
    have e : S a = s ⟨a.val, hlt⟩ := hS ⟨a.val, hlt⟩
    rw [e] at ha
    exact ha.imp_right fun h => ⟨h.1, h.2⟩

theorem le_rk_pad {N : ℕ} (hN : n ≤ N) (s : Fin n → EReal) (S : Fin N → EReal) (hS : ∀ i : Fin n, S (i.castLE hN) = s i)
    (lo : EReal) (hlo : ∀ i, lo ≤ s i) (hpad : ∀ i : Fin N, n ≤ i.val → S i = lo) (b : Fin N) (hb : n ≤ b.val) : n ≤ rk S b := by
  have : (Finset.univ.map (Fin.castLEEmb hN)).card ≤ rk S b := by
    refine Finset.card_le_card fun a ha => ?_
    obtain ⟨i, -, rfl⟩ := Finset.mem_map.mp ha
    simp only [Finset.mem_filter, Finset.mem_univ, true_and, before_iff]
    have e : S (Fin.castLEEmb hN i) = s i := hS i
    rw [e, hpad b hb]
    rcases lt_or_eq_of_le (hlo i) with h | h
    · exact Or.inl h
    · exact Or.inr ⟨h.symm, Fin.lt_def.mpr (by have := i.isLt; simp; omega)⟩
  simpa using this

/-! ## The greedy choice -/

/-- `K` keeps, of the first `N` numbers, exactly those that no earlier kept number removes. -/
def Greedy (N : ℕ) (m : ℕ → ℕ → Prop) (K : ℕ → Prop) : Prop := ∀ j, K j ↔ j < N ∧ ∀ i < j, K i → ¬m i j

theorem Greedy.unique {N : ℕ} {m : ℕ → ℕ → Prop} {K K' : ℕ → Prop} (h : Greedy N m K) (h' : Greedy N m K') (j : ℕ) : K j ↔ K' j := by
  induction j using Nat.strong_induction_on with
  | _ j ih =>
    rw [h j, h' j]
    exact and_congr_right fun _ => forall_congr' fun i => forall_congr' fun hi => by rw [ih i hi]

/-! ## The places of the kept -/

open Classical in
/-- How many kept numbers lie below `j`. -/
noncomputable def cntBelow (K : ℕ → Prop) (j : ℕ) : ℕ := ((Finset.range j).filter K).card

theorem cntBelow_mono (K : ℕ → Prop) {i j : ℕ} (h : i ≤ j) : cntBelow K i ≤ cntBelow K j := by
  classical
  unfold cntBelow
  exact Finset.card_le_card (Finset.filter_subset_filter _ (Finset.range_mono h))

theorem cntBelow_succ_of (K : ℕ → Prop) {j : ℕ} (h : K j) : cntBelow K (j + 1) = cntBelow K j + 1 := by
  classical
  unfold cntBelow
  rw [Finset.range_add_one, Finset.filter_insert, if_pos h, Finset.card_insert_of_notMem (by simp)]

theorem cntBelow_succ_not (K : ℕ → Prop) {j : ℕ} (h : ¬K j) : cntBelow K (j + 1) = cntBelow K j := by
  classical
  unfold cntBelow
  rw [Finset.range_add_one, Finset.filter_insert, if_neg h]

/-- How many of the first `N` numbers have at most `r` kept numbers up to and with them. -/
noncomputable def place (N : ℕ) (K : ℕ → Prop) (r : ℕ) : ℕ := ((Finset.range N).filter fun j => cntBelow K (j + 1) ≤ r).card

/-- When `j` is the kept number of place `r`, the count is `j`. -/
theorem place_of_kept {N : ℕ} {K : ℕ → Prop} {j r : ℕ} (hj : j < N) (hk : K j) (hr : cntBelow K j = r) : place N K r = j := by
  have : (Finset.range N).filter (fun i => cntBelow K (i + 1) ≤ r) = Finset.range j := by
    ext i
    simp only [Finset.mem_filter, Finset.mem_range]
    constructor
    · rintro ⟨-, h⟩
      by_contra hge
      have := cntBelow_mono K (show j + 1 ≤ i + 1 by omega)
      rw [cntBelow_succ_of K hk] at this
      omega
    · intro h
      have := cntBelow_mono K (show i + 1 ≤ j by omega)
      exact ⟨by omega, by omega⟩
  rw [place, this, Finset.card_range]

/-- When no kept number has place `r`, the count is `N`. -/
theorem place_of_none {N : ℕ} {K : ℕ → Prop} {r : ℕ} (h : ∀ j < N, K j → cntBelow K j ≠ r) : place N K r = N := by
  have key : ∀ j ≤ N, cntBelow K j ≤ r := by
    intro j
    induction j with
    | zero => intro _; simp [cntBelow]
    | succ j ih =>
      intro hj
      have h1 := ih (by omega)
      by_cases hk : K j
      · have := h j (by omega) hk
        rw [cntBelow_succ_of K hk]; omega
      · rw [cntBelow_succ_not K hk]; exact h1
  have : (Finset.range N).filter (fun i => cntBelow K (i + 1) ≤ r) = Finset.range N :=
    Finset.filter_true_of_mem fun i hi => key (i + 1) (Finset.mem_range.mp hi)
  rw [place, this, Finset.card_range]

/-- Two kept numbers of one place are equal. -/
theorem kept_place_unique {K : ℕ → Prop} {i j : ℕ} (hi : K i) (hj : K j) (h : cntBelow K i = cntBelow K j) : i = j := by
  rcases lt_trichotomy i j with k | k | k
  · have := cntBelow_mono K (show i + 1 ≤ j by omega)
    rw [cntBelow_succ_of K hi] at this; omega
  · exact k
  · have := cntBelow_mono K (show j + 1 ≤ i by omega)
    rw [cntBelow_succ_of K hj] at this; omega

end Cert.Proof
-- ==== Proof.Choice.lean ====
/- The blocks of kept flags, over extended reals: block by block they are the greedy choice. -/
module

public import proofs.«01_k».proof.Proof.ProposeVal
public import proofs.«01_k».proof.Proof.Order
public import Idealize.ShloMosaic.Lib.Pointwise
public import Idealize.ShloMosaic.Lib.ValueIdx
public import Idealize.ShloMosaic.Lib.KernelVsHost

@[expose] public section

set_option maxRecDepth 16384

noncomputable section

namespace Cert.Proof

open Cert.KernelIdeal Cert.KernelIdeal.Gen
open Idealize.ShloMosaic Idealize.ShloMosaic.TcCoe Idealize.ShloMosaic.ValueIdx

/-! ## Small facts -/

open Classical in
/-- One for a true statement, zero for a false one. -/
def ind (p : Prop) : EReal := if p then 1 else 0

theorem ind_true {p : Prop} (h : p) : ind p = 1 := if_pos h
theorem ind_false {p : Prop} (h : ¬p) : ind p = 0 := if_neg h
theorem ind_congr {p q : Prop} (h : p ↔ q) : ind p = ind q := by rw [propext h]
theorem ind_mul (p q : Prop) : ind p * ind q = ind (p ∧ q) := by
  by_cases hp : p <;> by_cases hq : q <;> simp [ind, hp, hq]
theorem one_sub_ind (p : Prop) : 1 - ind p = ind (¬p) := by
  by_cases hp : p
  · rw [ind_true hp, ind_false (not_not.mpr hp)]; exact EReal.sub_self (by decide) (by decide)
  · rw [ind_false hp, ind_true hp]; simp
theorem ind_pos (p : Prop) : 0 < ind p ↔ p := by
  by_cases hp : p <;> simp [ind, hp]

open Classical in
theorem sum_ind {ι : Type} [Fintype ι] (p : ι → Prop) : ∑ i, ind (p i) = ((Finset.univ.filter p).card : EReal) := by
  unfold ind
  rw [← Finset.sum_filter, Finset.sum_const, nsmul_one]

theorem sum_ind_pos {ι : Type} [Fintype ι] (p : ι → Prop) : 0 < ∑ i, ind (p i) ↔ ∃ i, p i := by
  classical
  rw [sum_ind]
  constructor
  · intro h
    have h' : 0 < (Finset.univ.filter p).card := by exact_mod_cast h
    obtain ⟨i, hi⟩ := Finset.card_pos.mp h'
    exact ⟨i, (Finset.mem_filter.mp hi).2⟩
  · rintro ⟨i, hi⟩
    have h' : 0 < (Finset.univ.filter p).card := Finset.card_pos.mpr ⟨i, Finset.mem_filter.mpr ⟨Finset.mem_univ _, hi⟩⟩
    exact_mod_cast h'

theorem zero_word : (((0#32 : BitVec 32).toInt : ℝ) : EReal) = 0 := by simp

theorem slt_ofNat {a b : ℕ} (ha : a < 2 ^ 31) (hb : b < 2 ^ 31) : (BitVec.ofNat 32 a).slt (BitVec.ofNat 32 b) = decide (a < b) := by
  have h : ∀ c : ℕ, c < 2 ^ 31 → (BitVec.ofNat 32 c).toInt = c := fun c hc => by
    rw [BitVec.toInt_eq_toNat_of_lt] <;> rw [BitVec.toNat_ofNat] <;> omega
  unfold BitVec.slt
  rw [h a ha, h b hb]
  simp

open Classical in
theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  show Scalar.select (BitVec.ofBool ((BitVec.ofNat 32 a).slt (BitVec.ofNat 32 b))) x y = _
  rw [slt_ofNat ha hb]
  by_cases h : a < b <;> simp [h, Scalar.select]

theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  show Scalar.select (BitVec.ofBool (BitVec.ofNat 32 a == BitVec.ofNat 32 b)) x y = _
  have : (BitVec.ofNat 32 a == BitVec.ofNat 32 b) = decide (a = b) := by
    rw [Bool.eq_iff_iff, beq_iff_eq, decide_eq_true_iff]
    constructor
    · intro h
      have := congrArg BitVec.toNat h
      rw [BitVec.toNat_ofNat, BitVec.toNat_ofNat, Nat.mod_eq_of_lt ha, Nat.mod_eq_of_lt hb] at this
      exact this
    · rintro rfl; rfl
  rw [this]
  by_cases h : a = b <;> simp [h, Scalar.select]

/-! ## The greedy choice exists -/

theorem exists_greedy (N : ℕ) (m : ℕ → ℕ → Prop) : ∃ K, Greedy N m K :=
  ⟨Nat.lt_wfRel.wf.fix fun j K => j < N ∧ ∀ i (h : i < j), K i h → ¬m i j, fun j => by
    rw [WellFounded.fix_eq]⟩

/-! ## One block -/

/-- A row of all 1024 flags holds the greedy choice on its first `n` places, zero after. -/
def RowHolds (K : ℕ → Prop) (r : FVec Ideal S1x1024 .f32) (n : ℕ) : Prop :=
  ∀ i : Fin 1024, r (ValueIdx.ix2 0 i) = ind (K i.val ∧ i.val < n)

/-- A row of 128 flags holds the greedy choice from place `lo` on. -/
def BlkHolds (K : ℕ → Prop) (r : FVec Ideal S1x128 .f32) (lo : ℕ) : Prop :=
  ∀ i : Fin 128, r (ValueIdx.ix2 0 i) = ind (K (lo + i.val))

/-- A matrix holds the removals. -/
def MatHolds (m : ℕ → ℕ → Prop) (M : FVec Ideal S1024x1024 .f32) : Prop :=
  ∀ i j : Fin 1024, M (ValueIdx.ix2 i j) = ind (m i.val j.val)

/-- The flags of a block before its loop. -/
def startBlk (lo : ℕ) (r : FVec Ideal S1x1024 .f32) (C : FVec Ideal S1024x128 .f32) (j : Fin 128) : EReal :=
  if 0 < ∑ k : Fin 1024, r (ValueIdx.ix2 0 k) * C (ValueIdx.ix2 k j) then 0 else if j.val + lo < 1000 then 1 else 0

theorem startBlk_intro (lo : ℕ) (hlo : lo ≤ 1024) (j : Fin 128) (S : EReal) :
    (if 0 < S then (0 : EReal) else Scalar.select (IntOp.cmpi .slt (IntOp.addi (BitVec.ofNat 32 j.val) (BitVec.ofNat 32 lo)) 1000#32) 1 0)
      = if 0 < S then 0 else if j.val + lo < 1000 then 1 else 0 := by
  have e : IntOp.addi (BitVec.ofNat 32 j.val) (BitVec.ofNat 32 lo) = BitVec.ofNat 32 (j.val + lo) := by
    show BitVec.ofNat 32 j.val + BitVec.ofNat 32 lo = _
    rw [← BitVec.ofNat_add]
  rw [e, select_slt (by have := j.isLt; omega) (by decide)]

variable {K : ℕ → Prop} {m : ℕ → ℕ → Prop}

/-- The flags before the loop: the boxes of the block that no kept box before the block removes. -/
theorem startBlk_eq {M : FVec Ideal S1024x1024 .f32} {r : FVec Ideal S1x1024 .f32} (b : ℕ) (hb : b < 8) (hM : MatHolds m M)
    (hr : RowHolds K r (128 * b)) (j : Fin 128) :
    startBlk (128 * b) r (colBlk (F := Ideal) M b) j = ind (128 * b + j.val < 1000 ∧ ∀ i < 128 * b, K i → ¬m i (128 * b + j.val)) := by
  have hj := j.isLt
  have e : ∀ k : Fin 1024, r (ValueIdx.ix2 0 k) * colBlk (F := Ideal) M b (ValueIdx.ix2 k j) = ind ((K k.val ∧ k.val < 128 * b) ∧ m k.val (128 * b + j.val)) := by
    intro k
    rw [hr k]
    have e1 : colBlk (F := Ideal) M b (ValueIdx.ix2 k j) = M (ValueIdx.ix2 k (Fin.ofNat 1024 (128 * b + j.val))) := rfl
    have e2 : (Fin.ofNat 1024 (128 * b + j.val)).val = 128 * b + j.val := Nat.mod_eq_of_lt (by omega)
    rw [e1, hM, e2, ind_mul]
  have es : ∑ k : Fin 1024, r (ValueIdx.ix2 0 k) * colBlk (F := Ideal) M b (ValueIdx.ix2 k j)
      = ∑ k : Fin 1024, ind ((K k.val ∧ k.val < 128 * b) ∧ m k.val (128 * b + j.val)) := Finset.sum_congr rfl fun k _ => e k
  have hiff : (0 : EReal) < ∑ k : Fin 1024, r (ValueIdx.ix2 0 k) * colBlk (F := Ideal) M b (ValueIdx.ix2 k j)
      ↔ ∃ k : Fin 1024, (K k.val ∧ k.val < 128 * b) ∧ m k.val (128 * b + j.val) := by
    rw [es]; exact sum_ind_pos _
  unfold startBlk
  by_cases hx : ∃ k : Fin 1024, (K k.val ∧ k.val < 128 * b) ∧ m k.val (128 * b + j.val)
  · rw [if_pos (hiff.mpr hx), ind_false]
    rintro ⟨-, h⟩
    obtain ⟨k, ⟨hk, hlt⟩, hm⟩ := hx
    exact h k.val hlt hk hm
  · rw [if_neg fun h => hx (hiff.mp h)]
    by_cases hl : j.val + 128 * b < 1000
    · rw [if_pos hl, ind_true]
      exact ⟨by omega, fun i hi hk hm => hx ⟨⟨i, by omega⟩, ⟨hk, hi⟩, hm⟩⟩
    · rw [if_neg hl, ind_false]
      rintro ⟨h, -⟩
      omega

theorem laneAt_eq (k : ℕ) (hk : k < 128) (acc : FVec Ideal S1x128 .f32) : laneAt k acc = acc (ValueIdx.ix2 0 ⟨k, hk⟩) := by
  unfold laneAt
  pointwise
  have e : Scf.iv 0#32 1#32 k = BitVec.ofNat 32 k := by simp [Scf.iv]
  rw [e]
  have h : ∀ x : Fin 128, Scalar.select (IntOp.cmpi .eq (BitVec.ofNat 32 x.val) (BitVec.ofNat 32 k)) (acc (ValueIdx.ix2 0 x)) (0 : EReal)
      = if x = ⟨k, hk⟩ then acc (ValueIdx.ix2 0 x) else 0 := fun x => by
    rw [select_eq (by have := x.isLt; omega) (by omega)]
    simp only [Fin.ext_iff]
  have h' : ∀ x : Fin 128, Scalar.select (IntOp.cmpi .eq (BitVec.ofNat 32 x.val) (BitVec.ofNat 32 k)) (acc (Idealize.ShloMosaic.ix2 0 x)) (0 : EReal)
      = if x = ⟨k, hk⟩ then acc (ValueIdx.ix2 0 x) else 0 := h
  simp only [h', Finset.sum_ite_eq', Finset.mem_univ, if_true, Fin.sum_const, one_smul]

theorem nmsStep_apply (D : FVec Ideal S1024x128 .f32) (lo k : ℕ) (hk : k < 128) (acc : FVec Ideal S1x128 .f32) (j : Fin 128) :
    nmsStep D lo k acc (ValueIdx.ix2 0 j)
      = if 0 < acc (ValueIdx.ix2 0 ⟨k, hk⟩) then acc (ValueIdx.ix2 0 j) * (1 - D (ValueIdx.ix2 (Fin.ofNat 1024 (lo + k)) j)) else acc (ValueIdx.ix2 0 j) := by
  have hc : (Scalar.cmpi .ne (Scalar.extui (Scalar.cmpf .ogt (laneAt k acc) (Scalar.ofBits (F := Ideal) .f32 0x00000000#32)) : BitVec 32) 0#32 = 1#1)
      ↔ 0 < acc (ValueIdx.ix2 0 ⟨k, hk⟩) := by
    rw [laneAt_eq k hk]
    have e0 : (Scalar.ofBits (F := Ideal) .f32 0x00000000#32 : EReal) = 0 := Ideal.ofBits_zero_f32
    have e : Scalar.cmpf .ogt (acc (ValueIdx.ix2 0 ⟨k, hk⟩)) (Scalar.ofBits (F := Ideal) .f32 0x00000000#32)
        = BitVec.ofBool (decide (0 < acc (ValueIdx.ix2 0 ⟨k, hk⟩))) := by
      rw [e0]; rfl
    rw [e]
    by_cases h : 0 < acc (ValueIdx.ix2 0 ⟨k, hk⟩)
    · simp only [h, decide_true, iff_true]; decide
    · simp only [h, decide_false, iff_false]; decide
  unfold nmsStep
  by_cases h : 0 < acc (ValueIdx.ix2 0 ⟨k, hk⟩)
  · rw [if_pos (hc.mpr h), if_pos h]
    unfold k1_pay44 rowOf
    pointwise
  · rw [if_neg (fun h' => h (hc.mp h')), if_neg h]

/-- The loop of a block, from the flags that earlier blocks leave. -/
theorem nmsLoop_eq {M : FVec Ideal S1024x1024 .f32} (b : ℕ) (hb : b < 8) (hM : MatHolds m M) (hK : Greedy 1000 m K)
    (init : FVec Ideal S1x128 .f32)
    (hi : ∀ j : Fin 128, init (ValueIdx.ix2 0 j) = ind (128 * b + j.val < 1000 ∧ ∀ i < 128 * b, K i → ¬m i (128 * b + j.val))) :
    ∀ k ≤ 128, ∀ j : Fin 128, nmsLoop (diagOf (F := Ideal) M) (128 * b) init k (ValueIdx.ix2 0 j)
      = ind (128 * b + j.val < 1000 ∧ ∀ i < 128 * b + k, K i → ¬m i (128 * b + j.val))
  | 0, _, j => hi j
  | k + 1, hk, j => by
    have ih := nmsLoop_eq b hb hM hK init hi k (by omega)
    have hj := j.isLt
    have hkk : nmsLoop (diagOf (F := Ideal) M) (128 * b) init k (ValueIdx.ix2 0 ⟨k, hk⟩) = ind (K (128 * b + k)) := by
      rw [ih ⟨k, hk⟩]
      exact ind_congr (hK (128 * b + k)).symm
    have hD : diagOf (F := Ideal) M (ValueIdx.ix2 (Fin.ofNat 1024 (128 * b + k)) j) = ind (m (128 * b + k) (128 * b + j.val)) := by
      have e2 : (Fin.ofNat 1024 (128 * b + k)).val = 128 * b + k := Nat.mod_eq_of_lt (by omega)
      have e1 : diagOf (F := Ideal) M (ValueIdx.ix2 (Fin.ofNat 1024 (128 * b + k)) j)
          = M (ValueIdx.ix2 (Fin.ofNat 1024 (128 * b + k)) (Fin.ofNat 1024 (128 * ((Fin.ofNat 1024 (128 * b + k)).val / 128) + j.val))) := rfl
      have e3 : 128 * ((128 * b + k) / 128) + j.val = 128 * b + j.val := by omega
      have e4 : (Fin.ofNat 1024 (128 * b + j.val)).val = 128 * b + j.val := Nat.mod_eq_of_lt (by omega)
      rw [e1, e2, e3, hM, e2, e4]
    show nmsStep (diagOf (F := Ideal) M) (128 * b) k (nmsLoop (diagOf (F := Ideal) M) (128 * b) init k) (ValueIdx.ix2 0 j) = _
    rw [nmsStep_apply _ _ _ hk, hkk, ih j, hD]
    have hs : (∀ i < 128 * b + (k + 1), K i → ¬m i (128 * b + j.val))
        ↔ (∀ i < 128 * b + k, K i → ¬m i (128 * b + j.val)) ∧ (K (128 * b + k) → ¬m (128 * b + k) (128 * b + j.val)) := by
      constructor
      · exact fun h => ⟨fun i hi => h i (by omega), h _ (by omega)⟩
      · rintro ⟨h1, h2⟩ i hi
        rcases Nat.lt_or_ge i (128 * b + k) with h | h
        · exact h1 i h
        · obtain rfl : i = 128 * b + k := by omega
          exact h2
    by_cases hkept : K (128 * b + k)
    · rw [if_pos ((ind_pos _).mpr hkept), one_sub_ind, ind_mul]
      exact ind_congr (by rw [hs]; tauto)
    · rw [if_neg (fun h => hkept ((ind_pos _).mp h))]
      exact ind_congr (by rw [hs]; tauto)

theorem blk_holds {M : FVec Ideal S1024x1024 .f32} {r : FVec Ideal S1x1024 .f32} (b : ℕ) (hb : b < 8) (hM : MatHolds m M)
    (hm : ∀ i j, m i j → i < j) (hK : Greedy 1000 m K) (hr : RowHolds K r (128 * b)) (init : FVec Ideal S1x128 .f32)
    (hi : ∀ j : Fin 128, init (ValueIdx.ix2 0 j) = startBlk (128 * b) r (colBlk (F := Ideal) M b) j) :
    BlkHolds K (nmsLoop (diagOf (F := Ideal) M) (128 * b) init 128) (128 * b) := fun j => by
  rw [nmsLoop_eq b hb hM hK init (fun j => (hi j).trans (startBlk_eq b hb hM hr j)) 128 le_rfl j]
  refine ind_congr ?_
  rw [hK (128 * b + j.val)]
  have hj := j.isLt
  exact and_congr_right fun _ => ⟨fun h i hi => h i (by omega), fun h i _ hk hm' => h i (hm _ _ hm') hk hm'⟩

/-- Adding a block's flags to the row of the earlier ones. -/
theorem row_holds {r r' : FVec Ideal S1x1024 .f32} {q : FVec Ideal S1x128 .f32} (lo : ℕ) (hr : RowHolds K r lo) (hq : BlkHolds K q lo)
    (he : ∀ i : Fin 1024, r' (ValueIdx.ix2 0 i) = r (ValueIdx.ix2 0 i)
      + if h : lo ≤ i.val ∧ i.val < lo + 128 then q (ValueIdx.ix2 0 ⟨i.val - lo, by omega⟩) else 0) : RowHolds K r' (lo + 128) := fun i => by
  rw [he i, hr i]
  by_cases h : lo ≤ i.val ∧ i.val < lo + 128
  · rw [dif_pos h, hq, ind_false (fun h' => by omega), zero_add]
    refine ind_congr ?_
    have : lo + (i.val - lo) = i.val := by omega
    show K (lo + (i.val - lo)) ↔ _
    rw [this]
    exact ⟨fun h' => ⟨h', h.2⟩, fun h' => h'.1⟩
  · rw [dif_neg h, add_zero]
    exact ind_congr (and_congr_right fun _ => by omega)

end Cert.Proof
end
-- ==== Proof.Flags.lean ====
/- The rows of kept flags of the propose body, block by block, and the rows it moves to the front. -/
module

public import proofs.«01_k».proof.Proof.Choice

@[expose] public section

set_option maxRecDepth 16384

noncomputable section

namespace Cert.Proof

open Cert.KernelIdeal Cert.KernelIdeal.Gen
open Idealize.ShloMosaic Idealize.ShloMosaic.TcCoe Idealize.ShloMosaic.ValueIdx

variable {K : ℕ → Prop} {m : ℕ → ℕ → Prop}

/-- The row of all flags. -/
def keep8 (M : FVec Ideal S1024x1024 .f32) : FVec Ideal S1x1024 .f32 :=
  addf (k1_pay73 (keep6 M) (blk7 M) k1_pay72)
    (concatenate S1x1024 1 [⟨S1x896, broadcast S1x896 (Scalar.sitofp .f32 0#32)⟩, ⟨S1x128, blk8 M⟩] concatenates_S1x896_S1x128_S1x1024_d1)

theorem flags_hold {M : FVec Ideal S1024x1024 .f32} (hM : MatHolds m M) (hm : ∀ i j, m i j → i < j) (hK : Greedy 1000 m K) :
    RowHolds K (keep8 M) 1024 := by
  have r0 : RowHolds K (k1_pay33 (F := Ideal)) 0 := fun i => by
    rw [ind_false (by omega)]
    exact Ideal.ofBits_zero_f32
  have b1 : BlkHolds K (blk1 M) 0 := blk_holds 0 (by omega) hM hm hK r0 _ fun j => by
    unfold k1_pay42; pointwise; exact startBlk_intro 0 (by omega) j _
  have r1 : RowHolds K (k1_pay45 k1_pay33 (blk1 M)) 128 := row_holds 0 r0 b1 fun i => by
    unfold k1_pay45; pointwise; rw [zero_word]
    have hi : ((ValueIdx.ix2 (0 : Fin 1) i) 1 : ℕ) = i.val := rfl
    split_ifs <;> first | omega | (rw [dif_pos (by omega)]; exact rfl) | rfl
  have b2 : BlkHolds K (blk2 M) 128 := blk_holds 1 (by omega) hM hm hK r1 _ fun j => by
    unfold k1_pay46; pointwise; exact startBlk_intro 128 (by omega) j _
  have r2 : RowHolds K (k1_pay49 (keep1 M) (blk2 M)) 256 := row_holds 128 r1 b2 fun i => by
    unfold k1_pay49; pointwise; rw [zero_word]
    have hi : ((ValueIdx.ix2 (0 : Fin 1) i) 1 : ℕ) = i.val := rfl
    split_ifs <;> first | omega | (rw [dif_pos (by omega)]; exact rfl) | rfl
  have b3 : BlkHolds K (blk3 M) 256 := blk_holds 2 (by omega) hM hm hK r2 _ fun j => by
    unfold k1_pay50; pointwise; exact startBlk_intro 256 (by omega) j _
  have r3 : RowHolds K (keep3 M) 384 := row_holds 256 r2 b3 fun i => by
    unfold keep3 k1_pay53; pointwise; rw [zero_word]
    have hi : ((ValueIdx.ix2 (0 : Fin 1) i) 1 : ℕ) = i.val := rfl
    split_ifs <;> first | omega | (rw [dif_pos (by omega)]; exact rfl) | rfl
  have b4 : BlkHolds K (blk4 M) 384 := blk_holds 3 (by omega) hM hm hK r3 _ fun j => by
    unfold k1_pay55 k1_pay54; pointwise; exact startBlk_intro 384 (by omega) j _
  have r4 : RowHolds K (k1_pay58 (keep3 M) (blk4 M)) 512 := row_holds 384 r3 b4 fun i => by
    unfold k1_pay58; pointwise; rw [zero_word]
    have hi : ((ValueIdx.ix2 (0 : Fin 1) i) 1 : ℕ) = i.val := rfl
    split_ifs <;> first | omega | (rw [dif_pos (by omega)]; exact rfl) | rfl
  have b5 : BlkHolds K (blk5 M) 512 := blk_holds 4 (by omega) hM hm hK r4 _ fun j => by
    unfold k1_pay59; pointwise; exact startBlk_intro 512 (by omega) j _
  have r5 : RowHolds K (keep5 M) 640 := row_holds 512 r4 b5 fun i => by
    unfold keep5 k1_pay62; pointwise; rw [zero_word]
    have hi : ((ValueIdx.ix2 (0 : Fin 1) i) 1 : ℕ) = i.val := rfl
    split_ifs <;> first | omega | (rw [dif_pos (by omega)]; exact rfl) | rfl
  have b6 : BlkHolds K (blk6 M) 640 := blk_holds 5 (by omega) hM hm hK r5 _ fun j => by
    unfold k1_pay65 k1_pay63 k1_pay64; pointwise; exact startBlk_intro 640 (by omega) j _
  have r6 : RowHolds K (keep6 M) 768 := row_holds 640 r5 b6 fun i => by
    unfold keep6 k1_pay68; pointwise; rw [zero_word]
    have hi : ((ValueIdx.ix2 (0 : Fin 1) i) 1 : ℕ) = i.val := rfl
    split_ifs <;> first | omega | (rw [dif_pos (by omega)]; exact rfl) | rfl
  have b7 : BlkHolds K (blk7 M) 768 := blk_holds 6 (by omega) hM hm hK r6 _ fun j => by
    unfold k1_pay69; pointwise; exact startBlk_intro 768 (by omega) j _
  have r7 : RowHolds K (k1_pay73 (keep6 M) (blk7 M) k1_pay72) 896 := row_holds 768 r6 b7 fun i => by
    unfold k1_pay73 k1_pay72; pointwise; rw [zero_word]
    have hi : ((ValueIdx.ix2 (0 : Fin 1) i) 1 : ℕ) = i.val := rfl
    split_ifs <;> first | omega | (rw [dif_pos (by omega)]; exact rfl) | rfl
  have b8 : BlkHolds K (blk8 M) 896 := blk_holds 7 (by omega) hM hm hK r7 _ fun j => by
    unfold k1_pay74; pointwise; exact startBlk_intro 896 (by omega) j _
  exact row_holds (r' := keep8 M) 896 r7 b8 fun i => by
    unfold keep8; pointwise; rw [zero_word]
    have hi : ((ValueIdx.ix2 (0 : Fin 1) i) 1 : ℕ) = i.val := rfl
    split_ifs <;> first | omega | (rw [dif_pos (by omega)]; exact rfl) | rfl

/-! ## Moving the kept rows to the front -/

theorem half_word : Ideal.ofBits FTy.f32 1056964608#32 = ((1 / 2 : ℝ) : EReal) := by
  simp [Ideal.ofBits, Ideal.ieee, -EReal.coe_mul]; norm_num

theorem fptosi_nat (n : ℕ) (hn : n ≤ 2048) : Ideal.fptosi 32 ((n : ℕ) : EReal) = BitVec.ofNat 32 n := by
  show BitVec.ofInt 32 (max _ (min _ (if (0 : ℝ) ≤ ((n : ℕ) : ℝ) then ⌊((n : ℕ) : ℝ)⌋ else _))) = _
  rw [if_pos (Nat.cast_nonneg n), Int.floor_natCast, min_eq_right (by omega), max_eq_right (by omega)]
  exact BitVec.ofInt_natCast 32 n

/-- The selector of the row of flags `w`: row `r` marks the kept place with `r` kept places below it. -/
def frontOf (w : FVec Ideal S1x1024 .f32) : FVec Ideal S384x1024 .f32 :=
  select (andi (cmpi .eq (broadcastTo S384x1024 (fptosi 32 (matmul dot_S1x1024_S1024x1024_S1x1024_1_0_0_1_n_n (some .fp32) w
      (select (cmpi .slt (iota .tc S1024x1024 32 [0] iota_S1024x1024_d0_w32) (iota .tc S1024x1024 32 [1] iota_S1024x1024_d1_w32))
        (broadcast S1024x1024 (Scalar.ofBits .f32 0x3F800000#32)) (broadcast S1024x1024 (Scalar.ofBits .f32 0x00000000#32)))
      (constant S1x1024 .f32 0x00000000#32))) broadcasts_S1x1024_S384x1024) (iota .tc S384x1024 32 [0] iota_S384x1024_d0_w32))
    (broadcastTo S384x1024 (cmpf .ogt w (broadcast S1x1024 (Scalar.ofBits .f32 0x3F000000#32))) broadcasts_S1x1024_S384x1024))
    (broadcast S384x1024 (Scalar.ofBits .f32 0x3F800000#32)) (broadcast S384x1024 (Scalar.ofBits .f32 0x00000000#32))

open Classical in
theorem frontOf_eq (w : FVec Ideal S1x1024 .f32) (hw : RowHolds K w 1024) (r : Fin 384) (j : Fin 1024) :
    frontOf w (ValueIdx.ix2 r j) = ind (K j.val ∧ cntBelow K j.val = r.val) := by
  unfold frontOf
  pointwise
  have hj := j.isLt
  have hr := r.isLt
  have es : (∑ x : Fin 1024, Scalar.select (IntOp.cmpi .slt (BitVec.ofNat 32 x.val) (BitVec.ofNat 32 j.val)) (w (ValueIdx.ix2 0 x)) (0 : EReal))
      = ((cntBelow K j.val : ℕ) : EReal) := by
    have e : ∀ x : Fin 1024, Scalar.select (IntOp.cmpi .slt (BitVec.ofNat 32 x.val) (BitVec.ofNat 32 j.val)) (w (ValueIdx.ix2 0 x)) (0 : EReal)
        = ind (K x.val ∧ x.val < j.val) := fun x => by
      have hx := x.isLt
      rw [select_slt (by omega) (by omega), hw x]
      by_cases h : x.val < j.val
      · rw [if_pos h]; exact ind_congr ⟨fun h' => ⟨h'.1, h⟩, fun h' => ⟨h'.1, hx⟩⟩
      · rw [if_neg h, ind_false (fun h' => h h'.2)]
    rw [Finset.sum_congr rfl fun x _ => e x, sum_ind]
    congr 1
    unfold cntBelow
    refine Finset.card_bij (fun x _ => x.val) (fun x hx => ?_) (fun x _ y _ h => Fin.ext h) (fun x hx => ?_)
    · simp only [Finset.mem_filter, Finset.mem_univ, true_and, Finset.mem_range] at hx ⊢
      exact ⟨hx.2, hx.1⟩
    · simp only [Finset.mem_filter, Finset.mem_range] at hx
      exact ⟨⟨x, by omega⟩, by simp only [Finset.mem_filter, Finset.mem_univ, true_and]; exact ⟨hx.2, hx.1⟩, rfl⟩
  have hc : cntBelow K j.val ≤ 1024 := by
    have := Finset.card_filter_le (Finset.range j.val) K
    rw [Finset.card_range] at this
    exact this.trans (by omega)
  have e1 : (FloatOps.fptosi (F := Ideal) (φ := .f32) 32 ((cntBelow K j.val : ℕ) : EReal)) = BitVec.ofNat 32 (cntBelow K j.val) := fptosi_nat _ (hc.trans (by decide))
  have e2 : (IntOp.cmpi .eq (BitVec.ofNat 32 (cntBelow K j.val)) (BitVec.ofNat 32 r.val)) = if cntBelow K j.val = r.val then 1#1 else 0#1 := by
    have := select_eq (a := cntBelow K j.val) (b := r.val) (by omega) (by omega) (1#1) (0#1)
    rw [← this]
    generalize IntOp.cmpi .eq (BitVec.ofNat 32 (cntBelow K j.val)) (BitVec.ofNat 32 r.val) = z
    revert z; decide
  have e3 : decide (Ideal.ofBits FTy.f32 1056964608#32 < w (ValueIdx.ix2 0 j)) = decide (K j.val) := by
    rw [hw j]
    have hh : Ideal.ofBits FTy.f32 1056964608#32 = ((1 / 2 : ℝ) : EReal) := half_word
    rw [hh]
    by_cases hk : K j.val
    · rw [ind_true ⟨hk, hj⟩]
      simp only [hk, decide_true, decide_eq_true_eq]
      exact_mod_cast (by norm_num : (1 / 2 : ℝ) < 1)
    · rw [ind_false (fun h => hk h.1)]
      simp only [hk, decide_false, decide_eq_false_iff_not, not_lt]
      exact_mod_cast (by norm_num : (0 : ℝ) ≤ 1 / 2)
  show Scalar.select (IntOp.andi (IntOp.cmpi .eq (FloatOps.fptosi (F := Ideal) (φ := .f32) 32 (∑ x : Fin 1024, Scalar.select (IntOp.cmpi .slt (BitVec.ofNat 32 x.val)
    (BitVec.ofNat 32 j.val)) (w (ValueIdx.ix2 0 x)) (0 : EReal))) (BitVec.ofNat 32 r.val))
    (BitVec.ofBool (decide (Ideal.ofBits FTy.f32 1056964608#32 < w (ValueIdx.ix2 0 j))))) (1 : EReal) 0 = _
  rw [es, e1, e2, e3]
  by_cases hk : K j.val <;> by_cases hp : cntBelow K j.val = r.val <;> simp [hk, hp, ind, Scalar.select, IntOp.andi]

theorem proposeVal_raw (x0 : Vec Ideal S2048x128 .f32) (x1 : Vec Ideal S1x2048 .f32) (r : Fin 384) (l : Fin 128) :
    proposeVal x0 x1 (ValueIdx.ix2 r l) = ∑ j : Fin 1024, frontOf (keep8 (overMat x0 x1)) (ValueIdx.ix2 r j) * detMat x0 x1 (ValueIdx.ix2 j l) := by
  have e : proposeVal x0 x1 = k1_pay1 (detMat x0 x1) (frontOf (keep8 (overMat x0 x1))) := rfl
  rw [e]
  unfold k1_pay1
  pointwise
  exact Finset.sum_congr rfl fun k _ => rfl

/-- A row of the result that a kept box of that place fills. -/
theorem proposeVal_kept (x0 : Vec Ideal S2048x128 .f32) (x1 : Vec Ideal S1x2048 .f32) (hM : MatHolds m (overMat x0 x1))
    (hm : ∀ i j, m i j → i < j) (hK : Greedy 1000 m K) (r : Fin 384) (l : Fin 128) (j : Fin 1024) (hj : K j.val) (hr : cntBelow K j.val = r.val) :
    proposeVal x0 x1 (ValueIdx.ix2 r l) = detMat x0 x1 (ValueIdx.ix2 j l) := by
  rw [proposeVal_raw, Finset.sum_eq_single j]
  · rw [frontOf_eq _ (flags_hold hM hm hK), ind_true ⟨hj, hr⟩]
    exact one_mul _
  · intro i _ hi
    rw [frontOf_eq _ (flags_hold hM hm hK), ind_false]
    · exact zero_mul _
    · rintro ⟨hk, hc⟩
      exact hi (Fin.ext (kept_place_unique hk hj (hc.trans hr.symm)))
  · intro h
    exact absurd (Finset.mem_univ _) h

/-- A row of the result that no kept box fills. -/
theorem proposeVal_none (x0 : Vec Ideal S2048x128 .f32) (x1 : Vec Ideal S1x2048 .f32) (hM : MatHolds m (overMat x0 x1))
    (hm : ∀ i j, m i j → i < j) (hK : Greedy 1000 m K) (r : Fin 384) (l : Fin 128) (h : ∀ j, K j → cntBelow K j ≠ r.val) :
    proposeVal x0 x1 (ValueIdx.ix2 r l) = 0 := by
  rw [proposeVal_raw]
  refine Finset.sum_eq_zero fun i _ => ?_
  rw [frontOf_eq _ (flags_hold hM hm hK), ind_false]
  · exact zero_mul _
  · rintro ⟨hk, hc⟩
    exact h _ hk hc

end Cert.Proof
end
-- ==== Proof.Ranks.lean ====
/- The ranked rows of the propose body: row `r` is the packed row of rank `r`. -/
module

public import proofs.«01_k».proof.Proof.Flags

@[expose] public section

set_option maxRecDepth 16384

noncomputable section

namespace Cert.Proof

open Cert.KernelIdeal Cert.KernelIdeal.Gen
open Idealize.ShloMosaic Idealize.ShloMosaic.TcCoe Idealize.ShloMosaic.ValueIdx

theorem flag_word (p q r : Prop) [Decidable p] [Decidable q] [Decidable r] :
    (FloatOps.sitofp (F := Ideal) .f32 (BitVec.setWidth 32 (IntOp.ori (BitVec.ofBool (decide p)) (IntOp.andi (BitVec.ofBool (decide q)) (BitVec.ofBool (decide r))))) : EReal)
      = ind (p ∨ (q ∧ r)) := by
  have h1 : (FloatOps.sitofp (F := Ideal) .f32 (1#32) : EReal) = 1 := by
    show (((1#32 : BitVec 32).toInt : ℝ) : EReal) = 1
    simp
  have h0 : (FloatOps.sitofp (F := Ideal) .f32 (0#32) : EReal) = 0 := by
    show (((0#32 : BitVec 32).toInt : ℝ) : EReal) = 0
    simp
  by_cases hp : p <;> by_cases hq : q <;> by_cases hr : r <;> simp [hp, hq, hr, ind, IntOp.ori, IntOp.andi, h1, h0]

theorem ranked_row (x0 : Vec Ideal S2048x128 .f32) (x1 : Vec Ideal S1x2048 .f32) (S : Fin 2048 → EReal)
    (h0 : ∀ a : Fin 2048, x0 (ValueIdx.ix2 a 8) = S a) (h1 : ∀ a : Fin 2048, x1 (ValueIdx.ix2 0 a) = S a) (r : Fin 1024) (l : Fin 128)
    (b : Fin 2048) (hb : rk S b = r.val) : k1_pay2 (F := Ideal) x0 x1 (ValueIdx.ix2 r l) = x0 (ValueIdx.ix2 b l) := by
  have hr := r.isLt
  have hs : ∀ x : Fin 2048, (∑ x_1 : Fin 2048, (FloatOps.sitofp (F := Ideal) .f32 (BitVec.setWidth 32 (IntOp.ori
        (BitVec.ofBool (decide (x1 (ValueIdx.ix2 0 x) < x0 (ValueIdx.ix2 x_1 8))))
        (IntOp.andi (BitVec.ofBool (decide (x0 (ValueIdx.ix2 x_1 8) = x1 (ValueIdx.ix2 0 x))))
          (IntOp.cmpi .slt (BitVec.ofNat 32 x_1.val) (BitVec.ofNat 32 x.val))))) : EReal)) = ((rk S x : ℕ) : EReal) := fun x => by
    have e : ∀ x_1 : Fin 2048, (FloatOps.sitofp (F := Ideal) .f32 (BitVec.setWidth 32 (IntOp.ori
        (BitVec.ofBool (decide (x1 (ValueIdx.ix2 0 x) < x0 (ValueIdx.ix2 x_1 8))))
        (IntOp.andi (BitVec.ofBool (decide (x0 (ValueIdx.ix2 x_1 8) = x1 (ValueIdx.ix2 0 x))))
          (IntOp.cmpi .slt (BitVec.ofNat 32 x_1.val) (BitVec.ofNat 32 x.val))))) : EReal) = ind (before S x_1 x = true) := fun x_1 => by
      have ha := x_1.isLt
      have hx := x.isLt
      have es : IntOp.cmpi .slt (BitVec.ofNat 32 x_1.val) (BitVec.ofNat 32 x.val) = BitVec.ofBool (decide (x_1 < x)) := by
        show BitVec.ofBool ((BitVec.ofNat 32 x_1.val).slt (BitVec.ofNat 32 x.val)) = _
        rw [slt_ofNat (by omega) (by omega)]
        simp only [Fin.lt_def]
      rw [es, h0, h1, flag_word]
      exact ind_congr (before_iff S x_1 x).symm
    rw [Finset.sum_congr rfl fun x_1 _ => e x_1, sum_ind]
    congr 1
    unfold rk
    congr 1
    ext a
    simp
  have ht : ∀ x : Fin 2048, Scalar.select (IntOp.cmpi .eq (FloatOps.fptosi (F := Ideal) (φ := .f32) 32
        (∑ x_1 : Fin 2048, (FloatOps.sitofp (F := Ideal) .f32 (BitVec.setWidth 32 (IntOp.ori
          (BitVec.ofBool (decide (x1 (ValueIdx.ix2 0 x) < x0 (ValueIdx.ix2 x_1 8))))
          (IntOp.andi (BitVec.ofBool (decide (x0 (ValueIdx.ix2 x_1 8) = x1 (ValueIdx.ix2 0 x))))
            (IntOp.cmpi .slt (BitVec.ofNat 32 x_1.val) (BitVec.ofNat 32 x.val))))) : EReal))) (BitVec.ofNat 32 r.val)) (x0 (ValueIdx.ix2 x l)) (0 : EReal)
      = if x = b then x0 (ValueIdx.ix2 x l) else 0 := fun x => by
    have hx := rk_lt S x
    have e1 : FloatOps.fptosi (F := Ideal) (φ := .f32) 32 ((rk S x : ℕ) : EReal) = BitVec.ofNat 32 (rk S x) := fptosi_nat _ hx.le
    rw [hs x, e1, select_eq (by omega) (by omega), ← hb]
    by_cases h : x = b
    · rw [if_pos h, if_pos (congrArg _ h)]
    · rw [if_neg h, if_neg (fun h' => h (rk_injective S h'))]
  unfold k1_pay2
  pointwise
  refine (Finset.sum_congr rfl fun x _ => ht x).trans ?_
  simp only [Finset.sum_ite_eq', Finset.mem_univ, if_true]

end Cert.Proof
end
-- ==== Proof.Box.lean ====
/- One decoded box, and how far two overlap. -/
module

public import proofs.«01_k».proof.Proof.Choice

@[expose] public section

set_option maxRecDepth 16384

noncomputable section

namespace Cert.Proof

open Cert.KernelIdeal Cert.KernelIdeal.Gen
open Idealize.ShloMosaic Idealize.ShloMosaic.TcCoe Idealize.ShloMosaic.ValueIdx

/-! ## One box -/

/-- The lower corner on one axis of the box that the offset `d` and the log size `e` decode from the anchor `[a, b]`, clipped to the image. -/
def lowCorner (d e a b : EReal) : EReal :=
  min (Ideal.ofBits .f32 0x43600000#32) (max 0 ((d * (b - a) + (a + Ideal.ofBits .f32 0x3F000000#32 * (b - a)))
    - Ideal.ofBits .f32 0x3F000000#32 * (Ideal.exp (min e (Ideal.ofBits .f32 0x40845349#32)) * (b - a))))

/-- The upper corner on the axis. -/
def highCorner (d e a b : EReal) : EReal :=
  min (Ideal.ofBits .f32 0x43600000#32) (max 0 ((d * (b - a) + (a + Ideal.ofBits .f32 0x3F000000#32 * (b - a)))
    + Ideal.ofBits .f32 0x3F000000#32 * (Ideal.exp (min e (Ideal.ofBits .f32 0x40845349#32)) * (b - a))))

/-- The four corners of the box of a row: offsets and log sizes in its entries 0 to 3, the anchor in its entries 4 to 7. -/
def corner (f : ℕ → EReal) : Fin 4 → EReal
  | 0 => lowCorner (f 0) (f 2) (f 4) (f 6)
  | 1 => lowCorner (f 1) (f 3) (f 5) (f 7)
  | 2 => highCorner (f 0) (f 2) (f 4) (f 6)
  | 3 => highCorner (f 1) (f 3) (f 5) (f 7)

/-- The area of a box. -/
def areaOf (p : Fin 4 → EReal) : EReal := (p 2 - p 0) * (p 3 - p 1)

/-- The area two boxes share. -/
def shared (p q : Fin 4 → EReal) : EReal := max 0 (min (p 2) (q 2) - max (p 0) (q 0)) * max 0 (min (p 3) (q 3) - max (p 1) (q 1))

/-- How far two boxes overlap: what they share over what they cover. -/
def overlap (p q : Fin 4 → EReal) : EReal :=
  Ideal.div (shared p q) (areaOf p + areaOf q - shared p q + Ideal.ofBits .f32 0x3089705F#32)

/-- Box `i` of a list removes the later box `j`. -/
def removes (box : ℕ → Fin 4 → EReal) (i j : ℕ) : Prop := Ideal.ofBits .f32 0x3F333333#32 < overlap (box i) (box j) ∧ i < j

/-! ## The columns of the ranked rows -/

theorem expf_apply {s : Shape} (x : FVec Ideal s .f32) (i : s.Idx) : exp x i = Ideal.exp (x i) := rfl
theorem logisticf_apply {s : Shape} (x : FVec Ideal s .f32) (i : s.Idx) : logistic x i = Ideal.logistic (x i) := rfl
theorem word_apply {s : Shape} (w : BitVec 32) (i : s.Idx) : broadcast s (Scalar.ofBits (F := Ideal) .f32 w) i = Ideal.ofBits .f32 w := rfl

end Cert.Proof
-- ==== Proof.Image.lean ====
/- The convolution and its two heads as sums over the image's pixels: what both programs read. -/
module

public import proofs.«01_k».proof.Proof.Box
public import Idealize.ShloMosaic.Lib.ValueIdx

@[expose] public section

noncomputable section

namespace Cert.Proof

open Idealize.ShloMosaic Idealize.ShloMosaic.ValueIdx

/-- Channel `ch` of the image at row `y`, column `x`: the tokens after the first, read as 768 planes of 14 by 14. -/
def pixel (im : (⟨3, ![1, 197, 768]⟩ : Shape).Idx → EReal) (ch y x : ℕ) : EReal :=
  im (ValueIdx.ix3 0 (Fin.ofNat 197 (1 + (ch * 196 + (y * 14 + x)) / 768)) (Fin.ofNat 768 (ch * 196 + (y * 14 + x))))

/-- The image with a border of zeros. -/
def border (im : (⟨3, ![1, 197, 768]⟩ : Shape).Idx → EReal) (a b ch : ℕ) : EReal :=
  if (1 ≤ a ∧ a - 1 < 14) ∧ 1 ≤ b ∧ b - 1 < 14 then pixel im ch (a - 1) (b - 1) else 0

/-- One tap of the convolution. -/
def tap (im : (⟨3, ![1, 197, 768]⟩ : Shape).Idx → EReal) (w : (⟨4, ![768, 768, 3, 3]⟩ : Shape).Idx → EReal) (a b : ℕ) (o : Fin 768) (ky kx : Fin 3) : EReal :=
  ∑ ch : Fin 768, border im (a + ky.val) (b + kx.val) ch.val * w (ValueIdx.ix4 o ch ky kx)

/-- The hidden feature `o` at row `a`, column `b`. -/
def hidden (im : (⟨3, ![1, 197, 768]⟩ : Shape).Idx → EReal) (w : (⟨4, ![768, 768, 3, 3]⟩ : Shape).Idx → EReal) (bias : (⟨1, ![768]⟩ : Shape).Idx → EReal)
    (a b : ℕ) (o : Fin 768) : EReal :=
  max (tap im w a b o 0 0 + tap im w a b o 0 1 + tap im w a b o 0 2 + tap im w a b o 1 0 + tap im w a b o 1 1 + tap im w a b o 1 2
    + tap im w a b o 2 0 + tap im w a b o 2 1 + tap im w a b o 2 2 + bias (ValueIdx.ix1 o)) 0

/-- An output of a head with `n` outputs. -/
def headOf {n : ℕ} (im : (⟨3, ![1, 197, 768]⟩ : Shape).Idx → EReal) (w : (⟨4, ![768, 768, 3, 3]⟩ : Shape).Idx → EReal) (bias : (⟨1, ![768]⟩ : Shape).Idx → EReal)
    (h : (⟨4, ![n, 768, 1, 1]⟩ : Shape).Idx → EReal) (hb : (⟨1, ![n]⟩ : Shape).Idx → EReal) (a b : ℕ) (q : Fin n) : EReal :=
  (∑ o : Fin 768, hidden im w bias a b o * h (ValueIdx.ix4 q o 0 0)) + hb (ValueIdx.ix1 q)

end Cert.Proof
-- ==== Proof.HostEnds.lean ====
/- The table the second kernel reads, and what the program returns of its result, entry by entry. -/
module

public import proofs.«01_k».proof.Proof.RunMain
public import proofs.«01_k».proof.Proof.Ranks
public import proofs.«01_k».proof.Proof.Image
public import Idealize.ShloMosaic.Lib.Pointwise
public import Idealize.ShloMosaic.Lib.ValueLayout
public import Idealize.ShloMosaic.Lib.StableHlo.ReadAt

@[expose] public section

set_option maxRecDepth 16384
set_option maxHeartbeats 1000000

noncomputable section

namespace Cert.Proof

open Cert.KernelIdeal Cert.KernelIdeal.Gen
open Idealize.ShloMosaic Idealize.ShloMosaic.TcCoe Idealize.ShloMosaic.StableHlo Idealize.ShloMosaic.ValueIdx

variable (V : Valuation τ sig (Elt Ideal))

theorem padded_moves (n : Fin 2048) (hn : n.val < 1764) (l : Fin 4) : (after (hostOps1_3 (F := Ideal)) V (Proc.devRef .tc main_v76) (ValueIdx.ix2 n l) : EReal) = V (Proc.devRef .tc main_v27) (ValueIdx.ix2 ⟨n.val, hn⟩ l) := by
  after_reads_at
  exact dif_pos hn

theorem padded_anchors (n : Fin 2048) (hn : n.val < 1764) (l : Fin 4) : (after (hostOps1_5 (F := Ideal)) V (Proc.devRef .tc main_v77) (ValueIdx.ix2 n l) : EReal) = V (Proc.devRef .tc main_v75) (ValueIdx.ix2 ⟨n.val, hn⟩ l) := by
  after_reads_at
  exact dif_pos hn

theorem padding_word : (after (hostOps1_6 (F := Ideal)) V (Proc.devRef .tc main_cst_10) ValueIdx.ix0 : EReal) = Ideal.ofBits .f32 0xFF61B1E6#32 := by
  after_reads_simp
  rfl

theorem padded_scores (n : Fin 2048) (hn : n.val < 1764) : (after (hostOps1_7 (F := Ideal)) V (Proc.devRef .tc main_v78) (ValueIdx.ix1 n) : EReal) = V (Proc.devRef .tc main_v25) (ValueIdx.ix1 ⟨n.val, hn⟩) := by
  after_reads_at
  exact dif_pos hn

theorem padded_low (n : Fin 2048) (hn : 1764 ≤ n.val) : (after (hostOps1_7 (F := Ideal)) V (Proc.devRef .tc main_v78) (ValueIdx.ix1 n) : EReal) = V (Proc.devRef .tc main_cst_10) ValueIdx.ix0 := by
  after_reads_at
  refine (dif_neg (Nat.not_lt.mpr hn)).trans ?_
  exact congrArg (V (Proc.devRef .tc main_cst_10)) (ValueIdx.eq_ix0 _)

theorem table_early (n : Fin 2048) : (after ((hostOps1_8 (F := Ideal)).take 3) V (Proc.devRef .tc main_v79) (ValueIdx.ix2 n 0) : EReal) = V (Proc.devRef .tc main_v78) (ValueIdx.ix1 n) := by
  simp only [hostOps1_8, List.take_succ_cons, List.take_zero]
  after_reads_at
  rfl

theorem table_row (n : Fin 2048) : (after (hostOps1_8 (F := Ideal)) V (Proc.devRef .tc main_v82) (ValueIdx.ix2 0 n) : EReal) = V (Proc.devRef .tc main_v78) (ValueIdx.ix1 n) := by
  after_reads_at
  rfl

theorem table_moves (n : Fin 2048) (l : Fin 4) : (after (hostOps1_8 (F := Ideal)) V (Proc.devRef .tc main_v81) (ValueIdx.ix2 n ⟨l.val, by omega⟩) : EReal) = V (Proc.devRef .tc main_v76) (ValueIdx.ix2 n l) := by
  have hl := l.isLt
  rw [show after (hostOps1_8 (F := Ideal)) V (Proc.devRef .tc main_v81) = after ((hostOps1_8 (F := Ideal)).drop 3) (after ((hostOps1_8 (F := Ideal)).take 3) V) (Proc.devRef .tc main_v81) from rfl,
    show V (Proc.devRef .tc main_v76) = after ((hostOps1_8 (F := Ideal)).take 3) V (Proc.devRef .tc main_v76) from rfl]
  generalize after ((hostOps1_8 (F := Ideal)).take 3) V = W
  simp only [hostOps1_8, List.drop_succ_cons, List.drop_zero]
  after_reads_at
  rfl

theorem table_anchors (n : Fin 2048) (l : Fin 4) : (after (hostOps1_8 (F := Ideal)) V (Proc.devRef .tc main_v81) (ValueIdx.ix2 n ⟨4 + l.val, by omega⟩) : EReal) = V (Proc.devRef .tc main_v77) (ValueIdx.ix2 n l) := by
  have hl := l.isLt
  rw [show after (hostOps1_8 (F := Ideal)) V (Proc.devRef .tc main_v81) = after ((hostOps1_8 (F := Ideal)).drop 3) (after ((hostOps1_8 (F := Ideal)).take 3) V) (Proc.devRef .tc main_v81) from rfl,
    show V (Proc.devRef .tc main_v77) = after ((hostOps1_8 (F := Ideal)).take 3) V (Proc.devRef .tc main_v77) from rfl]
  generalize after ((hostOps1_8 (F := Ideal)).take 3) V = W
  simp only [hostOps1_8, List.drop_succ_cons, List.drop_zero]
  after_reads_at
  rfl

theorem table_scores (n : Fin 2048) : (after (hostOps1_8 (F := Ideal)) V (Proc.devRef .tc main_v81) (ValueIdx.ix2 n 8) : EReal) = V (Proc.devRef .tc main_v78) (ValueIdx.ix1 n) := by
  rw [← table_early V n, show after (hostOps1_8 (F := Ideal)) V (Proc.devRef .tc main_v81) = after ((hostOps1_8 (F := Ideal)).drop 3) (after ((hostOps1_8 (F := Ideal)).take 3) V) (Proc.devRef .tc main_v81) from rfl]
  generalize after ((hostOps1_8 (F := Ideal)).take 3) V = W
  simp only [hostOps1_8, List.drop_succ_cons, List.drop_zero]
  after_reads_at
  rfl

theorem rows_out (r : Fin 300) (l : Fin 4) : (after (hostOps2 (F := Ideal)) V (Proc.devRef .tc main_v84) (ValueIdx.ix2 r l) : EReal) = V (Proc.devRef .tc main_v83) (ValueIdx.ix2 ⟨r.val, by omega⟩ ⟨l.val, by omega⟩) := by
  after_reads_at
  rfl

theorem scores_out (r : Fin 300) : (after (hostOps2 (F := Ideal)) V (Proc.devRef .tc main_v86) (ValueIdx.ix1 r) : EReal) = V (Proc.devRef .tc main_v83) (ValueIdx.ix2 ⟨r.val, by omega⟩ 5) := by
  after_reads_at
  rfl

end Cert.Proof
-- ==== Proof.Columns.lean ====
/- The columns of the ranked rows, entry by entry. -/
module

public import proofs.«01_k».proof.Proof.Box

@[expose] public section

set_option maxRecDepth 16384

noncomputable section

namespace Cert.Proof

open Cert.KernelIdeal Cert.KernelIdeal.Gen
open Idealize.ShloMosaic Idealize.ShloMosaic.TcCoe Idealize.ShloMosaic.ValueIdx

attribute [local irreducible] k1_pay2 Ideal.exp Ideal.logistic Ideal.ofBits

variable (x0 : Vec Ideal S2048x128 .f32) (x1 : Vec Ideal S1x2048 .f32) (j : Fin 1024)

/-- Row `j` of the ranked rows. -/
def ranked (c : ℕ) : EReal := k1_pay2 (F := Ideal) x0 x1 (ValueIdx.ix2 j (Fin.ofNat 128 c))

theorem pay3_eq : k1_pay3 (F := Ideal) x0 x1 (ValueIdx.ix2 j 0) = ranked x0 x1 j 0 := by
  unfold k1_pay3 ranked; generalize k1_pay2 x0 x1 = P; pointwise; rfl
theorem pay4_eq : k1_pay4 (F := Ideal) x0 x1 (ValueIdx.ix2 j 0) = ranked x0 x1 j 1 := by
  unfold k1_pay4 ranked; generalize k1_pay2 x0 x1 = P; pointwise; rfl
theorem pay5_eq : k1_pay5 (F := Ideal) x0 x1 (ValueIdx.ix2 j 0) = ranked x0 x1 j 3 := by
  unfold k1_pay5 ranked; generalize k1_pay2 x0 x1 = P; pointwise; rfl
theorem pay6_eq : k1_pay6 (F := Ideal) x0 x1 (ValueIdx.ix2 j 0) = ranked x0 x1 j 4 := by
  unfold k1_pay6 ranked; generalize k1_pay2 x0 x1 = P; pointwise; rfl
theorem pay7_eq : k1_pay7 (F := Ideal) x0 x1 (ValueIdx.ix2 j 0) = ranked x0 x1 j 5 := by
  unfold k1_pay7 ranked; generalize k1_pay2 x0 x1 = P; pointwise; rfl
theorem pay8_eq : k1_pay8 (F := Ideal) x0 x1 (ValueIdx.ix2 j 0) = ranked x0 x1 j 8 := by
  unfold k1_pay8 ranked; generalize k1_pay2 x0 x1 = P; pointwise; rfl
theorem pay9_eq : k1_pay9 (F := Ideal) x0 x1 (ValueIdx.ix2 j 0) = ranked x0 x1 j 6 - ranked x0 x1 j 4 := by
  have h : extractStridedSlice S1024x1 ![0, 6] (k1_pay2 (F := Ideal) x0 x1) slices_S1024x128_o0_6_S1024x1 (ValueIdx.ix2 j 0) = ranked x0 x1 j 6 := by
    unfold ranked; generalize k1_pay2 x0 x1 = P; pointwise; rfl
  rw [← h, ← pay6_eq]
  unfold k1_pay9
  exact ValueIdx.subf_apply _ _ _
theorem pay10_eq : k1_pay10 (F := Ideal) x0 x1 (ValueIdx.ix2 j 0) = ranked x0 x1 j 7 - ranked x0 x1 j 5 := by
  have h : extractStridedSlice S1024x1 ![0, 7] (k1_pay2 (F := Ideal) x0 x1) slices_S1024x128_o0_7_S1024x1 (ValueIdx.ix2 j 0) = ranked x0 x1 j 7 := by
    unfold ranked; generalize k1_pay2 x0 x1 = P; pointwise; rfl
  rw [← h, ← pay7_eq]
  unfold k1_pay10
  exact ValueIdx.subf_apply _ _ _
theorem pay11_eq : k1_pay11 (F := Ideal) x0 x1 (ValueIdx.ix2 j 0)
    = ranked x0 x1 j 4 + Ideal.ofBits .f32 0x3F000000#32 * (ranked x0 x1 j 6 - ranked x0 x1 j 4) := by
  rw [← pay9_eq, ← pay6_eq]
  unfold k1_pay11
  generalize k1_pay9 x0 x1 = a
  generalize k1_pay6 x0 x1 = b
  rw [ValueIdx.addf_apply, ValueIdx.mulf_apply, word_apply]
theorem pay12_eq : k1_pay12 (F := Ideal) x0 x1 (ValueIdx.ix2 j 0)
    = ranked x0 x1 j 5 + Ideal.ofBits .f32 0x3F000000#32 * (ranked x0 x1 j 7 - ranked x0 x1 j 5) := by
  rw [← pay10_eq, ← pay7_eq]
  unfold k1_pay12
  generalize k1_pay10 x0 x1 = a
  generalize k1_pay7 x0 x1 = b
  rw [ValueIdx.addf_apply, ValueIdx.mulf_apply, word_apply]
theorem pay13_eq : k1_pay13 (F := Ideal) x0 x1 (ValueIdx.ix2 j 0) = min (ranked x0 x1 j 2) (Ideal.ofBits .f32 0x40845349#32) := by
  have h : extractStridedSlice S1024x1 ![0, 2] (k1_pay2 (F := Ideal) x0 x1) slices_S1024x128_o0_2_S1024x1 (ValueIdx.ix2 j 0) = ranked x0 x1 j 2 := by
    unfold ranked; generalize k1_pay2 x0 x1 = P; pointwise; rfl
  rw [← h]
  unfold k1_pay13
  generalize extractStridedSlice S1024x1 ![0, 2] (k1_pay2 (F := Ideal) x0 x1) slices_S1024x128_o0_2_S1024x1 = a
  rw [ValueIdx.minimumf_apply, word_apply]

/-- The lower x corner before it is spread over the lanes. -/
def colLow : FVec Ideal S1024x1 .f32 := k1_pay19 (k1_pay3 x0 x1) (k1_pay9 x0 x1) (k1_pay11 x0 x1) (k1_pay13 x0 x1)

theorem colLow_eq : colLow x0 x1 (ValueIdx.ix2 j 0) = corner (ranked x0 x1 j) 0 := by
  show _ = lowCorner (ranked x0 x1 j 0) (ranked x0 x1 j 2) (ranked x0 x1 j 4) (ranked x0 x1 j 6)
  unfold lowCorner
  rw [← pay3_eq, ← pay13_eq, ← pay11_eq, ← pay9_eq, ← Ideal.ofBits_zero_f32]
  unfold colLow k1_pay19 k1_pay17 k1_pay15
  generalize k1_pay3 x0 x1 = a
  generalize k1_pay9 x0 x1 = b
  generalize k1_pay11 x0 x1 = c
  generalize k1_pay13 x0 x1 = d
  rw [ValueIdx.minimumf_apply, word_apply, ValueIdx.maximumf_apply, word_apply, ValueIdx.subf_apply, ValueIdx.addf_apply, ValueIdx.mulf_apply, ValueIdx.mulf_apply,
    word_apply, ValueIdx.mulf_apply, expf_apply]

theorem colX2_eq : colX2 x0 x1 (ValueIdx.ix2 j 0) = corner (ranked x0 x1 j) 2 := by
  show _ = highCorner (ranked x0 x1 j 0) (ranked x0 x1 j 2) (ranked x0 x1 j 4) (ranked x0 x1 j 6)
  unfold highCorner
  rw [← pay3_eq, ← pay13_eq, ← pay11_eq, ← pay9_eq, ← Ideal.ofBits_zero_f32]
  unfold colX2 k1_pay21 k1_pay17 k1_pay15
  generalize k1_pay3 x0 x1 = a
  generalize k1_pay9 x0 x1 = b
  generalize k1_pay11 x0 x1 = c
  generalize k1_pay13 x0 x1 = d
  rw [ValueIdx.minimumf_apply, word_apply, ValueIdx.maximumf_apply, word_apply, ValueIdx.addf_apply, ValueIdx.addf_apply, ValueIdx.mulf_apply, ValueIdx.mulf_apply,
    word_apply, ValueIdx.mulf_apply, expf_apply]

theorem pay5_min : min (k1_pay5 (F := Ideal) x0 x1 (ValueIdx.ix2 j 0)) (Ideal.ofBits .f32 0x40845349#32) = min (ranked x0 x1 j 3) (Ideal.ofBits .f32 0x40845349#32) := by
  rw [pay5_eq]

theorem colY1_eq : colY1 x0 x1 (ValueIdx.ix2 j 0) = corner (ranked x0 x1 j) 1 := by
  show _ = lowCorner (ranked x0 x1 j 1) (ranked x0 x1 j 3) (ranked x0 x1 j 5) (ranked x0 x1 j 7)
  unfold lowCorner
  rw [← pay4_eq, ← pay5_eq, ← pay12_eq, ← pay10_eq, ← Ideal.ofBits_zero_f32]
  unfold colY1 k1_pay20 k1_pay18 k1_pay16 k1_pay14
  generalize k1_pay4 x0 x1 = a
  generalize k1_pay10 x0 x1 = b
  generalize k1_pay12 x0 x1 = c
  generalize k1_pay5 x0 x1 = d
  rw [ValueIdx.minimumf_apply, word_apply, ValueIdx.maximumf_apply, word_apply, ValueIdx.subf_apply, ValueIdx.addf_apply, ValueIdx.mulf_apply, ValueIdx.mulf_apply,
    word_apply, ValueIdx.mulf_apply, expf_apply, ValueIdx.minimumf_apply, word_apply]

theorem colY2_eq : colY2 x0 x1 (ValueIdx.ix2 j 0) = corner (ranked x0 x1 j) 3 := by
  show _ = highCorner (ranked x0 x1 j 1) (ranked x0 x1 j 3) (ranked x0 x1 j 5) (ranked x0 x1 j 7)
  unfold highCorner
  rw [← pay4_eq, ← pay5_eq, ← pay12_eq, ← pay10_eq, ← Ideal.ofBits_zero_f32]
  unfold colY2 k1_pay22 k1_pay18 k1_pay16 k1_pay14
  generalize k1_pay4 x0 x1 = a
  generalize k1_pay10 x0 x1 = b
  generalize k1_pay12 x0 x1 = c
  generalize k1_pay5 x0 x1 = d
  rw [ValueIdx.minimumf_apply, word_apply, ValueIdx.maximumf_apply, word_apply, ValueIdx.addf_apply, ValueIdx.addf_apply, ValueIdx.mulf_apply, ValueIdx.mulf_apply,
    word_apply, ValueIdx.mulf_apply, expf_apply, ValueIdx.minimumf_apply, word_apply]

theorem colScore_eq : colScore x0 x1 (ValueIdx.ix2 j 0) = Ideal.logistic (ranked x0 x1 j 8) := by
  unfold colScore k1_pay23
  rw [logisticf_apply, pay8_eq]

theorem colArea_eq : colArea x0 x1 (ValueIdx.ix2 j 0) = areaOf (corner (ranked x0 x1 j)) := by
  have e : colArea x0 x1 = mulf (subf (colX2 x0 x1) (colLow x0 x1)) (subf (colY2 x0 x1) (colY1 x0 x1)) := rfl
  rw [e, mulf_apply, subf_apply, subf_apply, colX2_eq, colLow_eq, colY2_eq, colY1_eq]
  rfl

/-! ## The decoded rows and the removals -/

end Cert.Proof
-- ==== Proof.Boxes.lean ====
/- The detections of the ranked rows, entry by entry. -/
module

public import proofs.«01_k».proof.Proof.Columns

@[expose] public section

set_option maxRecDepth 16384

noncomputable section

namespace Cert.Proof

open Cert.KernelIdeal Cert.KernelIdeal.Gen
open Idealize.ShloMosaic Idealize.ShloMosaic.TcCoe Idealize.ShloMosaic.ValueIdx

attribute [local irreducible] k1_pay2 Ideal.exp Ideal.logistic Ideal.ofBits

variable (x0 : Vec Ideal S2048x128 .f32) (x1 : Vec Ideal S1x2048 .f32) (j : Fin 1024)

theorem detMat_raw (l : Fin 128) : detMat x0 x1 (ValueIdx.ix2 j l)
    = (if l.val = 0 then corner (ranked x0 x1 j) 0 else 0) + (if l.val = 1 then corner (ranked x0 x1 j) 1 else 0)
      + (if l.val = 2 then corner (ranked x0 x1 j) 2 else 0) + (if l.val = 3 then corner (ranked x0 x1 j) 3 else 0)
      + (if l.val = 4 then areaOf (corner (ranked x0 x1 j)) else 0) + (if l.val = 5 then Ideal.logistic (ranked x0 x1 j 8) else 0) := by
  have hl := l.isLt
  rw [← colLow_eq, ← colY1_eq, ← colX2_eq, ← colY2_eq, ← colArea_eq, ← colScore_eq]
  rw [← select_eq (a := l.val) (b := 0) (by omega) (by omega), ← select_eq (a := l.val) (b := 1) (by omega) (by omega),
    ← select_eq (a := l.val) (b := 2) (by omega) (by omega), ← select_eq (a := l.val) (b := 3) (by omega) (by omega),
    ← select_eq (a := l.val) (b := 4) (by omega) (by omega), ← select_eq (a := l.val) (b := 5) (by omega) (by omega)]
  unfold detMat k1_pay27 k1_pay25 colX1 k1_pay26
  pointwise
  rfl

theorem detMat_corner (c : Fin 4) : detMat x0 x1 (ValueIdx.ix2 j ⟨c.val, by omega⟩) = corner (ranked x0 x1 j) c := by
  rw [detMat_raw]
  fin_cases c <;> simp

theorem detMat_area : detMat x0 x1 (ValueIdx.ix2 j 4) = areaOf (corner (ranked x0 x1 j)) := by
  rw [detMat_raw]
  simp

theorem detMat_score : detMat x0 x1 (ValueIdx.ix2 j 5) = Ideal.logistic (ranked x0 x1 j 8) := by
  rw [detMat_raw]
  simp

end Cert.Proof
-- ==== Proof.Overlaps.lean ====
/- The removals among the boxes of the ranked rows. -/
module

public import proofs.«01_k».proof.Proof.Boxes

@[expose] public section

set_option maxRecDepth 16384

noncomputable section

namespace Cert.Proof

open Cert.KernelIdeal Cert.KernelIdeal.Gen
open Idealize.ShloMosaic Idealize.ShloMosaic.TcCoe Idealize.ShloMosaic.ValueIdx

attribute [local irreducible] k1_pay2 Ideal.exp Ideal.logistic Ideal.ofBits

variable (x0 : Vec Ideal S2048x128 .f32) (x1 : Vec Ideal S1x2048 .f32) (j : Fin 1024)

/-- The decoded rows as columns. -/
def detCols : FVec Ideal S128x1024 .f32 :=
  k1_pay28 (colY1 x0 x1) (colX2 x0 x1) (colY2 x0 x1) (colScore x0 x1) (colArea x0 x1) (iota .tc S1024x128 32 [1] iota_S1024x128_d1_w32)
      k1_pay25 (Scalar.ofBits .f32 0x00000000#32) (colX1 x0 x1)

theorem columns_apply (D : FVec Ideal S1024x128 .f32) (l : Fin 128) :
    matmul dot_S1024x128_S1024x1024_S128x1024_0_0_1_1_n_n (some .fp32) D
      (select (cmpi .eq (iota .tc S1024x1024 32 [0] iota_S1024x1024_d0_w32) (iota .tc S1024x1024 32 [1] iota_S1024x1024_d1_w32))
        (broadcast S1024x1024 (Scalar.ofBits .f32 0x3F800000#32)) (broadcast S1024x1024 (Scalar.ofBits .f32 0x00000000#32)))
      (constant S128x1024 .f32 0x00000000#32) (ValueIdx.ix2 l j) = D (ValueIdx.ix2 j l) := by
  pointwise
  have hj := j.isLt
  have h : ∀ x : Fin 1024, Scalar.select (IntOp.cmpi .eq (BitVec.ofNat 32 x.val) (BitVec.ofNat 32 j.val)) (D (ValueIdx.ix2 x l)) (0 : EReal)
      = if x = j then D (ValueIdx.ix2 x l) else 0 := fun x => by
    have hx := x.isLt
    rw [select_eq (by omega) (by omega)]
    simp only [Fin.ext_iff]
  refine (Finset.sum_congr rfl fun x _ => h x).trans ?_
  simp only [Finset.sum_ite_eq', Finset.mem_univ, if_true]

theorem detCols_eq (l : Fin 128) : detCols x0 x1 (ValueIdx.ix2 l j) = detMat x0 x1 (ValueIdx.ix2 j l) := by
  rw [← columns_apply j (detMat x0 x1) l]
  unfold detCols k1_pay28 detMat
  rfl

/-- One entry of the removals, from the corner and area columns and the same as rows. -/
theorem removal_apply (a b c d e : FVec Ideal S1024x1 .f32) (D : FVec Ideal S128x1024 .f32) (p : Fin 1024 → Fin 4 → EReal)
    (ha : ∀ i, a (ValueIdx.ix2 i 0) = p i 0) (hb : ∀ i, b (ValueIdx.ix2 i 0) = p i 1) (hc : ∀ i, c (ValueIdx.ix2 i 0) = p i 2)
    (hd : ∀ i, d (ValueIdx.ix2 i 0) = p i 3) (he : ∀ i, e (ValueIdx.ix2 i 0) = areaOf (p i))
    (d0 : ∀ i, D (ValueIdx.ix2 0 i) = p i 0) (d1 : ∀ i, D (ValueIdx.ix2 1 i) = p i 1) (d2 : ∀ i, D (ValueIdx.ix2 2 i) = p i 2)
    (d3 : ∀ i, D (ValueIdx.ix2 3 i) = p i 3) (d4 : ∀ i, D (ValueIdx.ix2 4 i) = areaOf (p i)) (i j : Fin 1024) :
    k1_pay32 a b c d e (iota .tc S1024x1024 32 [0] iota_S1024x1024_d0_w32) (iota .tc S1024x1024 32 [1] iota_S1024x1024_d1_w32) D
      (extractStridedSlice S1x1024 ![0, 0] D slices_S128x1024_o0_0_S1x1024)
      (extractStridedSlice S1x1024 ![1, 0] D slices_S128x1024_o1_0_S1x1024)
      (extractStridedSlice S1x1024 ![2, 0] D slices_S128x1024_o2_0_S1x1024) (ValueIdx.ix2 i j)
      = ind (Ideal.ofBits .f32 0x3F333333#32 < overlap (p i) (p j) ∧ i.val < j.val) := by
  have hi := i.isLt
  have hj := j.isLt
  unfold k1_pay32
  pointwise
  have es : IntOp.cmpi .sgt (BitVec.ofNat 32 j.val) (BitVec.ofNat 32 i.val) = BitVec.ofBool (decide (i.val < j.val)) := by
    show BitVec.ofBool ((BitVec.ofNat 32 i.val).slt (BitVec.ofNat 32 j.val)) = _
    rw [slt_ofNat (by omega) (by omega)]
  have key : ∀ a b c d e a' b' c' d' e' : EReal, a = p i 0 → b = p i 1 → c = p i 2 → d = p i 3 → e = areaOf (p i) →
      a' = p j 0 → b' = p j 1 → c' = p j 2 → d' = p j 3 → e' = areaOf (p j) →
      Scalar.select (IntOp.andi (BitVec.ofBool (decide (Ideal.ofBits FTy.f32 1060320051#32 <
        Ideal.div (max 0 (min c c' - max a a') * max 0 (min d d' - max b b'))
          (e + e' - max 0 (min c c' - max a a') * max 0 (min d d' - max b b') + Ideal.ofBits FTy.f32 814313567#32))))
        (IntOp.cmpi .sgt (BitVec.ofNat 32 j.val) (BitVec.ofNat 32 i.val))) (1 : EReal) 0
      = ind (Ideal.ofBits .f32 0x3F333333#32 < overlap (p i) (p j) ∧ i.val < j.val) := by
    rintro _ _ _ _ _ _ _ _ _ _ rfl rfl rfl rfl rfl rfl rfl rfl rfl rfl
    rw [es]
    show Scalar.select (IntOp.andi (BitVec.ofBool (decide (Ideal.ofBits .f32 0x3F333333#32 < overlap (p i) (p j)))) _) (1 : EReal) 0 = _
    by_cases h1 : Ideal.ofBits .f32 0x3F333333#32 < overlap (p i) (p j) <;>
      by_cases h2 : i.val < j.val <;> simp [h1, h2, ind, Scalar.select, IntOp.andi]
  exact key _ _ _ _ _ _ _ _ _ _ (ha i) (hb i) (hc i) (hd i) (he i) (d0 j) (d1 j) (d2 j) (d3 j) (d4 j)

theorem overMat_holds : MatHolds (removes fun i => corner (ranked x0 x1 (Fin.ofNat 1024 i))) (overMat x0 x1) := fun i j => by
  have ei : ∀ i : Fin 1024, Fin.ofNat 1024 i.val = i := fun i => Fin.ext (Nat.mod_eq_of_lt i.isLt)
  have h := removal_apply (colLow x0 x1) (colY1 x0 x1) (colX2 x0 x1) (colY2 x0 x1) (colArea x0 x1) (detCols x0 x1)
    (fun i => corner (ranked x0 x1 i)) (colLow_eq x0 x1) (colY1_eq x0 x1) (colX2_eq x0 x1) (colY2_eq x0 x1) (colArea_eq x0 x1)
    (fun i => (detCols_eq ..).trans (detMat_corner x0 x1 i 0)) (fun i => (detCols_eq ..).trans (detMat_corner x0 x1 i 1))
    (fun i => (detCols_eq ..).trans (detMat_corner x0 x1 i 2)) (fun i => (detCols_eq ..).trans (detMat_corner x0 x1 i 3))
    (fun i => (detCols_eq ..).trans (detMat_area x0 x1 i)) i j
  unfold removes
  simp only [ei]
  exact h

end Cert.Proof
-- ==== Proof.Table.lean ====
/- The table the second kernel reads, and the rows it ranks. -/
module

public import proofs.«01_k».proof.Proof.RunMain
public import proofs.«01_k».proof.Proof.Ranks
public import proofs.«01_k».proof.Proof.HostEnds
public import proofs.«01_k».proof.Proof.Boxes
public import proofs.«01_k».proof.Proof.Overlaps
public import proofs.«01_k».proof.Proof.Flags
public import proofs.«01_k».proof.Proof.Order
public import Idealize.ShloMosaic.Lib.Pointwise
public import Idealize.ShloMosaic.Lib.ValueLayout
public import Idealize.ShloMosaic.Lib.StableHlo.ReadAt

@[expose] public section

set_option maxRecDepth 16384
set_option maxHeartbeats 1000000

noncomputable section

namespace Cert.Proof

open Cert.KernelIdeal Cert.KernelIdeal.Gen
open Idealize.ShloMosaic Idealize.ShloMosaic.TcCoe Idealize.ShloMosaic.StableHlo Idealize.ShloMosaic.ValueIdx

variable (m : (ℓ : Loc nD τ sig) → Buf (Elt Ideal) ℓ) (c : Dev nD)

/-- The scores before the padding. -/
def scoreOf (i : Fin 1764) : EReal := V5 m (outs m) c main_v25 (ValueIdx.ix1 i)

/-- The scores the second kernel sees. -/
def padOf (i : Fin 2048) : EReal := V12 m (outs m) c main_v78 (ValueIdx.ix1 i)

/-- The two arrays the second kernel reads. -/
def tableOf : Vec Ideal S2048x128 .f32 := V13 m (outs m) c main_v81

def lineOf : Vec Ideal S1x2048 .f32 := V13 m (outs m) c main_v82

theorem tableOf_score (a : Fin 2048) : tableOf m c (ValueIdx.ix2 a 8) = padOf m c a := table_scores (V12 m (outs m) c) a

theorem lineOf_score (a : Fin 2048) : lineOf m c (ValueIdx.ix2 0 a) = padOf m c a := table_row (V12 m (outs m) c) a

theorem kept_v25 : V11 m (outs m) c main_v25 = V5 m (outs m) c main_v25 :=
  (((((V11_of m (outs m) c main_v25 (by decide +kernel)).trans (V10_of m (outs m) c main_v25 (by decide +kernel))).trans (V9_of m (outs m) c main_v25 (by decide +kernel))).trans (V8_of m (outs m) c main_v25 (by decide +kernel))).trans (V7_of m (outs m) c main_v25 (by decide +kernel))).trans (V6_of m (outs m) c main_v25 (by decide +kernel))

theorem kept_v27 : V7 m (outs m) c main_v27 = V5 m (outs m) c main_v27 :=
  (V7_of m (outs m) c main_v27 (by decide +kernel)).trans (V6_of m (outs m) c main_v27 (by decide +kernel))

theorem kept_v76 : V12 m (outs m) c main_v76 = V8 m (outs m) c main_v76 :=
  (((V12_of m (outs m) c main_v76 (by decide +kernel)).trans (V11_of m (outs m) c main_v76 (by decide +kernel))).trans (V10_of m (outs m) c main_v76 (by decide +kernel))).trans (V9_of m (outs m) c main_v76 (by decide +kernel))

theorem kept_v77 : V12 m (outs m) c main_v77 = V10 m (outs m) c main_v77 :=
  (V12_of m (outs m) c main_v77 (by decide +kernel)).trans (V11_of m (outs m) c main_v77 (by decide +kernel))

theorem kept_v75 : V9 m (outs m) c main_v75 = V7 m (outs m) c main_v75 :=
  (V9_of m (outs m) c main_v75 (by decide +kernel)).trans (V8_of m (outs m) c main_v75 (by decide +kernel))

theorem padOf_inside (a : Fin 2048) (h : a.val < 1764) : padOf m c a = scoreOf m c ⟨a.val, h⟩ :=
  (padded_scores (V11 m (outs m) c) a h).trans (congrFun (kept_v25 m c) _)

theorem padOf_outside (a : Fin 2048) (h : 1764 ≤ a.val) : padOf m c a = Ideal.ofBits .f32 0xFF61B1E6#32 :=
  (padded_low (V11 m (outs m) c) a h).trans (padding_word (V10 m (outs m) c))

theorem tableOf_move (a : Fin 2048) (h : a.val < 1764) (l : Fin 4) : (tableOf m c (ValueIdx.ix2 a ⟨l.val, by omega⟩) : EReal) = V5 m (outs m) c main_v27 (ValueIdx.ix2 ⟨a.val, h⟩ l) :=
  (table_moves (V12 m (outs m) c) a l).trans ((congrFun (kept_v76 m c) _).trans ((padded_moves (V7 m (outs m) c) a h l).trans (congrFun (kept_v27 m c) _)))

theorem tableOf_anchor (a : Fin 2048) (h : a.val < 1764) (l : Fin 4) : (tableOf m c (ValueIdx.ix2 a ⟨4 + l.val, by omega⟩) : EReal) = V7 m (outs m) c main_v75 (ValueIdx.ix2 ⟨a.val, h⟩ l) :=
  (table_anchors (V12 m (outs m) c) a l).trans ((congrFun (kept_v77 m c) _).trans ((padded_anchors (V9 m (outs m) c) a h l).trans (congrFun (kept_v75 m c) _)))

/-- The ranked rows are the rows of the table in the order of their scores, when no score lies below the padding. -/
theorem ranked_at (hlo : ∀ i, Ideal.ofBits .f32 0xFF61B1E6#32 ≤ scoreOf m c i) (j : ℕ) (hj : j < 1000) (k : ℕ) :
    ranked (tableOf m c) (lineOf m c) (Fin.ofNat 1024 j) k
      = tableOf m c (ValueIdx.ix2 ((byRank (scoreOf m c) (Fin.ofNat 1764 j)).castLE (by norm_num)) (Fin.ofNat 128 k)) := by
  refine ranked_row (tableOf m c) (lineOf m c) (padOf m c) (tableOf_score m c) (lineOf_score m c) _ _ _ ?_
  rw [rk_pad (by norm_num) (scoreOf m c) (padOf m c) (fun i => padOf_inside m c _ i.isLt) _ hlo (fun i hi => padOf_outside m c i hi), rk_byRank]
  show j % 1764 = j % 1024
  omega

theorem propOut_eq : propOut m c = proposeVal (tableOf m c) (lineOf m c) := by
  unfold propOut tableOf lineOf
  rw [V13_eq]

theorem rows_of (r : Fin 300) (l : Fin 4) : (V15 m (outs m) c main_v84 (ValueIdx.ix2 r l) : EReal) = proposeVal (tableOf m c) (lineOf m c) (ValueIdx.ix2 ⟨r.val, by omega⟩ ⟨l.val, by omega⟩) := by
  refine (rows_out (V14 m (outs m) c) r l).trans ?_
  rw [← propOut_eq]
  exact congrFun (V14_v83 m c) _

theorem scores_of (r : Fin 300) : (V15 m (outs m) c main_v86 (ValueIdx.ix1 r) : EReal) = proposeVal (tableOf m c) (lineOf m c) (ValueIdx.ix2 ⟨r.val, by omega⟩ 5) := by
  refine (scores_out (V14 m (outs m) c) r).trans ?_
  rw [← propOut_eq]
  exact congrFun (V14_v83 m c) _

end Cert.Proof
-- ==== Proof.RefLoop.lean ====
/- What the reference's loop keeps. -/
module

public import proofs.«01_k».proof.Proof.RefRun
public import proofs.«01_k».proof.Proof.Ranks
public import proofs.«01_k».proof.Proof.Overlaps
public import Idealize.ShloMosaic.Lib.Pointwise
public import Idealize.ShloMosaic.Lib.ValueLayout
public import Idealize.ShloMosaic.Lib.Routing.OpsSet
public import Idealize.ShloMosaic.Lib.DynamicIndex
public import Idealize.ShloMosaic.Lib.StableHlo.ReadAt

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (V : Valuation τ sig (Elt Ideal))

/-- A row of a matrix, read through the printed slice at a word that holds the row's number. -/
theorem slice_row (M : FVec Ideal S1000x1000 .f32) (k j : Fin 1000) (w : Fin 2 → IVec S_ 32)
    (h0 : (w 0 (Shape.Idx.first h_S_)).toInt = k.val) (h1 : (w 1 (Shape.Idx.first h_S_)).toInt = 0) :
    shapeCast S1000 (Host.dynamicSlice S1x1000 M (fun q => (w q (Shape.Idx.first h_S_)).toInt) sliceFits_S1000x1000_S1x1000) shapeCasts_S1x1000_S1000
      (ValueIdx.ix1 j) = M (ValueIdx.ix2 k j) := by
  have hk := k.isLt
  rw [Host.dynamicSlice_eq_extractStridedSlice S1x1000 M _ ![k.val, 0] _
    ⟨rfl, fun a => by match a with
      | ⟨0, _⟩ => show k.val + 1 ≤ 1000; omega
      | ⟨1, _⟩ => show 0 + 1000 ≤ 1000; omega⟩
    (fun a => by match a with
      | ⟨0, _⟩ => exact h0
      | ⟨1, _⟩ => exact h1)]
  refine (shapeCast_1a_a_apply _ _ j).trans ?_
  refine congrArg M (funext fun a => Fin.ext ?_)
  match a with
  | ⟨0, _⟩ => show k.val + 0 = k.val; omega
  | ⟨1, _⟩ => show 0 + j.val = j.val; omega

/-- An entry of a vector, read through the printed slice at a word that holds its number. -/
theorem slice_one (M : IVec S1000 1) (k : Fin 1000) (w : Fin 1 → IVec S_ 32) (i : S_.Idx)
    (h0 : (w 0 (Shape.Idx.first h_S_)).toInt = k.val) :
    shapeCast S_ (Host.dynamicSlice S1 M (fun q => (w q (Shape.Idx.first h_S_)).toInt) sliceFits_S1000_S1) shapeCasts_S1_S_ i = M (ValueIdx.ix1 k) := by
  have hk := k.isLt
  rw [Host.dynamicSlice_eq_extractStridedSlice S1 M _ ![k.val] _
    ⟨rfl, fun a => by match a with
      | ⟨0, _⟩ => show k.val + 1 ≤ 1000; omega⟩
    (fun a => by match a with
      | ⟨0, _⟩ => exact h0)]
  rw [shapeCast_apply _ _ i (ValueIdx.ix1 (0 : Fin 1)) (by
    exact (Nat.lt_one_iff.mp (Nat.lt_of_lt_of_eq (S1.rowMajor (ValueIdx.ix1 (0 : Fin 1))).isLt (show S1.numel = 1 by decide))).trans
      (Nat.lt_one_iff.mp (Nat.lt_of_lt_of_eq (S_.rowMajor i).isLt (show S_.numel = 1 by decide))).symm)]
  refine congrArg M (funext fun a => Fin.ext ?_)
  match a with
  | ⟨0, _⟩ => show k.val + 0 = k.val; omega

theorem bit_and (a b c d : BitVec 1) : a &&& ~~~((b &&& c) &&& d) = 1#1 ↔ a = 1#1 ∧ ¬(b = 1#1 ∧ c = 1#1 ∧ d = 1#1) := by
  revert a b c d
  decide

/-- One trip: entry `j` stays kept unless the trip's entry `k` is kept, lies before it, and overlaps it too far. -/
theorem trip_keep (k j : Fin 1000) (h2 : V (Proc.devRef .tc main_v256_2) = fun _ => BitVec.ofNat 32 k.val) :
    (afterL bodyI V (Proc.devRef .tc main_v256_3) (ValueIdx.ix1 j) : BitVec 1) = 1#1 ↔
      (V (Proc.devRef .tc main_v256_3) (ValueIdx.ix1 j) : BitVec 1) = 1#1
        ∧ ¬(Ideal.ofBits .f32 0x3F333333#32 < (V (Proc.devRef .tc main_v256_0) (ValueIdx.ix2 k j) : EReal) ∧ k.val < j.val
          ∧ (V (Proc.devRef .tc main_v256_3) (ValueIdx.ix1 k) : BitVec 1) = 1#1) := by
  have hk := k.isLt
  have hj := j.isLt
  have hw : (select (cmpi .slt (constantI S_ 32 (BitVec.ofNat 32 k.val)) (constantI S_ 32 0#32))
      (addi (constantI S_ 32 (BitVec.ofNat 32 k.val)) (constantI S_ 32 1000#32)) (constantI S_ 32 (BitVec.ofNat 32 k.val)) (Shape.Idx.first h_S_)).toInt = (k.val : Int) :=
    toInt_wrap_ofNat k.val (by omega)
  rw [trip_main_v256_3]
  unfold res_main_while0b_v286
  rw [h2]
  have r := slice_row (V (Proc.devRef .tc main_v256_0)) k j
    ![select (cmpi .slt (constantI S_ 32 (BitVec.ofNat 32 k.val)) (constantI S_ 32 0#32)) (addi (constantI S_ 32 (BitVec.ofNat 32 k.val)) (constantI S_ 32 1000#32))
        (constantI S_ 32 (BitVec.ofNat 32 k.val)),
      select (cmpi .slt (constantI S_ 32 0#32) (constantI S_ 32 0#32)) (addi (constantI S_ 32 0#32) (constantI S_ 32 1000#32)) (constantI S_ 32 0#32)] hw rfl
  have s := fun i => slice_one (V (Proc.devRef .tc main_v256_3)) k
    ![select (cmpi .slt (constantI S_ 32 (BitVec.ofNat 32 k.val)) (constantI S_ 32 0#32)) (addi (constantI S_ 32 (BitVec.ofNat 32 k.val)) (constantI S_ 32 1000#32))
        (constantI S_ 32 (BitVec.ofNat 32 k.val))] i hw
  have hc : (IntOp.cmpi .sgt (BitVec.ofNat 32 j.val) (BitVec.ofNat 32 k.val) : BitVec 1) = BitVec.ofBool (decide (k.val < j.val)) :=
    congrArg BitVec.ofBool (slt_ofNat (by omega) (by omega))
  have hb : ∀ p : Prop, [Decidable p] → (BitVec.ofBool (decide p) = 1#1 ↔ p) := fun p _ => by by_cases hp : p <;> simp [hp]
  obtain ⟨a, ha⟩ : ∃ a : BitVec 1, a = V (Proc.devRef .tc main_v256_3) (ValueIdx.ix1 j) := ⟨_, rfl⟩
  obtain ⟨d, hd⟩ : ∃ d : BitVec 1, d = V (Proc.devRef .tc main_v256_3) (ValueIdx.ix1 k) := ⟨_, rfl⟩
  obtain ⟨q, hq⟩ : ∃ q : EReal, q = V (Proc.devRef .tc main_v256_0) (ValueIdx.ix2 k j) := ⟨_, rfl⟩
  have key := bit_and a (BitVec.ofBool (decide (Ideal.ofBits .f32 0x3F333333#32 < q))) (BitVec.ofBool (decide (k.val < j.val))) d
  rw [hb, hb] at key
  refine Iff.trans ?_ (key.trans (by rw [ha, hd, hq]))
  rw [ha, hd, hq, ← r, ← hc, ← s (fun a => a.elim0)]
  exact Iff.rfl

variable (m : (ℓ : Loc nD τ sig) → Buf (Elt Ideal) ℓ) (c : Dev nD)

/-- What the loop carries before its `k`-th test. -/
theorem carried (mm : ℕ → ℕ → Prop) (K : ℕ → Prop) (hK : Greedy 1000 mm K)
    (hm : ∀ i j : Fin 1000, mm i j ↔ Ideal.ofBits .f32 0x3F333333#32 < (entryContents preI m c (Proc.devRef .tc main_v256_0) (ValueIdx.ix2 i j) : EReal) ∧ i.val < j.val)
    (h2 : entryContents preI m c (Proc.devRef .tc main_v256_2) = fun _ => 0#32)
    (h3 : ∀ j : Fin 1000, (entryContents preI m c (Proc.devRef .tc main_v256_3) (ValueIdx.ix1 j) : BitVec 1) = 1#1) : ∀ k ≤ 1000,
    atK m k c (Proc.devRef .tc main_v256_0) = entryContents preI m c (Proc.devRef .tc main_v256_0)
      ∧ (atK m k c (Proc.devRef .tc main_v256_2) = fun _ => BitVec.ofNat 32 k)
      ∧ ∀ j : Fin 1000, (atK m k c (Proc.devRef .tc main_v256_3) (ValueIdx.ix1 j) : BitVec 1) = 1#1 ↔ ∀ i < k, i < j.val → K i → ¬mm i j.val := by
  intro k
  induction k with
  | zero => exact fun _ => ⟨rfl, h2, fun j => ⟨fun _ i hi => absurd hi (Nat.not_lt_zero i), fun _ => h3 j⟩⟩
  | succ k ih =>
    intro hk
    obtain ⟨i0, i2, i3⟩ := ih (by omega)
    have e : atK m (k + 1) c = afterL bodyI (after condOps (atK m k c)) := rfl
    have c0 : after condOps (atK m k c) (Proc.devRef .tc main_v256_0) = entryContents preI m c (Proc.devRef .tc main_v256_0) :=
      (after_of_writes_sub condOps _ condOps_writes (by decide +kernel)).trans i0
    have c2 : after condOps (atK m k c) (Proc.devRef .tc main_v256_2) = fun _ => BitVec.ofNat 32 k :=
      (after_of_writes_sub condOps _ condOps_writes (by decide +kernel)).trans i2
    have c3 : after condOps (atK m k c) (Proc.devRef .tc main_v256_3) = atK m k c (Proc.devRef .tc main_v256_3) :=
      after_of_writes_sub condOps _ condOps_writes (by decide +kernel)
    refine ⟨?_, ?_, fun j => ?_⟩
    · rw [e, trip_main_v256_0, c0]
    · rw [e, trip_main_v256_2, c2]
      funext i
      show BitVec.ofNat 32 k + 1#32 = BitVec.ofNat 32 (k + 1)
      rw [BitVec.ofNat_add]
    · rw [e, trip_keep _ ⟨k, by omega⟩ j c2, c3, c0, i3 j, i3 ⟨k, by omega⟩]
      have hkk : (∀ i < k, i < k → K i → ¬mm i k) ↔ K k := by
        rw [hK k]
        exact ⟨fun h => ⟨by omega, fun i hi => h i hi hi⟩, fun h i hi _ => h.2 i hi⟩
      have hmk := hm ⟨k, by omega⟩ j
      simp only at hmk ⊢
      rw [hkk]
      constructor
      · rintro ⟨h1, h2⟩ i hi hij hKi hmij
        rcases Nat.lt_succ_iff_lt_or_eq.mp hi with h | rfl
        · exact h1 i h hij hKi hmij
        · exact h2 ⟨(hmk.mp hmij).1, hij, hKi⟩
      · intro h
        exact ⟨fun i hi => h i (by omega), fun ⟨a, b, d⟩ => h k (by omega) b d (hmk.mpr ⟨a, b⟩)⟩

/-- The kept entries when the loop has ended. -/
theorem kept_exit (mm : ℕ → ℕ → Prop) (K : ℕ → Prop) (hK : Greedy 1000 mm K)
    (hm : ∀ i j : Fin 1000, mm i j ↔ Ideal.ofBits .f32 0x3F333333#32 < (entryContents preI m c (Proc.devRef .tc main_v256_0) (ValueIdx.ix2 i j) : EReal) ∧ i.val < j.val)
    (h2 : entryContents preI m c (Proc.devRef .tc main_v256_2) = fun _ => 0#32)
    (h3 : ∀ j : Fin 1000, (entryContents preI m c (Proc.devRef .tc main_v256_3) (ValueIdx.ix1 j) : BitVec 1) = 1#1) (j : Fin 1000) :
    (atExit m c (Proc.devRef .tc main_v256_3) (ValueIdx.ix1 j) : BitVec 1) = 1#1 ↔ K j.val := by
  have hj := j.isLt
  unfold atExit
  rw [after_of_writes_sub condOps _ condOps_writes (show main_v256_3 ∉ condOps_W by decide +kernel), (carried m c mm K hK hm h2 h3 1000 le_rfl).2.2 j, hK j.val]
  exact ⟨fun h => ⟨hj, fun i hi => h i (by omega) hi⟩, fun h i _ hi => h.2 i hi⟩

end Cert.Proof.Ref
-- ==== Proof.RefTail.lean ====
/- What the reference takes to the front, from what its loop kept. -/
module

public import proofs.«01_k».proof.Proof.RefLoop

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (V : Valuation τ sig (Elt Ideal))

theorem sum_bits (K : ℕ → Prop) [DecidablePred K] (n : ℕ) : ((List.range n).map fun i => if K i then 1 else 0).sum = cntBelow K n := by
  induction n with
  | zero => rfl
  | succ n ih =>
    rw [List.range_succ, List.map_append, List.sum_append, ih]
    by_cases h : K n
    · rw [cntBelow_succ_of K h]; simp [h]
    · rw [cntBelow_succ_not K h]; simp [h]

theorem sle_ofNat {a b : ℕ} (ha : a < 2 ^ 31) (hb : b < 2 ^ 31) : (IntOp.cmpi .sle (BitVec.ofNat 32 a) (BitVec.ofNat 32 b) : BitVec 1) = 1#1 ↔ a ≤ b := by
  show BitVec.ofBool ((BitVec.ofNat 32 a).sle (BitVec.ofNat 32 b)) = 1#1 ↔ _
  rw [BitVec.sle_eq_not_slt, slt_ofNat hb ha]
  by_cases h : b < a
  · simp [h]
  · simp [h]; omega

theorem cntBelow_le (K : ℕ → Prop) (j : ℕ) : cntBelow K j ≤ j := by
  classical
  unfold cntBelow
  exact (Finset.card_filter_le _ _).trans (by simp)

attribute [local irreducible] Host.reduceWindow in
theorem sums_of : (after (hostOps0_16 (F := Ideal)) V (Proc.devRef .tc main_v262) : IVec S1000 32)
      = Host.reduceWindow IntOp.addi ![1000] ![1] ![999] ![0] (V (Proc.devRef .tc main_v261))
        (broadcastInDim S_ ![] bcast_S_S_ (constantI S_ 32 0#32)) reduceWindows_S1000_S1000_w1000s1p999_0 h_S_ := by
  after_reads_simp
  simp -implicitDefEqProofs only [StableHlo.TRef.toBuf, StableHlo.TRef.ofBuf, cast_cast, cast_eq]

/-- The running count of the kept entries. -/
theorem count_at (K : ℕ → Prop) (hK : ∀ j : Fin 1000, (V (Proc.devRef .tc main_v256_3) (ValueIdx.ix1 j) : BitVec 1) = 1#1 ↔ K j.val) (j : Fin 1000) :
    (after (hostOps0_16 (F := Ideal)) (after (hostOps0_15 (F := Ideal)) V) (Proc.devRef .tc main_v262) (ValueIdx.ix1 j) : BitVec 32) = BitVec.ofNat 32 (cntBelow K (j.val + 1)) := by
  classical
  have e : (after (hostOps0_15 (F := Ideal)) V (Proc.devRef .tc main_v261) : IVec S1000 32) = extui 32 (V (Proc.devRef .tc main_v256_3)) natLt_1_32 := by
    after_reads_simp
  rw [sums_of, e]
  refine (Routing.cumsum1 rfl _ (fun i => if K i then 1 else 0) (fun i => ?_) _ rfl _ _ j).trans (congrArg _ (sum_bits K _))
  show BitVec.setWidth 32 (V (Proc.devRef .tc main_v256_3) (ValueIdx.ix1 i) : BitVec 1) = _
  by_cases hi : K i.val
  · rw [if_pos hi, (hK i).mpr hi]; rfl
  · rw [if_neg hi]
    have : (V (Proc.devRef .tc main_v256_3) (ValueIdx.ix1 i) : BitVec 1) = 0#1 := by
      have hn := mt (hK i).mp hi
      revert hn
      exact (show ∀ b : BitVec 1, ¬b = 1#1 → b = 0#1 by decide) _
    rw [this]; rfl

/-- The printed count of the entries whose running count is at most the place. -/
def placeWords (x : IVec S1000 32) : IVec S300 32 :=
  Host.reduce IntOp.addi
    (extui 32
      (cmpi CmpIPredicate.sle (broadcastInDim S300x1000 ![0, 1] bcast_S1x1000_S300x1000_0_1 (broadcastInDim S1x1000 ![1] bcast_S1000_S1x1000_1 x))
        (broadcastInDim S300x1000 ![0, 1] bcast_S300x1_S300x1000_0_1 (broadcastInDim S300x1 ![0] bcast_S300_S300x1_0 (iotaInDim S300 32 0))))
      natLt_1_32)
    (constantI S_ 32 0#32) reducesTo_S300x1000_S300_d1 h_S_

theorem placeWords_apply (x : IVec S1000 32) (K : ℕ → Prop) (hx : ∀ j : Fin 1000, x (ValueIdx.ix1 j) = BitVec.ofNat 32 (cntBelow K (j.val + 1))) (r : Fin 300) :
    placeWords x (ValueIdx.ix1 r) = BitVec.ofNat 32 (place 1000 K r.val) := by
  classical
  have hr := r.isLt
  unfold placeWords
  refine (Routing.reduce_count (by norm_num) _ _ _ _ r (fun j => cntBelow K (j + 1) ≤ r.val) (fun j => ?_)).trans ?_
  · have hj := j.isLt
    have hc := cntBelow_le K (j.val + 1)
    refine Iff.trans (Eq.congr ?_ rfl) (sle_ofNat (a := cntBelow K (j.val + 1)) (b := r.val) (by omega) (by omega))
    rw [← hx j]
    show IntOp.cmpi .sle _ _ = _
    refine congrArg₂ (IntOp.cmpi .sle) ?_ ?_
    · show _ = x (ValueIdx.ix1 j)
      pointwise
      rfl
    · pointwise
  · refine congrArg (BitVec.ofNat 32) ?_
    rw [Nat.count_eq_card_filter_range]
    unfold place
    congr

/-- The printed index of the entry taken to place `r`, negative numbers wrapped round. -/
def takeWords (x : IVec S1000 32) : IVec S300x1 32 :=
  broadcastInDim S300x1 ![0] bcast_S300_S300x1_0
    (select (cmpi CmpIPredicate.slt (placeWords x) (broadcastInDim S300 ![] bcast_S_S300 (constantI S_ 32 0#32)))
      (addi (placeWords x) (broadcastInDim S300 ![] bcast_S_S300 (constantI S_ 32 1001#32))) (placeWords x))

theorem place_le (K : ℕ → Prop) (r : ℕ) : place 1000 K r ≤ 1000 := by
  classical
  unfold place
  exact (Finset.card_filter_le _ _).trans (by simp)

theorem takeWords_apply (x : IVec S1000 32) (K : ℕ → Prop) (hx : ∀ j : Fin 1000, x (ValueIdx.ix1 j) = BitVec.ofNat 32 (cntBelow K (j.val + 1))) (r : Fin 300) :
    takeWords x (ValueIdx.ix2 r 0) = BitVec.ofNat 32 (place 1000 K r.val) := by
  have hp := place_le K r.val
  have e := placeWords_apply x K hx r
  have h : takeWords x (ValueIdx.ix2 r 0) = (select (cmpi CmpIPredicate.slt (placeWords x) (constantI S300 32 0#32))
      (addi (placeWords x) (constantI S300 32 1001#32)) (placeWords x)) (ValueIdx.ix1 r) := by
    unfold takeWords
    generalize placeWords x = P
    pointwise
    rfl
  rw [h, select_slt_zero_of_nonneg _ _ _ _ (by rw [e, toInt_ofNat_of_lt (by omega)]; omega), e]

theorem rows_end : (after (hostOps0_17 (F := Ideal)) V (Proc.devRef .tc main_v277) : FVec Ideal S300x4 .f32)
    = Host.gather gather_S1001x4_S300x1_S300x4_1_0_n_n_0_1_14 (V (Proc.devRef .tc main_v258)) (takeWords (V (Proc.devRef .tc main_v262))) := by
  after_reads_simp
  rfl

theorem scores_end : (after (hostOps0_17 (F := Ideal)) V (Proc.devRef .tc main_v284) : FVec Ideal S300 .f32)
    = Host.gather gather_S1001_S300x1_S300_n_0_n_n_0_1_1 (V (Proc.devRef .tc main_v260)) (takeWords (V (Proc.devRef .tc main_v262))) := by
  after_reads_simp
  rfl

theorem rows_padded (j : Fin 1001) (l : Fin 4) : (after (hostOps0_15 (F := Ideal)) V (Proc.devRef .tc main_v258) (ValueIdx.ix2 j l) : EReal)
    = @dite EReal (j.val < 1000) _ (fun h => V (Proc.devRef .tc main_v207) (ValueIdx.ix2 ⟨j.val, h⟩ l)) fun _ => 0 := by
  after_reads_at
  split_ifs with h
  · rfl
  · rfl

theorem scores_padded (j : Fin 1001) : (after (hostOps0_15 (F := Ideal)) V (Proc.devRef .tc main_v260) (ValueIdx.ix1 j) : EReal)
    = @dite EReal (j.val < 1000) _ (fun h => V (Proc.devRef .tc main_v213) (ValueIdx.ix1 ⟨j.val, h⟩)) fun _ => 0 := by
  after_reads_at
  split_ifs with h
  · rfl
  · rfl

end Cert.Proof.Ref
-- ==== Proof.RefRank.lean ====
/- The reference's boxes before they are clipped, in order of their scores. -/
module

public import proofs.«01_k».proof.Proof.RefRun
public import proofs.«01_k».proof.Proof.Ranks
public import proofs.«01_k».proof.Proof.Overlaps
public import Idealize.ShloMosaic.Lib.Pointwise
public import Idealize.ShloMosaic.Lib.Routing.OpsSet
public import Idealize.ShloMosaic.Lib.DynamicIndex
public import Idealize.ShloMosaic.Lib.StableHlo.ReadAt

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (V : Valuation τ sig (Elt Ideal))

/-- The corners of a box before they are clipped. -/
def lowRaw (d e a b : EReal) : EReal :=
  (d * (b - a) + (a + Ideal.ofBits .f32 0x3F000000#32 * (b - a))) - Ideal.ofBits .f32 0x3F000000#32 * (Ideal.exp (min e (Ideal.ofBits .f32 0x40845349#32)) * (b - a))

def highRaw (d e a b : EReal) : EReal :=
  (d * (b - a) + (a + Ideal.ofBits .f32 0x3F000000#32 * (b - a))) + Ideal.ofBits .f32 0x3F000000#32 * (Ideal.exp (min e (Ideal.ofBits .f32 0x40845349#32)) * (b - a))

abbrev anchorOps : List (HloOp τ sig (Elt Ideal)) := hostOps0_4.take 25

abbrev centreOps : List (HloOp τ sig (Elt Ideal)) := (hostOps0_4.drop 25).take 36

abbrev sizeOps : List (HloOp τ sig (Elt Ideal)) := (hostOps0_4.drop 61).take 8

abbrev cornerOps : List (HloOp τ sig (Elt Ideal)) := (hostOps0_4.drop 69).take 20

abbrev joinOps : List (HloOp τ sig (Elt Ideal)) := (hostOps0_4.drop 89).take 1

abbrev rankOps : List (HloOp τ sig (Elt Ideal)) := hostOps0_4.drop 90

theorem parts : after (hostOps0_4 (F := Ideal)) V = after rankOps (after joinOps (after cornerOps (after sizeOps (after centreOps (after anchorOps V))))) := rfl

theorem width_at (n : Fin 1764) (p : EReal) (hp : p = V (Proc.devRef .tc main_v126) (ValueIdx.ix2 n 2)) (q : EReal) (hq : q = V (Proc.devRef .tc main_v126) (ValueIdx.ix2 n 0)) :
    (after centreOps V (Proc.devRef .tc main_v131) (ValueIdx.ix1 n) : EReal) = p - q := by
  rw [hp, hq]
  simp only [centreOps, hostOps0_4, List.drop_succ_cons, List.drop_zero, List.take_succ_cons, List.take_zero]
  after_reads_at
  rfl

theorem height_at (n : Fin 1764) (p : EReal) (hp : p = V (Proc.devRef .tc main_v126) (ValueIdx.ix2 n 3)) (q : EReal) (hq : q = V (Proc.devRef .tc main_v126) (ValueIdx.ix2 n 1)) :
    (after centreOps V (Proc.devRef .tc main_v136) (ValueIdx.ix1 n) : EReal) = p - q := by
  rw [hp, hq]
  simp only [centreOps, hostOps0_4, List.drop_succ_cons, List.drop_zero, List.take_succ_cons, List.take_zero]
  after_reads_at
  rfl

theorem middleX_at (n : Fin 1764) (p : EReal) (hp : p = V (Proc.devRef .tc main_v126) (ValueIdx.ix2 n 2)) (q : EReal) (hq : q = V (Proc.devRef .tc main_v126) (ValueIdx.ix2 n 0)) :
    (after centreOps V (Proc.devRef .tc main_v141) (ValueIdx.ix1 n) : EReal) = q + Ideal.ofBits .f32 0x3F000000#32 * (p - q) := by
  rw [hp, hq]
  simp only [centreOps, hostOps0_4, List.drop_succ_cons, List.drop_zero, List.take_succ_cons, List.take_zero]
  after_reads_at
  rfl

theorem middleY_at (n : Fin 1764) (p : EReal) (hp : p = V (Proc.devRef .tc main_v126) (ValueIdx.ix2 n 3)) (q : EReal) (hq : q = V (Proc.devRef .tc main_v126) (ValueIdx.ix2 n 1)) :
    (after centreOps V (Proc.devRef .tc main_v146) (ValueIdx.ix1 n) : EReal) = q + Ideal.ofBits .f32 0x3F000000#32 * (p - q) := by
  rw [hp, hq]
  simp only [centreOps, hostOps0_4, List.drop_succ_cons, List.drop_zero, List.take_succ_cons, List.take_zero]
  after_reads_at
  rfl

theorem moveX_at (n : Fin 1764) (p : EReal) (hp : p = V (Proc.devRef .tc main_v78) (ValueIdx.ix2 n 0)) :
    (after centreOps V (Proc.devRef .tc main_v148) (ValueIdx.ix1 n) : EReal) = p := by
  rw [hp]
  simp only [centreOps, hostOps0_4, List.drop_succ_cons, List.drop_zero, List.take_succ_cons, List.take_zero]
  after_reads_at
  rfl

theorem moveY_at (n : Fin 1764) (p : EReal) (hp : p = V (Proc.devRef .tc main_v78) (ValueIdx.ix2 n 1)) :
    (after centreOps V (Proc.devRef .tc main_v150) (ValueIdx.ix1 n) : EReal) = p := by
  rw [hp]
  simp only [centreOps, hostOps0_4, List.drop_succ_cons, List.drop_zero, List.take_succ_cons, List.take_zero]
  after_reads_at
  rfl

theorem growX_at (n : Fin 1764) (p : EReal) (hp : p = V (Proc.devRef .tc main_v78) (ValueIdx.ix2 n 2)) :
    (after centreOps V (Proc.devRef .tc main_v156) (ValueIdx.ix1 n) : EReal) = min p (Ideal.ofBits .f32 0x40845349#32) := by
  rw [hp]
  simp only [centreOps, hostOps0_4, List.drop_succ_cons, List.drop_zero, List.take_succ_cons, List.take_zero]
  after_reads_at
  rfl

theorem growY_at (n : Fin 1764) (p : EReal) (hp : p = V (Proc.devRef .tc main_v78) (ValueIdx.ix2 n 3)) :
    (after centreOps V (Proc.devRef .tc main_v158) (ValueIdx.ix1 n) : EReal) = min p (Ideal.ofBits .f32 0x40845349#32) := by
  rw [hp]
  simp only [centreOps, hostOps0_4, List.drop_succ_cons, List.drop_zero, List.take_succ_cons, List.take_zero]
  after_reads_at
  rfl

theorem newX_at (n : Fin 1764) (p : EReal) (hp : p = V (Proc.devRef .tc main_v148) (ValueIdx.ix1 n)) (q : EReal) (hq : q = V (Proc.devRef .tc main_v131) (ValueIdx.ix1 n)) (x : EReal) (hx : x = V (Proc.devRef .tc main_v141) (ValueIdx.ix1 n)) :
    (after sizeOps V (Proc.devRef .tc main_v160) (ValueIdx.ix1 n) : EReal) = p * q + x := by
  rw [hp, hq, hx]
  simp only [sizeOps, hostOps0_4, List.drop_succ_cons, List.drop_zero, List.take_succ_cons, List.take_zero]
  after_reads_simp
  rfl

theorem newY_at (n : Fin 1764) (p : EReal) (hp : p = V (Proc.devRef .tc main_v150) (ValueIdx.ix1 n)) (q : EReal) (hq : q = V (Proc.devRef .tc main_v136) (ValueIdx.ix1 n)) (x : EReal) (hx : x = V (Proc.devRef .tc main_v146) (ValueIdx.ix1 n)) :
    (after sizeOps V (Proc.devRef .tc main_v162) (ValueIdx.ix1 n) : EReal) = p * q + x := by
  rw [hp, hq, hx]
  simp only [sizeOps, hostOps0_4, List.drop_succ_cons, List.drop_zero, List.take_succ_cons, List.take_zero]
  after_reads_simp
  rfl

theorem newWidth_at (n : Fin 1764) (p : EReal) (hp : p = V (Proc.devRef .tc main_v156) (ValueIdx.ix1 n)) (q : EReal) (hq : q = V (Proc.devRef .tc main_v131) (ValueIdx.ix1 n)) :
    (after sizeOps V (Proc.devRef .tc main_v164) (ValueIdx.ix1 n) : EReal) = Ideal.exp p * q := by
  rw [hp, hq]
  simp only [sizeOps, hostOps0_4, List.drop_succ_cons, List.drop_zero, List.take_succ_cons, List.take_zero]
  after_reads_simp
  rfl

theorem newHeight_at (n : Fin 1764) (p : EReal) (hp : p = V (Proc.devRef .tc main_v158) (ValueIdx.ix1 n)) (q : EReal) (hq : q = V (Proc.devRef .tc main_v136) (ValueIdx.ix1 n)) :
    (after sizeOps V (Proc.devRef .tc main_v166) (ValueIdx.ix1 n) : EReal) = Ideal.exp p * q := by
  rw [hp, hq]
  simp only [sizeOps, hostOps0_4, List.drop_succ_cons, List.drop_zero, List.take_succ_cons, List.take_zero]
  after_reads_simp
  rfl

theorem lowX_at (n : Fin 1764) (p : EReal) (hp : p = V (Proc.devRef .tc main_v160) (ValueIdx.ix1 n)) (q : EReal) (hq : q = V (Proc.devRef .tc main_v164) (ValueIdx.ix1 n)) :
    (after cornerOps V (Proc.devRef .tc main_v179) (ValueIdx.ix2 n 0) : EReal) = p - Ideal.ofBits .f32 0x3F000000#32 * q := by
  rw [hp, hq]
  simp only [cornerOps, hostOps0_4, List.drop_succ_cons, List.drop_zero, List.take_succ_cons, List.take_zero]
  after_reads_at
  rfl

theorem lowY_at (n : Fin 1764) (p : EReal) (hp : p = V (Proc.devRef .tc main_v162) (ValueIdx.ix1 n)) (q : EReal) (hq : q = V (Proc.devRef .tc main_v166) (ValueIdx.ix1 n)) :
    (after cornerOps V (Proc.devRef .tc main_v180) (ValueIdx.ix2 n 0) : EReal) = p - Ideal.ofBits .f32 0x3F000000#32 * q := by
  rw [hp, hq]
  simp only [cornerOps, hostOps0_4, List.drop_succ_cons, List.drop_zero, List.take_succ_cons, List.take_zero]
  after_reads_at
  rfl

theorem highX_at (n : Fin 1764) (p : EReal) (hp : p = V (Proc.devRef .tc main_v160) (ValueIdx.ix1 n)) (q : EReal) (hq : q = V (Proc.devRef .tc main_v164) (ValueIdx.ix1 n)) :
    (after cornerOps V (Proc.devRef .tc main_v181) (ValueIdx.ix2 n 0) : EReal) = p + Ideal.ofBits .f32 0x3F000000#32 * q := by
  rw [hp, hq]
  simp only [cornerOps, hostOps0_4, List.drop_succ_cons, List.drop_zero, List.take_succ_cons, List.take_zero]
  after_reads_at
  rfl

theorem highY_at (n : Fin 1764) (p : EReal) (hp : p = V (Proc.devRef .tc main_v162) (ValueIdx.ix1 n)) (q : EReal) (hq : q = V (Proc.devRef .tc main_v166) (ValueIdx.ix1 n)) :
    (after cornerOps V (Proc.devRef .tc main_v182) (ValueIdx.ix2 n 0) : EReal) = p + Ideal.ofBits .f32 0x3F000000#32 * q := by
  rw [hp, hq]
  simp only [cornerOps, hostOps0_4, List.drop_succ_cons, List.drop_zero, List.take_succ_cons, List.take_zero]
  after_reads_at
  rfl

theorem joined_at (n : Fin 1764) (l : Fin 4) : (after joinOps V (Proc.devRef .tc main_v183) (ValueIdx.ix2 n l) : EReal)
    = ![(V (Proc.devRef .tc main_v179) (ValueIdx.ix2 n 0) : EReal), (V (Proc.devRef .tc main_v180) (ValueIdx.ix2 n 0) : EReal),
        (V (Proc.devRef .tc main_v181) (ValueIdx.ix2 n 0) : EReal), (V (Proc.devRef .tc main_v182) (ValueIdx.ix2 n 0) : EReal)] l := by
  simp only [joinOps, hostOps0_4, List.drop_succ_cons, List.drop_zero, List.take_succ_cons, List.take_zero]
  fin_cases l <;> (after_reads_at; rfl)

/-- The unclipped corners, read off the anchors and the offsets. -/
theorem raw_at (n : Fin 1764) (a d : Fin 4 → EReal) (ha : ∀ l, a l = after anchorOps V (Proc.devRef .tc main_v126) (ValueIdx.ix2 n l))
    (hd : ∀ l, d l = after anchorOps V (Proc.devRef .tc main_v78) (ValueIdx.ix2 n l)) (l : Fin 4) :
    (after joinOps (after cornerOps (after sizeOps (after centreOps (after anchorOps V)))) (Proc.devRef .tc main_v183) (ValueIdx.ix2 n l) : EReal)
    = ![lowRaw (d 0) (d 2) (a 0) (a 2), lowRaw (d 1) (d 3) (a 1) (a 3), highRaw (d 0) (d 2) (a 0) (a 2), highRaw (d 1) (d 3) (a 1) (a 3)] l := by
  revert ha hd
  generalize after anchorOps V = W
  intro ha hd
  rw [joined_at]
  have x := newX_at (after centreOps W) n _ rfl _ rfl _ rfl
  have y := newY_at (after centreOps W) n _ rfl _ rfl _ rfl
  have w := newWidth_at (after centreOps W) n _ rfl _ rfl
  have h := newHeight_at (after centreOps W) n _ rfl _ rfl
  rw [moveX_at W n _ (hd 0), width_at W n _ (ha 2) _ (ha 0), middleX_at W n _ (ha 2) _ (ha 0)] at x
  rw [moveY_at W n _ (hd 1), height_at W n _ (ha 3) _ (ha 1), middleY_at W n _ (ha 3) _ (ha 1)] at y
  rw [growX_at W n _ (hd 2), width_at W n _ (ha 2) _ (ha 0)] at w
  rw [growY_at W n _ (hd 3), height_at W n _ (ha 3) _ (ha 1)] at h
  fin_cases l
  · exact lowX_at _ n _ x.symm _ w.symm
  · exact lowY_at _ n _ y.symm _ h.symm
  · exact highX_at _ n _ x.symm _ w.symm
  · exact highY_at _ n _ y.symm _ h.symm

attribute [local irreducible] sortedFrom

theorem along_eq (n k : Fin 1764) : Shape.Idx.along (s := S1764) (ValueIdx.ix1 n) 0 k = ValueIdx.ix1 k := by
  funext a
  fin_cases a
  rfl

theorem sort_apply (cmp : EReal × BitVec 32 → EReal × BitVec 32 → BitVec 1) (x : FVec Ideal S1764 .f32) (y : IVec S1764 32) (n : Fin 1764) :
    (Host.sort2 S1764 0 cmp x y).1 (ValueIdx.ix1 n)
      = x (ValueIdx.ix1 (sortedFrom (fun k k' : Fin 1764 => cmp (x (ValueIdx.ix1 k), y (ValueIdx.ix1 k)) (x (ValueIdx.ix1 k'), y (ValueIdx.ix1 k')) == 1#1) n))
    ∧ (Host.sort2 S1764 0 cmp x y).2 (ValueIdx.ix1 n)
      = y (ValueIdx.ix1 (sortedFrom (fun k k' : Fin 1764 => cmp (x (ValueIdx.ix1 k), y (ValueIdx.ix1 k)) (x (ValueIdx.ix1 k'), y (ValueIdx.ix1 k')) == 1#1) n)) := by
  have e : (fun k : Fin 1764 => Shape.Idx.along (s := S1764) (ValueIdx.ix1 n) 0 k) = ValueIdx.ix1 := funext (along_eq n)
  unfold Host.sort2
  rw [dif_pos (show 0 < S1764.rank by decide)]
  constructor
  · exact congrArg (fun P : Fin 1764 → S1764.Idx => x (P (sortedFrom (fun k k' : Fin 1764 => cmp (x (P k), y (P k)) (x (P k'), y (P k')) == 1#1) n))) e
  · exact congrArg (fun P : Fin 1764 → S1764.Idx => y (P (sortedFrom (fun k k' : Fin 1764 => cmp (x (P k), y (P k)) (x (P k'), y (P k')) == 1#1) n))) e

theorem sorted_scores (s : FVec Ideal S1764 .f32) (r : Fin 1764) :
    sortedFrom (fun k k' : Fin 1764 => (FloatOps.cmpfTotal (F := Ideal) .gt (s (ValueIdx.ix1 k)) (s (ValueIdx.ix1 k')) : BitVec 1) == 1#1) r
      = byRank (fun i => s (ValueIdx.ix1 i)) r := by
  rw [← sortedFrom_eq_byRank]
  refine congrArg (fun f => sortedFrom f _) (funext fun k => funext fun k' => ?_)
  rw [show (FloatOps.cmpfTotal (F := Ideal) .gt (s (ValueIdx.ix1 k)) (s (ValueIdx.ix1 k')) : BitVec 1) = BitVec.ofBool (decide (s (ValueIdx.ix1 k') < s (ValueIdx.ix1 k))) from rfl]
  by_cases h : s (ValueIdx.ix1 k') < s (ValueIdx.ix1 k) <;> simp [h]

theorem front_eq {α : Type} (x : S1764.Idx → α) (r : Fin 1000) : extractStridedSlice S1000 (fun _ => 0) x sliceFits_S1764_S1000 (ValueIdx.ix1 r) = x (ValueIdx.ix1 ⟨r.val, by omega⟩) := by
  refine congrArg x (funext fun a => ?_)
  fin_cases a
  exact Fin.ext (Nat.zero_add _)

theorem topK_apply (s : FVec Ideal S1764 .f32) (r : Fin 1000) :
    (Host.topK S1000 0 (FloatOps.cmpfTotal .gt) s sliceFits_S1764_S1000).1 (ValueIdx.ix1 r)
      = s (ValueIdx.ix1 (byRank (fun i => s (ValueIdx.ix1 i)) ⟨r.val, by omega⟩))
    ∧ (Host.topK S1000 0 (FloatOps.cmpfTotal .gt) s sliceFits_S1764_S1000).2 (ValueIdx.ix1 r)
      = BitVec.ofNat 32 (byRank (fun i => s (ValueIdx.ix1 i)) ⟨r.val, by omega⟩).val := by
  rw [← sorted_scores]
  constructor
  · exact (front_eq _ r).trans (sort_apply (fun l r => FloatOps.cmpfTotal (F := Ideal) (φ := .f32) .gt l.1 r.1) s (fun i => if hd : 0 < S1764.rank then iotaInDim S1764 32 ⟨0, hd⟩ i else 0#32) _).1
  · exact (front_eq _ r).trans (sort_apply (fun l r => FloatOps.cmpfTotal (F := Ideal) (φ := .f32) .gt l.1 r.1) s (fun i => if hd : 0 < S1764.rank then iotaInDim S1764 32 ⟨0, hd⟩ i else 0#32) _).2

theorem values_at (s : FVec Ideal S1764 .f32) (hs : V (Proc.devRef .tc main_v70) = s) (r : Fin 1000) :
    (after rankOps V (Proc.devRef .tc main_values) (ValueIdx.ix1 r) : EReal) = s (ValueIdx.ix1 (byRank (fun i => s (ValueIdx.ix1 i)) ⟨r.val, by omega⟩)) := by
  rw [← (topK_apply s r).1, ← hs]
  simp only [rankOps, hostOps0_4, List.drop_succ_cons, List.drop_zero, List.take_succ_cons, List.take_zero]
  after_reads_simp

theorem index_at (s : FVec Ideal S1764 .f32) (hs : V (Proc.devRef .tc main_v70) = s) (r : Fin 1000) :
    (after (rankOps.take 10) V (Proc.devRef .tc main_v189) (ValueIdx.ix2 r 0) : BitVec 32) = BitVec.ofNat 32 (byRank (fun i => s (ValueIdx.ix1 i)) ⟨r.val, by omega⟩).val := by
  have hb := (byRank (fun i => s (ValueIdx.ix1 i)) ⟨r.val, by omega⟩).isLt
  have hi := (topK_apply s r).2
  rw [← hs] at hi ⊢
  simp only [rankOps, hostOps0_4, List.drop_succ_cons, List.drop_zero, List.take_succ_cons, List.take_zero]
  after_reads_simp
  rw [hs] at hi ⊢
  revert hi
  generalize (Host.topK S1000 0 (FloatOps.cmpfTotal .gt) s sliceFits_S1764_S1000).2 = t
  intro hi
  refine Eq.trans ?_ ((select_slt_zero_of_nonneg t (addi t (constantI S1000 32 1764#32)) t (ValueIdx.ix1 r) (by rw [hi, toInt_ofNat_of_lt (by omega)]; omega)).trans hi)
  pointwise
  rfl

theorem gathered_at (s : FVec Ideal S1764 .f32) (hs : V (Proc.devRef .tc main_v70) = s) (r : Fin 1000) (l : Fin 4) :
    (after rankOps V (Proc.devRef .tc main_v190) (ValueIdx.ix2 r l) : EReal) = V (Proc.devRef .tc main_v183) (ValueIdx.ix2 (byRank (fun i => s (ValueIdx.ix1 i)) ⟨r.val, by omega⟩) l) := by
  have hi := index_at V s hs r
  have hv : after (rankOps.take 10) V (Proc.devRef .tc main_v183) = V (Proc.devRef .tc main_v183) := by
    simp only [rankOps, hostOps0_4, List.drop_succ_cons, List.drop_zero, List.take_succ_cons, List.take_zero]
    after_reads_simp
  rw [← hv, show after rankOps V (Proc.devRef .tc main_v190) = after (rankOps.drop 10) (after (rankOps.take 10) V) (Proc.devRef .tc main_v190) from rfl]
  revert hi
  generalize after (rankOps.take 10) V = W
  intro hi
  rw [show (after (rankOps.drop 10) W (Proc.devRef .tc main_v190)) = Host.gather gather_S1764x4_S1000x1_S1000x4_1_0_n_n_0_1_14 (W (Proc.devRef .tc main_v183)) (W (Proc.devRef .tc main_v189)) by
    simp only [rankOps, hostOps0_4, List.drop_succ_cons, List.drop_zero, List.take_succ_cons, List.take_zero]
    after_reads_simp]
  exact Routing.gather_row _ rfl rfl rfl rfl rfl _ _ r l _ hi (by norm_num)

end Cert.Proof.Ref
-- ==== Proof.RefBoxes.lean ====
/- The reference's clipped boxes, their probabilities and their overlaps. -/
module

public import proofs.«01_k».proof.Proof.RefRank

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (V : Valuation τ sig (Elt Ideal))

theorem probs_at (j : Fin 1000) : (after (hostOps0_12 (F := Ideal)) V (Proc.devRef .tc main_v213) (ValueIdx.ix1 j) : EReal)
    = Ideal.logistic (V (Proc.devRef .tc main_values) (ValueIdx.ix1 j)) := by
  have e : (after (hostOps0_12 (F := Ideal)) V (Proc.devRef .tc main_v213))
      = @Host.divf Ideal _ S1000 .f32 (broadcastInDim S1000 ![] bcast_S_S1000 (constant S_ FTy.f32 1065353216#32))
      (addf (broadcastInDim S1000 ![] bcast_S_S1000 (constant S_ FTy.f32 1065353216#32))
        (Host.exp (Host.negf (V (Proc.devRef .tc main_values))))) := by
    after_reads_simp
  rw [e]
  obtain ⟨v, hv⟩ : ∃ v : EReal, v = V (Proc.devRef .tc main_values) (ValueIdx.ix1 j) := ⟨_, rfl⟩
  rw [← hv]
  refine (show _ = Ideal.div (Ideal.ofBits .f32 0x3F800000#32) (Ideal.ofBits .f32 0x3F800000#32 + Ideal.exp (-v)) by rw [hv]; rfl).trans ?_
  rw [show Ideal.ofBits .f32 0x3F800000#32 = 1 from IdealRules.sign_bit.ideal_onePat .f32]
  rfl

/-- The four clipped corners, side by side. -/
theorem corners_at (j : Fin 1000) (l : Fin 4) : (after (hostOps0_12 (F := Ideal)) V (Proc.devRef .tc main_v207) (ValueIdx.ix2 j l) : EReal)
    = ![(V (Proc.devRef .tc main_v193) (ValueIdx.ix1 j) : EReal), (V (Proc.devRef .tc main_v196) (ValueIdx.ix1 j) : EReal),
        (V (Proc.devRef .tc main_v199) (ValueIdx.ix1 j) : EReal), (V (Proc.devRef .tc main_v202) (ValueIdx.ix1 j) : EReal)] l := by
  have k0 : after ((hostOps0_12 (F := Ideal)).take 4) V (Proc.devRef .tc main_v203) (ValueIdx.ix2 j 0) = V (Proc.devRef .tc main_v193) (ValueIdx.ix1 j) := by
    simp only [hostOps0_12, List.take_succ_cons, List.take_zero]
    after_reads_at
    rfl
  have k1 : after ((hostOps0_12 (F := Ideal)).take 4) V (Proc.devRef .tc main_v204) (ValueIdx.ix2 j 0) = V (Proc.devRef .tc main_v196) (ValueIdx.ix1 j) := by
    simp only [hostOps0_12, List.take_succ_cons, List.take_zero]
    after_reads_at
    rfl
  have k2 : after ((hostOps0_12 (F := Ideal)).take 4) V (Proc.devRef .tc main_v205) (ValueIdx.ix2 j 0) = V (Proc.devRef .tc main_v199) (ValueIdx.ix1 j) := by
    simp only [hostOps0_12, List.take_succ_cons, List.take_zero]
    after_reads_at
    rfl
  have k3 : after ((hostOps0_12 (F := Ideal)).take 4) V (Proc.devRef .tc main_v206) (ValueIdx.ix2 j 0) = V (Proc.devRef .tc main_v202) (ValueIdx.ix1 j) := by
    simp only [hostOps0_12, List.take_succ_cons, List.take_zero]
    after_reads_at
    rfl
  rw [← k0, ← k1, ← k2, ← k3, show (after (hostOps0_12 (F := Ideal)) V (Proc.devRef .tc main_v207)) = after ((hostOps0_12 (F := Ideal)).drop 4) (after ((hostOps0_12 (F := Ideal)).take 4) V) (Proc.devRef .tc main_v207) from rfl]
  generalize after ((hostOps0_12 (F := Ideal)).take 4) V = W
  simp only [hostOps0_12, List.drop_succ_cons, List.drop_zero]
  fin_cases l <;> (after_reads_at; rfl)

theorem areas_early : after (hostOps0_12 (F := Ideal)) V (Proc.devRef .tc main_v224) = after ((hostOps0_12 (F := Ideal)).drop 5) (after ((hostOps0_12 (F := Ideal)).take 5) V) (Proc.devRef .tc main_v224) := rfl

theorem sides_early : after (hostOps0_12 (F := Ideal)) V (Proc.devRef .tc main_v239) = after ((hostOps0_12 (F := Ideal)).drop 5) (after ((hostOps0_12 (F := Ideal)).take 5) V) (Proc.devRef .tc main_v239) := rfl

theorem boxes_early : after (hostOps0_12 (F := Ideal)) V (Proc.devRef .tc main_v207) = after ((hostOps0_12 (F := Ideal)).take 5) V (Proc.devRef .tc main_v207) := by
  rw [show (after (hostOps0_12 (F := Ideal)) V (Proc.devRef .tc main_v207)) = after ((hostOps0_12 (F := Ideal)).drop 5) (after ((hostOps0_12 (F := Ideal)).take 5) V) (Proc.devRef .tc main_v207) from rfl]
  generalize after ((hostOps0_12 (F := Ideal)).take 5) V = W
  simp only [hostOps0_12, List.drop_succ_cons, List.drop_zero]
  after_reads_simp

theorem area_at (j : Fin 1000) : (after (hostOps0_12 (F := Ideal)) V (Proc.devRef .tc main_v224) (ValueIdx.ix1 j) : EReal)
    = areaOf (fun l => after (hostOps0_12 (F := Ideal)) V (Proc.devRef .tc main_v207) (ValueIdx.ix2 j l)) := by
  rw [areas_early, boxes_early]
  generalize after ((hostOps0_12 (F := Ideal)).take 5) V = W
  simp only [hostOps0_12, List.drop_succ_cons, List.drop_zero]
  after_reads_at
  rfl

theorem sides_at (i j : Fin 1000) (l : Fin 2) : (after (hostOps0_12 (F := Ideal)) V (Proc.devRef .tc main_v239) (ValueIdx.ix3 i j l) : EReal)
    = @HSub.hSub EReal EReal EReal _ (@min EReal _ (after (hostOps0_12 (F := Ideal)) V (Proc.devRef .tc main_v207) (ValueIdx.ix2 i (Fin.natAdd 2 l))) (after (hostOps0_12 (F := Ideal)) V (Proc.devRef .tc main_v207) (ValueIdx.ix2 j (Fin.natAdd 2 l))))
      (@max EReal _ (after (hostOps0_12 (F := Ideal)) V (Proc.devRef .tc main_v207) (ValueIdx.ix2 i (Fin.castAdd 2 l))) (after (hostOps0_12 (F := Ideal)) V (Proc.devRef .tc main_v207) (ValueIdx.ix2 j (Fin.castAdd 2 l)))) := by
  rw [sides_early, boxes_early]
  generalize after ((hostOps0_12 (F := Ideal)).take 5) V = W
  simp only [hostOps0_12, List.drop_succ_cons, List.drop_zero]
  fin_cases l <;> (after_reads_at; rfl)

theorem positive_at (i j : Fin 1000) (l : Fin 2) : (after (hostOps0_13 (F := Ideal)) V (Proc.devRef .tc main_v240) (ValueIdx.ix3 i j l) : EReal)
    = @max EReal _ (V (Proc.devRef .tc main_cst_27) ValueIdx.ix0) (V (Proc.devRef .tc main_v239) (ValueIdx.ix3 i j l)) := by
  after_reads_at
  rfl

theorem zero_at : (after (hostOps0_12 (F := Ideal)) V (Proc.devRef .tc main_cst_27) ValueIdx.ix0 : EReal) = Ideal.ofBits .f32 0#32 := by
  after_reads_simp
  rfl

theorem ratio_at (i j : Fin 1000) (a b : EReal) (p q : EReal) (ha : a = V (Proc.devRef .tc main_v224) (ValueIdx.ix1 i)) (hb : b = V (Proc.devRef .tc main_v224) (ValueIdx.ix1 j))
    (hp : p = V (Proc.devRef .tc main_v240) (ValueIdx.ix3 i j 0)) (hq : q = V (Proc.devRef .tc main_v240) (ValueIdx.ix3 i j 1)) :
    (after (hostOps0_14 (F := Ideal)) V (Proc.devRef .tc main_v256_0) (ValueIdx.ix2 i j) : EReal)
    = Ideal.div (p * q) (a + b - p * q + Ideal.ofBits .f32 0x3089705F#32) := by
  rw [ha, hb, hp, hq]
  after_reads_simp
  show Host.divf _ _ (ValueIdx.ix2 i j) = _
  pointwise
  rfl

theorem counter_at : after (hostOps0_14 (F := Ideal)) V (Proc.devRef .tc main_v256_2) = fun _ => 0#32 := by
  after_reads_simp
  rfl

theorem all_kept (j : Fin 1000) : (after (hostOps0_14 (F := Ideal)) V (Proc.devRef .tc main_v256_3) (ValueIdx.ix1 j) : BitVec 1) = 1#1 := by
  after_reads_simp
  rfl

/-- A box from its anchor `a` and its offsets `d`. -/
def cornerOf (d a : Fin 4 → EReal) : Fin 4 → EReal :=
  ![lowCorner (d 0) (d 2) (a 0) (a 2), lowCorner (d 1) (d 3) (a 1) (a 3), highCorner (d 0) (d 2) (a 0) (a 2), highCorner (d 1) (d 3) (a 1) (a 3)]

theorem clip_raw (d a : Fin 4 → EReal) (l : Fin 4) :
    min (Ideal.ofBits .f32 0x43600000#32) (max (Ideal.ofBits .f32 0#32) (![lowRaw (d 0) (d 2) (a 0) (a 2), lowRaw (d 1) (d 3) (a 1) (a 3), highRaw (d 0) (d 2) (a 0) (a 2), highRaw (d 1) (d 3) (a 1) (a 3)] l))
      = cornerOf d a l := by
  rw [Ideal.ofBits_zero_f32]
  fin_cases l <;> rfl

theorem clip0 (j : Fin 1000) (x lo hi : EReal) (hx : V (Proc.devRef .tc main_v192) (ValueIdx.ix1 j) = x) (hl : V (Proc.devRef .tc main_cst_17) ValueIdx.ix0 = lo) (hh : V (Proc.devRef .tc main_cst_18) ValueIdx.ix0 = hi) :
    (after (hostOps0_5 (F := Ideal)) V (Proc.devRef .tc main_v193) (ValueIdx.ix1 j) : EReal) = min hi (max lo x) := by
  rw [← hx, ← hl, ← hh]
  after_reads_at
  rfl

theorem column0 (j : Fin 1000) : (after rankOps V (Proc.devRef .tc main_v192) (ValueIdx.ix1 j) : EReal) = after rankOps V (Proc.devRef .tc main_v190) (ValueIdx.ix2 j 0) := by
  rw [show after rankOps V (Proc.devRef .tc main_v192) = after (rankOps.drop 11) (after (rankOps.take 11) V) (Proc.devRef .tc main_v192) from rfl,
    show after rankOps V (Proc.devRef .tc main_v190) = after (rankOps.drop 11) (after (rankOps.take 11) V) (Proc.devRef .tc main_v190) from rfl]
  generalize after (rankOps.take 11) V = W
  simp only [rankOps, hostOps0_4, List.drop_succ_cons, List.drop_zero]
  after_reads_at
  rfl

theorem low0 : (after rankOps V (Proc.devRef .tc main_cst_17) ValueIdx.ix0 : EReal) = Ideal.ofBits .f32 0#32 := by
  simp only [rankOps, hostOps0_4, List.drop_succ_cons, List.drop_zero]
  after_reads_simp
  rfl

theorem high0 : (after rankOps V (Proc.devRef .tc main_cst_18) ValueIdx.ix0 : EReal) = Ideal.ofBits .f32 0x43600000#32 := by
  simp only [rankOps, hostOps0_4, List.drop_succ_cons, List.drop_zero]
  after_reads_simp
  rfl

theorem clip1 (j : Fin 1000) (x lo hi : EReal) (hx : V (Proc.devRef .tc main_v195) (ValueIdx.ix1 j) = x) (hl : V (Proc.devRef .tc main_cst_19) ValueIdx.ix0 = lo) (hh : V (Proc.devRef .tc main_cst_20) ValueIdx.ix0 = hi) :
    (after (hostOps0_7 (F := Ideal)) V (Proc.devRef .tc main_v196) (ValueIdx.ix1 j) : EReal) = min hi (max lo x) := by
  rw [← hx, ← hl, ← hh]
  after_reads_at
  rfl

theorem column1 (j : Fin 1000) : (after (hostOps0_6 (F := Ideal)) V (Proc.devRef .tc main_v195) (ValueIdx.ix1 j) : EReal) = V (Proc.devRef .tc main_v190) (ValueIdx.ix2 j 1) := by
  after_reads_at
  rfl

theorem low1 : (after (hostOps0_6 (F := Ideal)) V (Proc.devRef .tc main_cst_19) ValueIdx.ix0 : EReal) = Ideal.ofBits .f32 0#32 := by
  after_reads_simp
  rfl

theorem high1 : (after (hostOps0_6 (F := Ideal)) V (Proc.devRef .tc main_cst_20) ValueIdx.ix0 : EReal) = Ideal.ofBits .f32 0x43600000#32 := by
  after_reads_simp
  rfl

theorem clip2 (j : Fin 1000) (x lo hi : EReal) (hx : V (Proc.devRef .tc main_v198) (ValueIdx.ix1 j) = x) (hl : V (Proc.devRef .tc main_cst_21) ValueIdx.ix0 = lo) (hh : V (Proc.devRef .tc main_cst_22) ValueIdx.ix0 = hi) :
    (after (hostOps0_9 (F := Ideal)) V (Proc.devRef .tc main_v199) (ValueIdx.ix1 j) : EReal) = min hi (max lo x) := by
  rw [← hx, ← hl, ← hh]
  after_reads_at
  rfl

theorem column2 (j : Fin 1000) : (after (hostOps0_8 (F := Ideal)) V (Proc.devRef .tc main_v198) (ValueIdx.ix1 j) : EReal) = V (Proc.devRef .tc main_v190) (ValueIdx.ix2 j 2) := by
  after_reads_at
  rfl

theorem low2 : (after (hostOps0_8 (F := Ideal)) V (Proc.devRef .tc main_cst_21) ValueIdx.ix0 : EReal) = Ideal.ofBits .f32 0#32 := by
  after_reads_simp
  rfl

theorem high2 : (after (hostOps0_8 (F := Ideal)) V (Proc.devRef .tc main_cst_22) ValueIdx.ix0 : EReal) = Ideal.ofBits .f32 0x43600000#32 := by
  after_reads_simp
  rfl

theorem clip3 (j : Fin 1000) (x lo hi : EReal) (hx : V (Proc.devRef .tc main_v201) (ValueIdx.ix1 j) = x) (hl : V (Proc.devRef .tc main_cst_23) ValueIdx.ix0 = lo) (hh : V (Proc.devRef .tc main_cst_24) ValueIdx.ix0 = hi) :
    (after (hostOps0_11 (F := Ideal)) V (Proc.devRef .tc main_v202) (ValueIdx.ix1 j) : EReal) = min hi (max lo x) := by
  rw [← hx, ← hl, ← hh]
  after_reads_at
  rfl

theorem column3 (j : Fin 1000) : (after (hostOps0_10 (F := Ideal)) V (Proc.devRef .tc main_v201) (ValueIdx.ix1 j) : EReal) = V (Proc.devRef .tc main_v190) (ValueIdx.ix2 j 3) := by
  after_reads_at
  rfl

theorem low3 : (after (hostOps0_10 (F := Ideal)) V (Proc.devRef .tc main_cst_23) ValueIdx.ix0 : EReal) = Ideal.ofBits .f32 0#32 := by
  after_reads_simp
  rfl

theorem high3 : (after (hostOps0_10 (F := Ideal)) V (Proc.devRef .tc main_cst_24) ValueIdx.ix0 : EReal) = Ideal.ofBits .f32 0x43600000#32 := by
  after_reads_simp
  rfl

theorem kept_through (X : Valuation τ sig (Elt Ideal)) :
    (after hostOps0_11 (after hostOps0_10 (after hostOps0_9 (after hostOps0_8 (after hostOps0_7 (after hostOps0_6 X)))))) (Proc.devRef .tc main_v193) = X (Proc.devRef .tc main_v193)
    ∧ (after hostOps0_11 (after hostOps0_10 (after hostOps0_9 (after hostOps0_8 X)))) (Proc.devRef .tc main_v196) = X (Proc.devRef .tc main_v196)
    ∧ (after hostOps0_11 (after hostOps0_10 X)) (Proc.devRef .tc main_v199) = X (Proc.devRef .tc main_v199) := by
  refine ⟨?_, ?_, ?_⟩
  · rw [after_of_writes_sub hostOps0_11 _ hostOps0_11_writes (show main_v193 ∉ hostOps0_11_W by decide +kernel), after_of_writes_sub hostOps0_10 _ hostOps0_10_writes (show main_v193 ∉ hostOps0_10_W by decide +kernel), after_of_writes_sub hostOps0_9 _ hostOps0_9_writes (show main_v193 ∉ hostOps0_9_W by decide +kernel), after_of_writes_sub hostOps0_8 _ hostOps0_8_writes (show main_v193 ∉ hostOps0_8_W by decide +kernel), after_of_writes_sub hostOps0_7 _ hostOps0_7_writes (show main_v193 ∉ hostOps0_7_W by decide +kernel), after_of_writes_sub hostOps0_6 _ hostOps0_6_writes (show main_v193 ∉ hostOps0_6_W by decide +kernel)]
  · rw [after_of_writes_sub hostOps0_11 _ hostOps0_11_writes (show main_v196 ∉ hostOps0_11_W by decide +kernel), after_of_writes_sub hostOps0_10 _ hostOps0_10_writes (show main_v196 ∉ hostOps0_10_W by decide +kernel), after_of_writes_sub hostOps0_9 _ hostOps0_9_writes (show main_v196 ∉ hostOps0_9_W by decide +kernel), after_of_writes_sub hostOps0_8 _ hostOps0_8_writes (show main_v196 ∉ hostOps0_8_W by decide +kernel)]
  · rw [after_of_writes_sub hostOps0_11 _ hostOps0_11_writes (show main_v199 ∉ hostOps0_11_W by decide +kernel), after_of_writes_sub hostOps0_10 _ hostOps0_10_writes (show main_v199 ∉ hostOps0_10_W by decide +kernel)]

/-- The clipped boxes, of the ranked unclipped ones. -/
theorem clipped_at (j : Fin 1000) (l : Fin 4) (x : Fin 4 → EReal) (hx : ∀ l, after rankOps V (Proc.devRef .tc main_v190) (ValueIdx.ix2 j l) = x l) :
    (after hostOps0_12 (after hostOps0_11 (after hostOps0_10 (after hostOps0_9 (after hostOps0_8 (after hostOps0_7 (after hostOps0_6 (after hostOps0_5 (after rankOps V)))))))) (Proc.devRef .tc main_v207) (ValueIdx.ix2 j l) : EReal)
    = min (Ideal.ofBits .f32 0x43600000#32) (max (Ideal.ofBits .f32 0#32) (x l)) := by
  rw [corners_at]
  fin_cases l
  · refine Eq.trans ?_ (clip0 (after rankOps V) j (x 0) _ _ ((column0 V j).trans (hx 0)) (low0 V) (high0 V))
    exact congrFun (kept_through _).1 (ValueIdx.ix1 j)
  · refine Eq.trans ?_ (clip1 (after hostOps0_6 (after hostOps0_5 (after rankOps V))) j (x 1) _ _ ((column1 _ j).trans (Eq.trans ?_ (hx 1))) (low1 _) (high1 _))
    · exact congrFun (kept_through _).2.1 (ValueIdx.ix1 j)
    · rw [after_of_writes_sub hostOps0_5 _ hostOps0_5_writes (show main_v190 ∉ hostOps0_5_W by decide +kernel)]
  · refine Eq.trans ?_ (clip2 (after hostOps0_8 (after hostOps0_7 (after hostOps0_6 (after hostOps0_5 (after rankOps V))))) j (x 2) _ _ ((column2 _ j).trans (Eq.trans ?_ (hx 2))) (low2 _) (high2 _))
    · exact congrFun (kept_through _).2.2 (ValueIdx.ix1 j)
    · rw [after_of_writes_sub hostOps0_7 _ hostOps0_7_writes (show main_v190 ∉ hostOps0_7_W by decide +kernel), after_of_writes_sub hostOps0_6 _ hostOps0_6_writes (show main_v190 ∉ hostOps0_6_W by decide +kernel), after_of_writes_sub hostOps0_5 _ hostOps0_5_writes (show main_v190 ∉ hostOps0_5_W by decide +kernel)]
  · refine (clip3 (after hostOps0_10 (after hostOps0_9 (after hostOps0_8 (after hostOps0_7 (after hostOps0_6 (after hostOps0_5 (after rankOps V))))))) j (x 3) _ _ ((column3 _ j).trans (Eq.trans ?_ (hx 3))) (low3 _) (high3 _))
    rw [after_of_writes_sub hostOps0_9 _ hostOps0_9_writes (show main_v190 ∉ hostOps0_9_W by decide +kernel), after_of_writes_sub hostOps0_8 _ hostOps0_8_writes (show main_v190 ∉ hostOps0_8_W by decide +kernel), after_of_writes_sub hostOps0_7 _ hostOps0_7_writes (show main_v190 ∉ hostOps0_7_W by decide +kernel), after_of_writes_sub hostOps0_6 _ hostOps0_6_writes (show main_v190 ∉ hostOps0_6_W by decide +kernel), after_of_writes_sub hostOps0_5 _ hostOps0_5_writes (show main_v190 ∉ hostOps0_5_W by decide +kernel)]

/-- The overlaps, of the clipped boxes. -/
theorem overlap_at (i j : Fin 1000) (p q : Fin 4 → EReal)
    (hp : ∀ l, (after (hostOps0_12 (F := Ideal)) V (Proc.devRef .tc main_v207) (ValueIdx.ix2 i l) : EReal) = p l)
    (hq : ∀ l, (after (hostOps0_12 (F := Ideal)) V (Proc.devRef .tc main_v207) (ValueIdx.ix2 j l) : EReal) = q l) :
    (after (hostOps0_14 (F := Ideal)) (after (hostOps0_13 (F := Ideal)) (after (hostOps0_12 (F := Ideal)) V)) (Proc.devRef .tc main_v256_0) (ValueIdx.ix2 i j) : EReal) = overlap p q := by
  have ai := area_at V i
  have aj := area_at V j
  rw [show (fun l => after (hostOps0_12 (F := Ideal)) V (Proc.devRef .tc main_v207) (ValueIdx.ix2 i l)) = p from funext hp] at ai
  rw [show (fun l => after (hostOps0_12 (F := Ideal)) V (Proc.devRef .tc main_v207) (ValueIdx.ix2 j l)) = q from funext hq] at aj
  have s0 := sides_at V i j 0
  have s1 := sides_at V i j 1
  rw [hp, hq, hp, hq] at s0 s1
  have m0 := positive_at (after (hostOps0_12 (F := Ideal)) V) i j 0
  have m1 := positive_at (after (hostOps0_12 (F := Ideal)) V) i j 1
  rw [zero_at, Ideal.ofBits_zero_f32, s0] at m0
  rw [zero_at, Ideal.ofBits_zero_f32, s1] at m1
  refine (ratio_at _ i j (areaOf p) (areaOf q) _ _ ?_ ?_ m0.symm m1.symm).trans rfl
  · rw [after_of_writes_sub hostOps0_13 _ hostOps0_13_writes (show main_v224 ∉ hostOps0_13_W by decide +kernel), ai]
  · rw [after_of_writes_sub hostOps0_13 _ hostOps0_13_writes (show main_v224 ∉ hostOps0_13_W by decide +kernel), aj]

end Cert.Proof.Ref
-- ==== Proof.RefEnd.lean ====
/- What the reference ends with. -/
module

public import proofs.«01_k».proof.Proof.RefTail
public import proofs.«01_k».proof.Proof.RefBoxes

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (V : Valuation τ sig (Elt Ideal))

variable (m : (ℓ : Loc nD τ sig) → Buf (Elt Ideal) ℓ) (c : Dev nD)

/-- The buffers when the anchors are there. -/
def early : Valuation τ sig (Elt Ideal) := after anchorOps (after hostOps0_3 (after hostOps0_2 (after hostOps0_1 (after hostOps0 (launchContents m c)))))

/-- The buffers when the unclipped boxes are there. -/
def joined : Valuation τ sig (Elt Ideal) := after joinOps (after cornerOps (after sizeOps (after centreOps (early m c))))

def unclipped : Valuation τ sig (Elt Ideal) :=
  after hostOps0_11 (after hostOps0_10 (after hostOps0_9 (after hostOps0_8 (after hostOps0_7 (after hostOps0_6 (after hostOps0_5 (after rankOps (joined m c))))))))

theorem entry_eq : entryContents preI m c = after hostOps0_14 (after hostOps0_13 (after hostOps0_12 (unclipped m c))) := rfl

theorem keep_scores : after joinOps (after cornerOps (after sizeOps (after centreOps V))) (Proc.devRef .tc main_v70) = V (Proc.devRef .tc main_v70) := by
  simp only [joinOps, cornerOps, sizeOps, centreOps, hostOps0_4, List.drop_succ_cons, List.drop_zero, List.take_succ_cons, List.take_zero]
  after_reads_simp

theorem keep_values : after hostOps0_11 (after hostOps0_10 (after hostOps0_9 (after hostOps0_8 (after hostOps0_7 (after hostOps0_6 (after hostOps0_5 V)))))) (Proc.devRef .tc main_values) = V (Proc.devRef .tc main_values) := by
  rw [after_of_writes_sub hostOps0_11 _ hostOps0_11_writes (show main_values ∉ hostOps0_11_W by decide +kernel), after_of_writes_sub hostOps0_10 _ hostOps0_10_writes (show main_values ∉ hostOps0_10_W by decide +kernel), after_of_writes_sub hostOps0_9 _ hostOps0_9_writes (show main_values ∉ hostOps0_9_W by decide +kernel), after_of_writes_sub hostOps0_8 _ hostOps0_8_writes (show main_values ∉ hostOps0_8_W by decide +kernel), after_of_writes_sub hostOps0_7 _ hostOps0_7_writes (show main_values ∉ hostOps0_7_W by decide +kernel), after_of_writes_sub hostOps0_6 _ hostOps0_6_writes (show main_values ∉ hostOps0_6_W by decide +kernel), after_of_writes_sub hostOps0_5 _ hostOps0_5_writes (show main_values ∉ hostOps0_5_W by decide +kernel)]

/-- Box `i` in order of the scores. -/
def boxOf (s : FVec Ideal S1764 .f32) (d a : Fin 1764 → Fin 4 → EReal) (i : ℕ) : Fin 4 → EReal :=
  cornerOf (d (byRank (fun i => s (ValueIdx.ix1 i)) (Fin.ofNat 1764 i))) (a (byRank (fun i => s (ValueIdx.ix1 i)) (Fin.ofNat 1764 i)))

theorem ofNat_eq (j : Fin 1000) : (⟨j.val, by omega⟩ : Fin 1764) = Fin.ofNat 1764 j.val := Fin.ext (Nat.mod_eq_of_lt (by have := j.isLt; omega)).symm

variable (s : FVec Ideal S1764 .f32) (d a : Fin 1764 → Fin 4 → EReal) (hs : early m c (Proc.devRef .tc main_v70) = s)
  (hd : ∀ n l, d n l = early m c (Proc.devRef .tc main_v78) (ValueIdx.ix2 n l)) (ha : ∀ n l, a n l = early m c (Proc.devRef .tc main_v126) (ValueIdx.ix2 n l))

include hs hd ha in
theorem box_at (j : Fin 1000) (l : Fin 4) : (after hostOps0_12 (unclipped m c) (Proc.devRef .tc main_v207) (ValueIdx.ix2 j l) : EReal) = boxOf s d a j.val l := by
  unfold boxOf
  rw [← ofNat_eq j, ← clip_raw]
  refine clipped_at (joined m c) j l _ fun l => (gathered_at (joined m c) s ((keep_scores _).trans hs) j l).trans ?_
  exact raw_at _ _ (a _) (d _) (fun l => ha _ l) (fun l => hd _ l) l

include hs in
theorem prob_at (j : Fin 1000) : (after hostOps0_12 (unclipped m c) (Proc.devRef .tc main_v213) (ValueIdx.ix1 j) : EReal)
    = Ideal.logistic (s (ValueIdx.ix1 (byRank (fun i => s (ValueIdx.ix1 i)) (Fin.ofNat 1764 j.val)))) := by
  rw [← ofNat_eq j, ← values_at (joined m c) s ((keep_scores _).trans hs) j, probs_at]
  refine congrArg Ideal.logistic ?_
  exact congrFun (keep_values _) (ValueIdx.ix1 j)

include hs hd ha in
theorem kept_at (K : ℕ → Prop) (hK : Greedy 1000 (removes (boxOf s d a)) K) (j : Fin 1000) : (atExit m c (Proc.devRef .tc main_v256_3) (ValueIdx.ix1 j) : BitVec 1) = 1#1 ↔ K j.val := by
  refine kept_exit m c _ K hK (fun i j => ?_) ?_ ?_ j
  · rw [entry_eq, overlap_at _ i j _ _ (box_at m c s d a hs hd ha i) (box_at m c s d a hs hd ha j)]
    exact Iff.rfl
  · rw [entry_eq]; exact counter_at _
  · intro j; rw [entry_eq]; exact all_kept _ j

theorem exit_rows : atExit m c (Proc.devRef .tc main_v207) = after hostOps0_12 (unclipped m c) (Proc.devRef .tc main_v207) := by
  rw [atExit_keep m c main_v207 (by decide +kernel), entry_eq, after_of_writes_sub hostOps0_14 _ hostOps0_14_writes (show main_v207 ∉ hostOps0_14_W by decide +kernel), after_of_writes_sub hostOps0_13 _ hostOps0_13_writes (show main_v207 ∉ hostOps0_13_W by decide +kernel)]

theorem exit_scores : atExit m c (Proc.devRef .tc main_v213) = after hostOps0_12 (unclipped m c) (Proc.devRef .tc main_v213) := by
  rw [atExit_keep m c main_v213 (by decide +kernel), entry_eq, after_of_writes_sub hostOps0_14 _ hostOps0_14_writes (show main_v213 ∉ hostOps0_14_W by decide +kernel), after_of_writes_sub hostOps0_13 _ hostOps0_13_writes (show main_v213 ∉ hostOps0_13_W by decide +kernel)]

include hs hd ha in
/-- The boxes the reference ends with. -/
theorem rows_are (K : ℕ → Prop) (hK : Greedy 1000 (removes (boxOf s d a)) K) (r : Fin 300) (l : Fin 4) :
    (atEnd m c (Proc.devRef .tc main_v277) (ValueIdx.ix2 r l) : EReal) = @ite EReal (place 1000 K r.val < 1000) _ (boxOf s d a (place 1000 K r.val) l) 0 := by
  have hp := place_le K r.val
  unfold atEnd
  rw [rows_end]
  refine (Routing.gather_row _ rfl rfl rfl rfl rfl _ _ r l ⟨place 1000 K r.val, by omega⟩ (takeWords_apply _ K (count_at (atExit m c) K (kept_at m c s d a hs hd ha K hK)) r) (by norm_num)).trans ?_
  rw [after_of_writes_sub hostOps0_16 _ hostOps0_16_writes (show main_v258 ∉ hostOps0_16_W by decide +kernel)]
  refine (rows_padded _ _ l).trans ?_
  by_cases h : place 1000 K r.val < 1000
  · rw [dif_pos h, if_pos h, exit_rows]
    exact box_at m c s d a hs hd ha ⟨_, h⟩ l
  · rw [dif_neg h, if_neg h]

include hs hd ha in
/-- The scores the reference ends with. -/
theorem scores_are (K : ℕ → Prop) (hK : Greedy 1000 (removes (boxOf s d a)) K) (r : Fin 300) :
    (atEnd m c (Proc.devRef .tc main_v284) (ValueIdx.ix1 r) : EReal)
      = @ite EReal (place 1000 K r.val < 1000) _ (Ideal.logistic (s (ValueIdx.ix1 (byRank (fun i => s (ValueIdx.ix1 i)) (Fin.ofNat 1764 (place 1000 K r.val)))))) 0 := by
  have hp := place_le K r.val
  unfold atEnd
  rw [scores_end]
  refine (Routing.gather_take1 _ rfl rfl rfl rfl _ _ r ⟨place 1000 K r.val, by omega⟩ (takeWords_apply _ K (count_at (atExit m c) K (kept_at m c s d a hs hd ha K hK)) r) (by norm_num)).trans ?_
  rw [after_of_writes_sub hostOps0_16 _ hostOps0_16_writes (show main_v260 ∉ hostOps0_16_W by decide +kernel)]
  refine (scores_padded _ _).trans ?_
  by_cases h : place 1000 K r.val < 1000
  · rw [dif_pos h, if_pos h, exit_scores]
    exact prob_at m c s hs ⟨_, h⟩
  · rw [dif_neg h, if_neg h]

end Cert.Proof.Ref
-- ==== Proof.Anchors.lean ====
/- The two programs compute the anchors by the same operations. -/
module

public import proofs.«01_k».proof.Proof.RunMain
public import proofs.«01_k».proof.Proof.RefEnd
public import Idealize.ShloMosaic.Lib.Pointwise
public import Idealize.ShloMosaic.Lib.ValueLayout
public import Idealize.ShloMosaic.Lib.StableHlo.ReadAt

@[expose] public section

set_option maxRecDepth 16384
set_option maxHeartbeats 1000000

noncomputable section

namespace Cert.Proof

open Idealize.ShloMosaic Idealize.ShloMosaic.TcCoe Idealize.ShloMosaic.StableHlo Idealize.ShloMosaic.ValueIdx

variable (V : Valuation Cert.KernelIdeal.τ Cert.KernelIdeal.sig (Elt Ideal)) (W : Valuation Cert.ReferenceIdeal.τ Cert.ReferenceIdeal.sig (Elt Ideal))

theorem base_part0 (h0 : V (Proc.devRef .tc Cert.KernelIdeal.main_cst_0) = W (Proc.devRef .tc Cert.ReferenceIdeal.main_cst_0))
    (h1 : V (Proc.devRef .tc Cert.KernelIdeal.main_cst) = W (Proc.devRef .tc Cert.ReferenceIdeal.main_cst)) :
    after ((Cert.KernelIdeal.Gen.hostOps1 (F := Ideal)).take 29) V (Proc.devRef .tc Cert.KernelIdeal.main_v45) = after (((Cert.ReferenceIdeal.Gen.hostOps0_2 (F := Ideal)).drop 62).take 37) W (Proc.devRef .tc Cert.ReferenceIdeal.main_v96) := by
  simp only [Cert.KernelIdeal.Gen.hostOps1, Cert.ReferenceIdeal.Gen.hostOps0_2, List.take_succ_cons, List.take_zero, List.drop_succ_cons, List.drop_zero]
  after_reads_simp
  rw [h0, h1]
  rfl

theorem base_part1 (h0 : V (Proc.devRef .tc Cert.KernelIdeal.main_cst_0) = W (Proc.devRef .tc Cert.ReferenceIdeal.main_cst_0))
    (h1 : V (Proc.devRef .tc Cert.KernelIdeal.main_cst) = W (Proc.devRef .tc Cert.ReferenceIdeal.main_cst)) :
    after ((Cert.KernelIdeal.Gen.hostOps1 (F := Ideal)).take 29) V (Proc.devRef .tc Cert.KernelIdeal.main_v46) = after (((Cert.ReferenceIdeal.Gen.hostOps0_2 (F := Ideal)).drop 62).take 37) W (Proc.devRef .tc Cert.ReferenceIdeal.main_v97) := by
  simp only [Cert.KernelIdeal.Gen.hostOps1, Cert.ReferenceIdeal.Gen.hostOps0_2, List.take_succ_cons, List.take_zero, List.drop_succ_cons, List.drop_zero]
  after_reads_simp
  rw [h0, h1]
  rfl

theorem base_part2 (h0 : V (Proc.devRef .tc Cert.KernelIdeal.main_cst_0) = W (Proc.devRef .tc Cert.ReferenceIdeal.main_cst_0))
    (h1 : V (Proc.devRef .tc Cert.KernelIdeal.main_cst) = W (Proc.devRef .tc Cert.ReferenceIdeal.main_cst)) :
    after ((Cert.KernelIdeal.Gen.hostOps1 (F := Ideal)).take 29) V (Proc.devRef .tc Cert.KernelIdeal.main_v47) = after (((Cert.ReferenceIdeal.Gen.hostOps0_2 (F := Ideal)).drop 62).take 37) W (Proc.devRef .tc Cert.ReferenceIdeal.main_v98) := by
  simp only [Cert.KernelIdeal.Gen.hostOps1, Cert.ReferenceIdeal.Gen.hostOps0_2, List.take_succ_cons, List.take_zero, List.drop_succ_cons, List.drop_zero]
  after_reads_simp
  rw [h0, h1]
  rfl

theorem base_part3 (h0 : V (Proc.devRef .tc Cert.KernelIdeal.main_cst_0) = W (Proc.devRef .tc Cert.ReferenceIdeal.main_cst_0))
    (h1 : V (Proc.devRef .tc Cert.KernelIdeal.main_cst) = W (Proc.devRef .tc Cert.ReferenceIdeal.main_cst)) :
    after ((Cert.KernelIdeal.Gen.hostOps1 (F := Ideal)).take 29) V (Proc.devRef .tc Cert.KernelIdeal.main_v48) = after (((Cert.ReferenceIdeal.Gen.hostOps0_2 (F := Ideal)).drop 62).take 37) W (Proc.devRef .tc Cert.ReferenceIdeal.main_v99) := by
  simp only [Cert.KernelIdeal.Gen.hostOps1, Cert.ReferenceIdeal.Gen.hostOps0_2, List.take_succ_cons, List.take_zero, List.drop_succ_cons, List.drop_zero]
  after_reads_simp
  rw [h0, h1]
  rfl

theorem base_join (h0 : V (Proc.devRef .tc Cert.KernelIdeal.main_v45) = W (Proc.devRef .tc Cert.ReferenceIdeal.main_v96))
    (h1 : V (Proc.devRef .tc Cert.KernelIdeal.main_v46) = W (Proc.devRef .tc Cert.ReferenceIdeal.main_v97))
    (h2 : V (Proc.devRef .tc Cert.KernelIdeal.main_v47) = W (Proc.devRef .tc Cert.ReferenceIdeal.main_v98))
    (h3 : V (Proc.devRef .tc Cert.KernelIdeal.main_v48) = W (Proc.devRef .tc Cert.ReferenceIdeal.main_v99)) :
    after ((Cert.KernelIdeal.Gen.hostOps1 (F := Ideal)).drop 29) V (Proc.devRef .tc Cert.KernelIdeal.main_v51) = after (((Cert.ReferenceIdeal.Gen.hostOps0_2 (F := Ideal)).drop 62).drop 37) W (Proc.devRef .tc Cert.ReferenceIdeal.main_v102) := by
  simp only [Cert.KernelIdeal.Gen.hostOps1, Cert.ReferenceIdeal.Gen.hostOps0_2, List.take_succ_cons, List.take_zero, List.drop_succ_cons, List.drop_zero]
  after_reads_simp
  simp only [upto, List.take_zero, after_nil, Matrix.cons_val_zero, Matrix.cons_val_one, Matrix.cons_val]
  rw [h0, h1, h2, h3]

theorem base_same (h : V (Proc.devRef .tc Cert.KernelIdeal.main_cst_0) = W (Proc.devRef .tc Cert.ReferenceIdeal.main_cst_0)) (h' : V (Proc.devRef .tc Cert.KernelIdeal.main_cst) = W (Proc.devRef .tc Cert.ReferenceIdeal.main_cst)) :
    after (Cert.KernelIdeal.Gen.hostOps1 (F := Ideal)) V (Proc.devRef .tc Cert.KernelIdeal.main_v51) = after ((Cert.ReferenceIdeal.Gen.hostOps0_2 (F := Ideal)).drop 62) W (Proc.devRef .tc Cert.ReferenceIdeal.main_v102) :=
  base_join (after ((Cert.KernelIdeal.Gen.hostOps1 (F := Ideal)).take 29) V) (after (((Cert.ReferenceIdeal.Gen.hostOps0_2 (F := Ideal)).drop 62).take 37) W)
    (base_part0 V W h h') (base_part1 V W h h') (base_part2 V W h h') (base_part3 V W h h')

theorem round_same (h0 : V (Proc.devRef .tc Cert.KernelIdeal.main_v51) = W (Proc.devRef .tc Cert.ReferenceIdeal.main_v102)) :
    after (Cert.KernelIdeal.Gen.hostOps1_1 (F := Ideal)) V (Proc.devRef .tc Cert.KernelIdeal.main_v52) = after (Cert.ReferenceIdeal.Gen.hostOps0_3 (F := Ideal)) W (Proc.devRef .tc Cert.ReferenceIdeal.main_v103) := by
  after_reads_simp
  rw [h0]

theorem anchor_part0  :
    after ((Cert.KernelIdeal.Gen.hostOps1_2 (F := Ideal)).take 18) V (Proc.devRef .tc Cert.KernelIdeal.main_v65) = after ((Cert.Proof.Ref.anchorOps).take 18) W (Proc.devRef .tc Cert.ReferenceIdeal.main_v116) := by
  simp only [Cert.KernelIdeal.Gen.hostOps1_2, Cert.Proof.Ref.anchorOps, Cert.ReferenceIdeal.Gen.hostOps0_4, List.take_succ_cons, List.take_zero, List.drop_succ_cons, List.drop_zero]
  after_reads_simp
  rfl

theorem anchor_part1  :
    after ((Cert.KernelIdeal.Gen.hostOps1_2 (F := Ideal)).take 18) V (Proc.devRef .tc Cert.KernelIdeal.main_v66) = after ((Cert.Proof.Ref.anchorOps).take 18) W (Proc.devRef .tc Cert.ReferenceIdeal.main_v117) := by
  simp only [Cert.KernelIdeal.Gen.hostOps1_2, Cert.Proof.Ref.anchorOps, Cert.ReferenceIdeal.Gen.hostOps0_4, List.take_succ_cons, List.take_zero, List.drop_succ_cons, List.drop_zero]
  after_reads_simp
  rfl

theorem anchor_part2  :
    after ((Cert.KernelIdeal.Gen.hostOps1_2 (F := Ideal)).take 18) V (Proc.devRef .tc Cert.KernelIdeal.main_v67) = after ((Cert.Proof.Ref.anchorOps).take 18) W (Proc.devRef .tc Cert.ReferenceIdeal.main_v118) := by
  simp only [Cert.KernelIdeal.Gen.hostOps1_2, Cert.Proof.Ref.anchorOps, Cert.ReferenceIdeal.Gen.hostOps0_4, List.take_succ_cons, List.take_zero, List.drop_succ_cons, List.drop_zero]
  after_reads_simp
  rfl

theorem anchor_part3  :
    after ((Cert.KernelIdeal.Gen.hostOps1_2 (F := Ideal)).take 18) V (Proc.devRef .tc Cert.KernelIdeal.main_v68) = after ((Cert.Proof.Ref.anchorOps).take 18) W (Proc.devRef .tc Cert.ReferenceIdeal.main_v119) := by
  simp only [Cert.KernelIdeal.Gen.hostOps1_2, Cert.Proof.Ref.anchorOps, Cert.ReferenceIdeal.Gen.hostOps0_4, List.take_succ_cons, List.take_zero, List.drop_succ_cons, List.drop_zero]
  after_reads_simp
  rfl

theorem anchor_kept (h0 : V (Proc.devRef .tc Cert.KernelIdeal.main_v52) = W (Proc.devRef .tc Cert.ReferenceIdeal.main_v103)) :
    after ((Cert.KernelIdeal.Gen.hostOps1_2 (F := Ideal)).take 18) V (Proc.devRef .tc Cert.KernelIdeal.main_v52) = after ((Cert.Proof.Ref.anchorOps).take 18) W (Proc.devRef .tc Cert.ReferenceIdeal.main_v103) := by
  simp only [Cert.KernelIdeal.Gen.hostOps1_2, Cert.Proof.Ref.anchorOps, Cert.ReferenceIdeal.Gen.hostOps0_4, List.take_succ_cons, List.take_zero, List.drop_succ_cons, List.drop_zero]
  after_reads_simp
  rw [h0]

theorem anchor_join (h0 : V (Proc.devRef .tc Cert.KernelIdeal.main_v65) = W (Proc.devRef .tc Cert.ReferenceIdeal.main_v116))
    (h1 : V (Proc.devRef .tc Cert.KernelIdeal.main_v66) = W (Proc.devRef .tc Cert.ReferenceIdeal.main_v117))
    (h2 : V (Proc.devRef .tc Cert.KernelIdeal.main_v67) = W (Proc.devRef .tc Cert.ReferenceIdeal.main_v118))
    (h3 : V (Proc.devRef .tc Cert.KernelIdeal.main_v68) = W (Proc.devRef .tc Cert.ReferenceIdeal.main_v119))
    (h4 : V (Proc.devRef .tc Cert.KernelIdeal.main_v52) = W (Proc.devRef .tc Cert.ReferenceIdeal.main_v103)) :
    after ((Cert.KernelIdeal.Gen.hostOps1_2 (F := Ideal)).drop 18) V (Proc.devRef .tc Cert.KernelIdeal.main_v75) = after ((Cert.Proof.Ref.anchorOps).drop 18) W (Proc.devRef .tc Cert.ReferenceIdeal.main_v126) := by
  simp only [Cert.KernelIdeal.Gen.hostOps1_2, Cert.Proof.Ref.anchorOps, Cert.ReferenceIdeal.Gen.hostOps0_4, List.take_succ_cons, List.take_zero, List.drop_succ_cons, List.drop_zero]
  after_reads_simp
  simp only [upto, List.take_zero, after_nil, Matrix.cons_val_zero, Matrix.cons_val_one, Matrix.cons_val]
  rw [h0, h1, h2, h3, h4]
  rfl

theorem anchors_same (h : V (Proc.devRef .tc Cert.KernelIdeal.main_v52) = W (Proc.devRef .tc Cert.ReferenceIdeal.main_v103)) : after (Cert.KernelIdeal.Gen.hostOps1_2 (F := Ideal)) V (Proc.devRef .tc Cert.KernelIdeal.main_v75) = after (Cert.Proof.Ref.anchorOps) W (Proc.devRef .tc Cert.ReferenceIdeal.main_v126) :=
  anchor_join (after ((Cert.KernelIdeal.Gen.hostOps1_2 (F := Ideal)).take 18) V) (after ((Cert.Proof.Ref.anchorOps).take 18) W)
    (anchor_part0 V W) (anchor_part1 V W) (anchor_part2 V W) (anchor_part3 V W) (anchor_kept V W h)

end Cert.Proof
-- ==== Proof.ConvVal.lean ====
/- The first kernel's value, entry by entry. -/
module

public import proofs.«01_k».proof.Proof.RunMain
public import proofs.«01_k».proof.Proof.Ranks
public import proofs.«01_k».proof.Proof.Image
public import Idealize.ShloMosaic.Lib.Pointwise
public import Idealize.ShloMosaic.Lib.ValueLayout
public import Idealize.ShloMosaic.Lib.StableHlo.ReadAt

@[expose] public section

set_option maxRecDepth 16384
set_option maxHeartbeats 1000000

noncomputable section

namespace Cert.Proof

open Cert.KernelIdeal Cert.KernelIdeal.Gen
open Idealize.ShloMosaic Idealize.ShloMosaic.TcCoe Idealize.ShloMosaic.StableHlo Idealize.ShloMosaic.ValueIdx

theorem pay1_at (v : FVec Ideal S256x128 .f32) (w : FVec Ideal S1x128 .f32) (p : Fin 256) (q : Fin 128) : k0_pay1 v w (ValueIdx.ix2 p q) = v (ValueIdx.ix2 p q) + w (ValueIdx.ix2 0 q) := by
  unfold k0_pay1
  pointwise
  rfl

theorem pay2_at (a0 a1 a2 a3 a4 : Vec Ideal S256x768 .f32) (b0 b1 b2 b3 b4 : Vec Ideal S768x768 .f32) (p : Fin 256) (o : Fin 768) :
    (k0_pay2 a0 b0 a1 b1 a2 b2 a3 b3 a4 b4 (ValueIdx.ix2 p o) : EReal) = (∑ k : Fin 768, a0 (ValueIdx.ix2 p k) * b0 (ValueIdx.ix2 k o)) + (∑ k : Fin 768, a1 (ValueIdx.ix2 p k) * b1 (ValueIdx.ix2 k o)) + (∑ k : Fin 768, a2 (ValueIdx.ix2 p k) * b2 (ValueIdx.ix2 k o)) + (∑ k : Fin 768, a3 (ValueIdx.ix2 p k) * b3 (ValueIdx.ix2 k o)) + (∑ k : Fin 768, a4 (ValueIdx.ix2 p k) * b4 (ValueIdx.ix2 k o)) := by
  unfold k0_pay2
  pointwise
  rfl

theorem pay3_at (v : FVec Ideal S256x768 .f32) (a0 a1 a2 a3 : Vec Ideal S256x768 .f32) (b0 b1 b2 b3 : Vec Ideal S768x768 .f32) (x2 : Vec Ideal S1x768 .f32) (x3 : Vec Ideal S768x128 .f32) (p : Fin 256) (q : Fin 128) :
    (k0_pay3 v a0 b0 a1 b1 a2 b2 a3 b3 x2 x3 (ValueIdx.ix2 p q) : EReal)
      = ∑ o : Fin 768, max ((v (ValueIdx.ix2 p o) : EReal) + (∑ k : Fin 768, a0 (ValueIdx.ix2 p k) * b0 (ValueIdx.ix2 k o)) + (∑ k : Fin 768, a1 (ValueIdx.ix2 p k) * b1 (ValueIdx.ix2 k o)) + (∑ k : Fin 768, a2 (ValueIdx.ix2 p k) * b2 (ValueIdx.ix2 k o)) + (∑ k : Fin 768, a3 (ValueIdx.ix2 p k) * b3 (ValueIdx.ix2 k o)) + x2 (ValueIdx.ix2 0 o)) 0 * x3 (ValueIdx.ix2 o q) := by
  unfold k0_pay3
  pointwise
  rfl

/-- The rows of the padded image from row `r`. -/
def rowsFrom (x : Vec Ideal S320x768 .f32) (r : ℕ) : Vec Ideal S256x768 .f32 := fun y => x (ValueIdx.ix2 (Fin.ofNat 320 ((y 0).val + r)) (y 1))

/-- The weights from row `r`. -/
def weightsFrom (x : Vec Ideal S6912x768 .f32) (r : ℕ) : Vec Ideal S768x768 .f32 := fun y => x (ValueIdx.ix2 (Fin.ofNat 6912 ((y 0).val + r)) (y 1))

theorem ld_rows (x : Vec Ideal S320x768 .f32) (r : ℕ) (hr : r + 256 ≤ 320) (h) : ld x (Rect.unit (s := S320x768) ![r, 0] S256x768.size h) = rowsFrom x r := by
  funext y
  have hy : (y 0).val < 256 := (y 0).isLt
  refine congrArg x (funext fun a => Fin.ext ?_)
  match a with
  | ⟨0, _⟩ => rw [Rect.emb_apply]; show r + 1 * (y 0).val = ((y 0).val + r) % 320; omega
  | ⟨1, _⟩ => rw [Rect.emb_apply]; show 0 + 1 * (y 1).val = (y 1).val; omega

theorem ld_weights (x : Vec Ideal S6912x768 .f32) (r : ℕ) (hr : r + 768 ≤ 6912) (h) : ld x (Rect.unit (s := S6912x768) ![r, 0] S768x768.size h) = weightsFrom x r := by
  funext y
  have hy : (y 0).val < 768 := (y 0).isLt
  refine congrArg x (funext fun a => Fin.ext ?_)
  match a with
  | ⟨0, _⟩ => rw [Rect.emb_apply]; show r + 1 * (y 0).val = ((y 0).val + r) % 6912; omega
  | ⟨1, _⟩ => rw [Rect.emb_apply]; show 0 + 1 * (y 1).val = (y 1).val; omega

theorem ld_all {a b : ℕ} (x : Vec Ideal ⟨2, ![a, b]⟩ .f32) (h) : ld x (Rect.unit (s := ⟨2, ![a, b]⟩) ![0, 0] ![a, b] h) = x := by
  funext y
  refine congrArg x (funext fun c => Fin.ext ?_)
  match c with
  | ⟨0, _⟩ => rw [Rect.emb_apply]; show 0 + 1 * (y 0).val = (y 0).val; omega
  | ⟨1, _⟩ => rw [Rect.emb_apply]; show 0 + 1 * (y 1).val = (y 1).val; omega

/-- One tap of the convolution body. -/
def tapOf (x0 : Vec Ideal S320x768 .f32) (x1 : Vec Ideal S6912x768 .f32) (p : Fin 256) (o : Fin 768) (r t : ℕ) : EReal :=
  ∑ k : Fin 768, rowsFrom x0 r (ValueIdx.ix2 p k) * weightsFrom x1 t (ValueIdx.ix2 k o)

theorem pay4_at (x : Vec Ideal S1x128 .f32) (q : Fin 128) : k0_pay4 (F := Ideal) x (ValueIdx.ix2 0 q) = x (ValueIdx.ix2 0 q) := by
  unfold k0_pay4
  pointwise

theorem convVal_at (x0 : Vec Ideal S320x768 .f32) (x1 : Vec Ideal S6912x768 .f32) (x2 : Vec Ideal S1x768 .f32) (x3 : Vec Ideal S768x128 .f32) (x4 : Vec Ideal S1x128 .f32)
    (p : Fin 256) (q : Fin 128) : (convVal x0 x1 x2 x3 x4 (ValueIdx.ix2 p q) : EReal)
    = (∑ o : Fin 768, max (tapOf x0 x1 p o 0 0 + tapOf x0 x1 p o 1 768 + tapOf x0 x1 p o 2 1536 + tapOf x0 x1 p o 16 2304 + tapOf x0 x1 p o 17 3072
        + tapOf x0 x1 p o 18 3840 + tapOf x0 x1 p o 32 4608 + tapOf x0 x1 p o 33 5376 + tapOf x0 x1 p o 34 6144 + x2 (ValueIdx.ix2 0 o)) 0 * x3 (ValueIdx.ix2 o q)) + x4 (ValueIdx.ix2 0 q) := by
  unfold convVal
  rw [ld_rows x0 0 (by norm_num), ld_rows x0 1 (by norm_num), ld_rows x0 2 (by norm_num), ld_rows x0 16 (by norm_num), ld_rows x0 17 (by norm_num), ld_rows x0 18 (by norm_num),
    ld_rows x0 32 (by norm_num), ld_rows x0 33 (by norm_num), ld_rows x0 34 (by norm_num),
    ld_weights x1 0 (by norm_num), ld_weights x1 768 (by norm_num), ld_weights x1 1536 (by norm_num), ld_weights x1 2304 (by norm_num), ld_weights x1 3072 (by norm_num),
    ld_weights x1 3840 (by norm_num), ld_weights x1 4608 (by norm_num), ld_weights x1 5376 (by norm_num), ld_weights x1 6144 (by norm_num), pay1_at, pay3_at]
  refine congrArg₂ (· + ·) (Finset.sum_congr rfl fun o _ => ?_) ?_
  · rw [pay2_at]
    refine congrArg₂ (fun u v => max (_ + _ + _ + _ + _ + u) 0 * v) (congrFun (ld_all x2 _) _) (congrFun (ld_all x3 _) _)
  · rw [pay4_at]
    exact congrFun (ld_all x4 _) _

end Cert.Proof
-- ==== Proof.HostReads.lean ====
/- What the host operations before the two kernels hand over, entry by entry. -/
module

public import proofs.«01_k».proof.Proof.RunMain
public import proofs.«01_k».proof.Proof.Ranks
public import proofs.«01_k».proof.Proof.Image
public import Idealize.ShloMosaic.Lib.Pointwise
public import Idealize.ShloMosaic.Lib.ValueLayout
public import Idealize.ShloMosaic.Lib.StableHlo.ReadAt

@[expose] public section

set_option maxRecDepth 16384
set_option maxHeartbeats 1000000

noncomputable section

namespace Cert.Proof

open Cert.KernelIdeal Cert.KernelIdeal.Gen
open Idealize.ShloMosaic Idealize.ShloMosaic.TcCoe Idealize.ShloMosaic.StableHlo Idealize.ShloMosaic.ValueIdx

variable (V : Valuation τ sig (Elt Ideal))

theorem kernel_image (y x : Fin 14) (ch : Fin 768) : (after (hostOps0 (F := Ideal)) V (Proc.devRef .tc main_v3) (ValueIdx.ix3 y x ch) : EReal) = pixel (V (Proc.devRef .tc main_arg1)) ch y x := by
  have hy := y.isLt
  have hx := x.isLt
  have hc := ch.isLt
  after_reads_at
  unfold pixel
  refine congrArg (V (Proc.devRef .tc main_arg1)) (congrArg₂ (fun u v => ValueIdx.ix3 0 u v) (Fin.ext ?_) (Fin.ext ?_))
  · show 1 + (ch.val * 196 + (y.val * 14 + x.val)) / 768 = (1 + (ch.val * 196 + (y.val * 14 + x.val)) / 768) % 197
    omega
  · rfl

theorem kernel_zero : (after (hostOps0 (F := Ideal)) V (Proc.devRef .tc main_c) ValueIdx.ix0 : BitVec 32) = 0#32 := by
  after_reads_simp
  rfl

theorem kernel_border (im) (a b : Fin 16) (ch : Fin 768) (hV : ∀ (y x : Fin 14) (ch : Fin 768), (V (Proc.devRef .tc main_v3) (ValueIdx.ix3 y x ch) : EReal) = pixel im ch y x)
    (h0 : (V (Proc.devRef .tc main_c) ValueIdx.ix0 : BitVec 32) = 0#32) :
    (after (hostOps0_1 (F := Ideal)) V (Proc.devRef .tc main_v4) (ValueIdx.ix3 a b ch) : EReal) = border im a b ch := by
  after_reads_at
  unfold border
  by_cases h : (1 ≤ a.val ∧ a.val - 1 < 14) ∧ 1 ≤ b.val ∧ b.val - 1 < 14
  · rw [if_pos h]
    exact (dif_pos h).trans (hV ⟨a.val - 1, h.1.2⟩ ⟨b.val - 1, h.2.2⟩ ch)
  · rw [if_neg h]
    refine (dif_neg h).trans ?_
    refine (congrArg (FloatOps.sitofp (F := Ideal) .f32) ((congrArg (V (Proc.devRef .tc main_c)) (ValueIdx.eq_ix0 _)).trans h0)).trans ?_
    show (((0#32 : BitVec 32).toInt : ℝ) : EReal) = 0
    simp

theorem kernel_rows (a b : Fin 16) (ch : Fin 768) (p : Fin 320) (hp : p.val = 16 * a.val + b.val) :
    (after (hostOps0_2 (F := Ideal)) V (Proc.devRef .tc main_v7) (ValueIdx.ix2 p ch) : EReal) = V (Proc.devRef .tc main_v4) (ValueIdx.ix3 a b ch) := by
  have ha := a.isLt
  have hb := b.isLt
  after_reads_at
  refine (dif_pos (show p.val < 256 by omega)).trans ?_
  refine congrArg (V (Proc.devRef .tc main_v4)) (congrArg₂ (fun u v => ValueIdx.ix3 u v ch) (Fin.ext ?_) (Fin.ext ?_))
  · show p.val / 16 = a.val
    omega
  · show p.val % 16 = b.val
    omega

theorem four {n₁ n₂ n₃ n₄ : ℕ} (o : Fin n₁) {u u' : Fin n₂} {v v' : Fin n₃} {w w' : Fin n₄} (hu : u.val = u'.val) (hv : v.val = v'.val) (hw : w.val = w'.val) :
    ValueIdx.ix4 o u v w = ValueIdx.ix4 o u' v' w' := by
  rw [Fin.ext hu, Fin.ext hv, Fin.ext hw]

theorem kernel_weights (ky kx : Fin 3) (k o : Fin 768) (p : Fin 6912) (hp : p.val = 768 * (3 * ky.val + kx.val) + k.val) :
    (after (hostOps0_2 (F := Ideal)) V (Proc.devRef .tc main_v9) (ValueIdx.ix2 p o) : EReal) = V (Proc.devRef .tc main_arg2) (ValueIdx.ix4 o k ky kx) := by
  have ha := ky.isLt
  have hb := kx.isLt
  have hk := k.isLt
  after_reads_at
  refine congrArg (V (Proc.devRef .tc main_arg2)) (four o ?_ ?_ ?_)
  · show p.val % 768 = k.val
    omega
  · show p.val / 2304 = ky.val
    omega
  · show p.val / 768 % 3 = kx.val
    omega

theorem kernel_bias (o : Fin 768) : (after (hostOps0_2 (F := Ideal)) V (Proc.devRef .tc main_v10) (ValueIdx.ix2 0 o) : EReal) = V (Proc.devRef .tc main_arg3) (ValueIdx.ix1 o) := by
  after_reads_at
  rfl

theorem kernel_cls_early (o : Fin 768) (q : Fin 9) : (after ((hostOps0_2 (F := Ideal)).take 13) V (Proc.devRef .tc main_v12) (ValueIdx.ix2 o q) : EReal) = V (Proc.devRef .tc main_arg4) (ValueIdx.ix4 q o 0 0) := by
  simp only [hostOps0_2, List.take_succ_cons, List.take_zero]
  after_reads_at
  rfl

theorem kernel_cls (o : Fin 768) (q : Fin 9) : (after (hostOps0_2 (F := Ideal)) V (Proc.devRef .tc main_v16) (ValueIdx.ix2 o ⟨q.val, by omega⟩) : EReal) = V (Proc.devRef .tc main_arg4) (ValueIdx.ix4 q o 0 0) := by
  rw [← kernel_cls_early V o q]
  have hq := q.isLt
  rw [show after (hostOps0_2 (F := Ideal)) V (Proc.devRef .tc main_v16) = after ((hostOps0_2 (F := Ideal)).drop 13) (after ((hostOps0_2 (F := Ideal)).take 13) V) (Proc.devRef .tc main_v16) from rfl]
  generalize after ((hostOps0_2 (F := Ideal)).take 13) V = W
  simp only [hostOps0_2, List.drop_succ_cons, List.drop_zero]
  after_reads_at
  rfl

theorem kernel_box_early (o : Fin 768) (q : Fin 36) : (after ((hostOps0_2 (F := Ideal)).take 13) V (Proc.devRef .tc main_v14) (ValueIdx.ix2 o q) : EReal) = V (Proc.devRef .tc main_arg6) (ValueIdx.ix4 q o 0 0) := by
  simp only [hostOps0_2, List.take_succ_cons, List.take_zero]
  after_reads_at
  rfl

theorem kernel_box (o : Fin 768) (q : Fin 36) : (after (hostOps0_2 (F := Ideal)) V (Proc.devRef .tc main_v16) (ValueIdx.ix2 o ⟨9 + q.val, by omega⟩) : EReal) = V (Proc.devRef .tc main_arg6) (ValueIdx.ix4 q o 0 0) := by
  rw [← kernel_box_early V o q]
  have hq := q.isLt
  rw [show after (hostOps0_2 (F := Ideal)) V (Proc.devRef .tc main_v16) = after ((hostOps0_2 (F := Ideal)).drop 13) (after ((hostOps0_2 (F := Ideal)).take 13) V) (Proc.devRef .tc main_v16) from rfl]
  generalize after ((hostOps0_2 (F := Ideal)).take 13) V = W
  simp only [hostOps0_2, List.drop_succ_cons, List.drop_zero]
  after_reads_at
  rfl

theorem kernel_clsBias (q : Fin 9) : (after (hostOps0_2 (F := Ideal)) V (Proc.devRef .tc main_v19) (ValueIdx.ix2 0 ⟨q.val, by omega⟩) : EReal) = V (Proc.devRef .tc main_arg5) (ValueIdx.ix1 q) := by
  have hq := q.isLt
  after_reads_at
  rfl

theorem kernel_boxBias (q : Fin 36) : (after (hostOps0_2 (F := Ideal)) V (Proc.devRef .tc main_v19) (ValueIdx.ix2 0 ⟨9 + q.val, by omega⟩) : EReal) = V (Proc.devRef .tc main_arg7) (ValueIdx.ix1 q) := by
  have hq := q.isLt
  after_reads_at
  rfl

theorem kernel_scores (y x : Fin 14) (q : Fin 9) (n : Fin 1764) (hn : n.val = 9 * (14 * y.val + x.val) + q.val) :
    (after (hostOps1 (F := Ideal)) V (Proc.devRef .tc main_v25) (ValueIdx.ix1 n) : EReal) = V (Proc.devRef .tc main_v20) (ValueIdx.ix2 ⟨16 * y.val + x.val, by omega⟩ ⟨q.val, by omega⟩) := by
  have hy := y.isLt
  have hx := x.isLt
  have hq := q.isLt
  after_reads_at
  refine congrArg (V (Proc.devRef .tc main_v20)) (congrArg₂ (fun u v => ValueIdx.ix2 u v) (Fin.ext ?_) (Fin.ext ?_))
  · show n.val / 9 / 14 * 16 + n.val / 9 % 14 = 16 * y.val + x.val
    omega
  · show n.val % 9 = q.val
    omega

theorem kernel_moves (y x : Fin 14) (q : Fin 9) (l : Fin 4) (n : Fin 1764) (hn : n.val = 9 * (14 * y.val + x.val) + q.val) :
    (after (hostOps1 (F := Ideal)) V (Proc.devRef .tc main_v27) (ValueIdx.ix2 n l) : EReal) = V (Proc.devRef .tc main_v20) (ValueIdx.ix2 ⟨16 * y.val + x.val, by omega⟩ ⟨9 + (4 * q.val + l.val), by omega⟩) := by
  have hy := y.isLt
  have hx := x.isLt
  have hq := q.isLt
  have hl := l.isLt
  after_reads_at
  refine congrArg (V (Proc.devRef .tc main_v20)) (congrArg₂ (fun u v => ValueIdx.ix2 u v) (Fin.ext ?_) (Fin.ext ?_))
  · show n.val / 9 / 14 * 16 + n.val / 9 % 14 = 16 * y.val + x.val
    omega
  · show 9 + (n.val % 9 * 4 + l.val) = 9 + (4 * q.val + l.val)
    omega

end Cert.Proof
-- ==== Proof.HeadsAt.lean ====
/- The scores and the moves the kernel's program computes, as sums over the image. -/
module

public import proofs.«01_k».proof.Proof.RunMain
public import proofs.«01_k».proof.Proof.Ranks
public import proofs.«01_k».proof.Proof.ConvVal
public import proofs.«01_k».proof.Proof.HostReads
public import Idealize.ShloMosaic.Lib.Pointwise
public import Idealize.ShloMosaic.Lib.ValueLayout
public import Idealize.ShloMosaic.Lib.StableHlo.ReadAt

@[expose] public section

set_option maxRecDepth 16384
set_option maxHeartbeats 1000000

noncomputable section

namespace Cert.Proof

open Cert.KernelIdeal Cert.KernelIdeal.Gen
open Idealize.ShloMosaic Idealize.ShloMosaic.TcCoe Idealize.ShloMosaic.StableHlo Idealize.ShloMosaic.ValueIdx

variable (m : (ℓ : Loc nD τ sig) → Buf (Elt Ideal) ℓ) (c : Dev nD)

theorem operand_at (a b : Fin 16) (ch : Fin 768) (p : Fin 320) (hp : p.val = 16 * a.val + b.val) :
    (V3 m c main_v7 (ValueIdx.ix2 p ch) : EReal) = border (V0 m c main_arg1) a b ch := by
  refine (kernel_rows (V2 m c) a b ch p hp).trans (kernel_border (V1 m c) (V0 m c main_arg1) a b ch (fun y x ch => kernel_image (V0 m c) y x ch) (kernel_zero (V0 m c)))

theorem V2_arg (r : Ref sig .tc) (h : r ∉ hostOps0_W) (h' : r ∉ hostOps0_1_W) : V2 m c r = V0 m c r :=
  (V2_of m c r h').trans (V1_of m c r h)

theorem taps_at (ky kx : Fin 3) (k o : Fin 768) (p : Fin 6912) (hp : p.val = 768 * (3 * ky.val + kx.val) + k.val) :
    (V3 m c main_v9 (ValueIdx.ix2 p o) : EReal) = V0 m c main_arg2 (ValueIdx.ix4 o k ky kx) :=
  (kernel_weights (V2 m c) ky kx k o p hp).trans (congrFun (V2_arg m c main_arg2 (by decide +kernel) (by decide +kernel)) _)

theorem tapOf_eq (x0 : Vec Ideal S320x768 .f32) (x1 : Vec Ideal S6912x768 .f32) (im) (w : FVec Ideal S768x768x3x3 .f32)
    (h0 : ∀ (a b : Fin 16) (ch : Fin 768) (p : Fin 320), p.val = 16 * a.val + b.val → (x0 (ValueIdx.ix2 p ch) : EReal) = border im a b ch)
    (h1 : ∀ (ky kx : Fin 3) (k o : Fin 768) (p : Fin 6912), p.val = 768 * (3 * ky.val + kx.val) + k.val → x1 (ValueIdx.ix2 p o) = w (ValueIdx.ix4 o k ky kx))
    (y x : Fin 14) (p : Fin 256) (hp : p.val = 16 * y.val + x.val) (o : Fin 768) (ky kx : Fin 3) (r t : ℕ) (hr : r = 16 * ky.val + kx.val) (ht : t = 768 * (3 * ky.val + kx.val)) :
    tapOf x0 x1 p o r t = tap im w y x o ky kx := by
  have hy := y.isLt
  have hx := x.isLt
  have hky := ky.isLt
  have hkx := kx.isLt
  unfold tapOf tap
  refine Finset.sum_congr rfl fun k _ => ?_
  have hk := k.isLt
  refine congrArg₂ (fun u v : EReal => u * v) (h0 ⟨y.val + ky.val, by omega⟩ ⟨x.val + kx.val, by omega⟩ k (Fin.ofNat 320 (p.val + r)) ?_)
    (h1 ky kx k o (Fin.ofNat 6912 (k.val + t)) ?_)
  · show (p.val + r) % 320 = 16 * (y.val + ky.val) + (x.val + kx.val)
    omega
  · show (k.val + t) % 6912 = 768 * (3 * ky.val + kx.val) + k.val
    omega

theorem conv_head {n : ℕ} (h : (⟨4, ![n, 768, 1, 1]⟩ : Shape).Idx → EReal) (hb : (⟨1, ![n]⟩ : Shape).Idx → EReal) (y x : Fin 14) (p : Fin 256) (hp : p.val = 16 * y.val + x.val)
    (q : Fin n) (l : Fin 128) (hh : ∀ o : Fin 768, (V3 m c main_v16 (ValueIdx.ix2 o l) : EReal) = h (ValueIdx.ix4 q o 0 0)) (hhb : (V3 m c main_v19 (ValueIdx.ix2 0 l) : EReal) = hb (ValueIdx.ix1 q)) :
    (convOut m c (ValueIdx.ix2 p l) : EReal) = headOf (V0 m c main_arg1) (V0 m c main_arg2) (V0 m c main_arg3) h hb y x q := by
  refine (convVal_at _ _ _ _ _ p l).trans ?_
  unfold headOf
  have ht := tapOf_eq (V3 m c main_v7) (V3 m c main_v9) (V0 m c main_arg1) (V0 m c main_arg2) (operand_at m c) (taps_at m c) y x p hp
  refine congrArg₂ (fun u v : EReal => u + v) (Finset.sum_congr rfl fun o _ => congrArg₂ (fun u v : EReal => u * v) ?_ (hh o)) hhb
  unfold hidden
  rw [ht o 0 0 0 0 rfl rfl, ht o 0 1 1 768 rfl rfl, ht o 0 2 2 1536 rfl rfl, ht o 1 0 16 2304 rfl rfl, ht o 1 1 17 3072 rfl rfl, ht o 1 2 18 3840 rfl rfl,
    ht o 2 0 32 4608 rfl rfl, ht o 2 1 33 5376 rfl rfl, ht o 2 2 34 6144 rfl rfl]
  exact congrArg (fun u : EReal => max (_ + u) 0) ((kernel_bias (V2 m c) o).trans (congrFun (V2_arg m c main_arg3 (by decide +kernel) (by decide +kernel)) _))

theorem score_of (y x : Fin 14) (q : Fin 9) (n : Fin 1764) (hn : n.val = 9 * (14 * y.val + x.val) + q.val) :
    (V5 m (outs m) c main_v25 (ValueIdx.ix1 n) : EReal) = headOf (V0 m c main_arg1) (V0 m c main_arg2) (V0 m c main_arg3) (V0 m c main_arg4) (V0 m c main_arg5) y x q := by
  refine (kernel_scores (V4 m (outs m) c) y x q n hn).trans ?_
  refine (congrFun (V4_v20 m c) _).trans ?_
  exact conv_head m c _ _ y x _ rfl q _
    (fun o => (kernel_cls (V2 m c) o q).trans (congrFun (V2_arg m c main_arg4 (by decide +kernel) (by decide +kernel)) _))
    ((kernel_clsBias (V2 m c) q).trans (congrFun (V2_arg m c main_arg5 (by decide +kernel) (by decide +kernel)) _))

theorem move_of (y x : Fin 14) (q : Fin 9) (l : Fin 4) (n : Fin 1764) (hn : n.val = 9 * (14 * y.val + x.val) + q.val) :
    (V5 m (outs m) c main_v27 (ValueIdx.ix2 n l) : EReal)
      = headOf (V0 m c main_arg1) (V0 m c main_arg2) (V0 m c main_arg3) (V0 m c main_arg6) (V0 m c main_arg7) y x ⟨4 * q.val + l.val, by omega⟩ := by
  refine (kernel_moves (V4 m (outs m) c) y x q l n hn).trans ?_
  refine (congrFun (V4_v20 m c) _).trans ?_
  exact conv_head m c _ _ y x _ rfl ⟨4 * q.val + l.val, by omega⟩ _
    (fun o => (kernel_box (V2 m c) o ⟨4 * q.val + l.val, by omega⟩).trans (congrFun (V2_arg m c main_arg6 (by decide +kernel) (by decide +kernel)) _))
    ((kernel_boxBias (V2 m c) ⟨4 * q.val + l.val, by omega⟩).trans (congrFun (V2_arg m c main_arg7 (by decide +kernel) (by decide +kernel)) _))

end Cert.Proof
-- ==== Proof.RefConv.lean ====
/- The reference's convolution and heads, entry by entry. -/
module

public import proofs.«01_k».proof.Proof.RefRun
public import proofs.«01_k».proof.Proof.Box
public import proofs.«01_k».proof.Proof.Image
public import Idealize.ShloMosaic.Lib.Pointwise
public import Idealize.ShloMosaic.Lib.Routing.OpsSet
public import Idealize.ShloMosaic.Lib.DynamicIndex
public import Idealize.ShloMosaic.Lib.StableHlo.ReadAt

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (V : Valuation τ sig (Elt Ideal))
theorem ref_image (y x : Fin 14) (ch : Fin 768) : (after (hostOps0 (F := Ideal)) V (Proc.devRef .tc main_v2) (ValueIdx.ix3 ch y x) : EReal) = pixel (V (Proc.devRef .tc main_arg1)) ch y x := by
  have hy := y.isLt
  have hx := x.isLt
  have hc := ch.isLt
  after_reads_at
  unfold pixel
  refine congrArg (V (Proc.devRef .tc main_arg1)) (congrArg₂ (fun u v => ValueIdx.ix3 0 u v) (Fin.ext ?_) (Fin.ext ?_))
  · show 1 + (ch.val * 196 + y.val * 14 + x.val) / 768 = (1 + (ch.val * 196 + (y.val * 14 + x.val)) / 768) % 197
    omega
  · show (ch.val * 196 + y.val * 14 + x.val) % 768 = (ch.val * 196 + (y.val * 14 + x.val)) % 768
    omega

theorem ref_zero : (after (hostOps0 (F := Ideal)) V (Proc.devRef .tc main_c) ValueIdx.ix0 : BitVec 32) = 0#32 := by
  after_reads_simp
  rfl

theorem ref_border (im) (a b : Fin 16) (ch : Fin 768) (hV : ∀ (y x : Fin 14) (ch : Fin 768), (V (Proc.devRef .tc main_v2) (ValueIdx.ix3 ch y x) : EReal) = pixel im ch y x)
    (h0 : (V (Proc.devRef .tc main_c) ValueIdx.ix0 : BitVec 32) = 0#32) :
    (after (hostOps0_1 (F := Ideal)) V (Proc.devRef .tc main_v3) (ValueIdx.ix3 ch a b) : EReal) = border im a b ch := by
  after_reads_at
  unfold border
  by_cases h : (1 ≤ a.val ∧ a.val - 1 < 14) ∧ 1 ≤ b.val ∧ b.val - 1 < 14
  · rw [if_pos h]
    exact (dif_pos h).trans (hV ⟨a.val - 1, h.1.2⟩ ⟨b.val - 1, h.2.2⟩ ch)
  · rw [if_neg h]
    refine (dif_neg h).trans ?_
    refine (congrArg (FloatOps.sitofp (F := Ideal) .f32) ((congrArg (V (Proc.devRef .tc main_c)) (ValueIdx.eq_ix0 _)).trans h0)).trans ?_
    show (((0#32 : BitVec 32).toInt : ℝ) : EReal) = 0
    simp

theorem tap_eq (im) (w : FVec Ideal S768x768x3x3 .f32) (P : FVec Ideal S768x16x16 .f32) (hP : ∀ (a b : Fin 16) (ch : Fin 768), (P (ValueIdx.ix3 ch a b) : EReal) = border im a b ch)
    (a b : ℕ) (o : Fin 768) (ky kx : Fin 3) (u v : Fin 16) (hu : u.val = a + ky.val) (hv : v.val = b + kx.val) :
    (∑ k : Fin 768, w (ValueIdx.ix4 o k ky kx) * P (ValueIdx.ix3 k u v)) = tap im w a b o ky kx := by
  unfold tap
  rw [← hu, ← hv]
  refine Finset.sum_congr rfl fun k _ => ?_
  exact (congrArg (fun z : EReal => w (ValueIdx.ix4 o k ky kx) * z) (hP u v k)).trans (mul_comm (G := EReal) _ _)

theorem ref_hidden (im) (o : Fin 768) (n : Fin 196) (w : FVec Ideal S768x768x3x3 .f32) (hw : V (Proc.devRef .tc main_arg2) = w)
    (P : FVec Ideal S768x16x16 .f32) (hP : ∀ (a b : Fin 16) (ch : Fin 768), (P (ValueIdx.ix3 ch a b) : EReal) = border im a b ch) (hV : V (Proc.devRef .tc main_v3) = P)
    (bias : FVec Ideal S768 .f32) (hb : V (Proc.devRef .tc main_arg3) = bias) :
    (after ((hostOps0_2 (F := Ideal)).take 62) V (Proc.devRef .tc main_v63) (ValueIdx.ix2 o n) : EReal) = hidden im w bias (n.val / 14) (n.val % 14) o := by
  simp only [hostOps0_2, List.drop_succ_cons, List.drop_zero, List.take_succ_cons, List.take_zero]
  after_reads_simp
  rw [hw, hV, hb]
  pointwise
  unfold hidden
  refine congrArg (fun z : EReal => max z 0) (congrArg (fun z : EReal => z + bias (ValueIdx.ix1 o)) ?_)
  exact (congrArg₂ (· + ·) (congrArg₂ (· + ·) (congrArg₂ (· + ·) (congrArg₂ (· + ·) (congrArg₂ (· + ·) (congrArg₂ (· + ·) (congrArg₂ (· + ·) (congrArg₂ (· + ·) (tap_eq im w P hP (n.val / 14) (n.val % 14) o 0 0 _ _ (by show n.val / 14 = n.val / 14 + 0; rfl) (by show n.val % 14 = n.val % 14 + 0; rfl))
    (tap_eq im w P hP (n.val / 14) (n.val % 14) o 0 1 _ _ (by show n.val / 14 = n.val / 14 + 0; rfl) (by show 1 + n.val % 14 = n.val % 14 + 1; omega)))
    (tap_eq im w P hP (n.val / 14) (n.val % 14) o 0 2 _ _ (by show n.val / 14 = n.val / 14 + 0; rfl) (by show 2 + n.val % 14 = n.val % 14 + 2; omega)))
    (tap_eq im w P hP (n.val / 14) (n.val % 14) o 1 0 _ _ (by show 1 + n.val / 14 = n.val / 14 + 1; omega) (by show n.val % 14 = n.val % 14 + 0; rfl)))
    (tap_eq im w P hP (n.val / 14) (n.val % 14) o 1 1 _ _ (by show 1 + n.val / 14 = n.val / 14 + 1; omega) (by show 1 + n.val % 14 = n.val % 14 + 1; omega)))
    (tap_eq im w P hP (n.val / 14) (n.val % 14) o 1 2 _ _ (by show 1 + n.val / 14 = n.val / 14 + 1; omega) (by show 2 + n.val % 14 = n.val % 14 + 2; omega)))
    (tap_eq im w P hP (n.val / 14) (n.val % 14) o 2 0 _ _ (by show 2 + n.val / 14 = n.val / 14 + 2; omega) (by show n.val % 14 = n.val % 14 + 0; rfl)))
    (tap_eq im w P hP (n.val / 14) (n.val % 14) o 2 1 _ _ (by show 2 + n.val / 14 = n.val / 14 + 2; omega) (by show 1 + n.val % 14 = n.val % 14 + 1; omega)))
    (tap_eq im w P hP (n.val / 14) (n.val % 14) o 2 2 _ _ (by show 2 + n.val / 14 = n.val / 14 + 2; omega) (by show 2 + n.val % 14 = n.val % 14 + 2; omega)))

theorem ref_scores (y x : Fin 14) (q : Fin 9) (n : Fin 1764) (hn : n.val = 9 * (14 * y.val + x.val) + q.val) (X : FVec Ideal S768x196 .f32) (hX : V (Proc.devRef .tc main_v63) = X)
    (w : FVec Ideal S9x768x1x1 .f32) (hw : V (Proc.devRef .tc main_arg4) = w) (b : FVec Ideal S9 .f32) (hb : V (Proc.devRef .tc main_arg5) = b) :
    (after ((hostOps0_2 (F := Ideal)).drop 62) V (Proc.devRef .tc main_v70) (ValueIdx.ix1 n) : EReal)
      = (∑ o : Fin 768, w (ValueIdx.ix4 q o 0 0) * X (ValueIdx.ix2 o ⟨14 * y.val + x.val, by omega⟩)) + b (ValueIdx.ix1 q) := by
  have hy := y.isLt
  have hx := x.isLt
  have hq := q.isLt
  simp only [hostOps0_2, List.drop_succ_cons, List.drop_zero, List.take_succ_cons, List.take_zero]
  after_reads_simp
  rw [hw, hX, hb]
  pointwise
  have e1 : (⟨n.val % 9, by omega⟩ : Fin 9) = q := Fin.ext (by show n.val % 9 = q.val; omega)
  have e2 : (⟨n.val / 9, by omega⟩ : Fin 196) = ⟨14 * y.val + x.val, by omega⟩ := Fin.ext (by show n.val / 9 = 14 * y.val + x.val; omega)
  refine Eq.trans (b := (∑ o : Fin 768, w (ValueIdx.ix4 ⟨n.val % 9, by omega⟩ o 0 0) * X (ValueIdx.ix2 o ⟨n.val / 9, by omega⟩)) + b (ValueIdx.ix1 ⟨n.val % 9, by omega⟩)) rfl ?_
  rw [e1, e2]

theorem ref_moves (y x : Fin 14) (q : Fin 9) (l : Fin 4) (n : Fin 1764) (hn : n.val = 9 * (14 * y.val + x.val) + q.val) (X : FVec Ideal S768x196 .f32) (hX : V (Proc.devRef .tc main_v63) = X)
    (w : FVec Ideal S36x768x1x1 .f32) (hw : V (Proc.devRef .tc main_arg6) = w) (b : FVec Ideal S36 .f32) (hb : V (Proc.devRef .tc main_arg7) = b) :
    (after ((hostOps0_2 (F := Ideal)).drop 62) V (Proc.devRef .tc main_v78) (ValueIdx.ix2 n l) : EReal)
      = (∑ o : Fin 768, w (ValueIdx.ix4 ⟨4 * q.val + l.val, by omega⟩ o 0 0) * X (ValueIdx.ix2 o ⟨14 * y.val + x.val, by omega⟩)) + b (ValueIdx.ix1 ⟨4 * q.val + l.val, by omega⟩) := by
  have hy := y.isLt
  have hx := x.isLt
  have hq := q.isLt
  have hl := l.isLt
  simp only [hostOps0_2, List.drop_succ_cons, List.drop_zero, List.take_succ_cons, List.take_zero]
  after_reads_simp
  rw [hw, hX, hb]
  pointwise
  have e1 : (⟨n.val % 9 * 4 + l.val, by omega⟩ : Fin 36) = ⟨4 * q.val + l.val, by omega⟩ := Fin.ext (by show n.val % 9 * 4 + l.val = 4 * q.val + l.val; omega)
  have e2 : (⟨n.val / 9, by omega⟩ : Fin 196) = ⟨14 * y.val + x.val, by omega⟩ := Fin.ext (by show n.val / 9 = 14 * y.val + x.val; omega)
  refine Eq.trans (b := (∑ o : Fin 768, w (ValueIdx.ix4 ⟨n.val % 9 * 4 + l.val, by omega⟩ o 0 0) * X (ValueIdx.ix2 o ⟨n.val / 9, by omega⟩)) + b (ValueIdx.ix1 ⟨n.val % 9 * 4 + l.val, by omega⟩)) rfl ?_
  rw [e1, e2]

end Cert.Proof.Ref
-- ==== Proof.RefHeads.lean ====
/- The scores and the moves the reference computes, as sums over the image. -/
module

public import proofs.«01_k».proof.Proof.RefRun
public import proofs.«01_k».proof.Proof.Box
public import proofs.«01_k».proof.Proof.RefConv
public import proofs.«01_k».proof.Proof.RefEnd
public import Idealize.ShloMosaic.Lib.Pointwise
public import Idealize.ShloMosaic.Lib.Routing.OpsSet
public import Idealize.ShloMosaic.Lib.DynamicIndex
public import Idealize.ShloMosaic.Lib.StableHlo.ReadAt

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

variable (m : (ℓ : Loc nD τ sig) → Buf (Elt Ideal) ℓ) (c : Dev nD)

/-- The buffers when the padded image is there. -/
def framed : Valuation τ sig (Elt Ideal) := after hostOps0_1 (after hostOps0 (launchContents m c))

theorem framed_arg (r : Ref sig .tc) (h : r ∉ hostOps0_W) (h' : r ∉ hostOps0_1_W) : framed m c (Proc.devRef .tc r) = launchContents m c (Proc.devRef .tc r) :=
  (after_of_writes_sub hostOps0_1 _ hostOps0_1_writes h').trans (after_of_writes_sub hostOps0 _ hostOps0_writes h)

/-- The buffers when the hidden features are there. -/
def featured : Valuation τ sig (Elt Ideal) := after (hostOps0_2.take 62) (framed m c)

theorem featured_at (o : Fin 768) (n : Fin 196) : (featured m c (Proc.devRef .tc main_v63) (ValueIdx.ix2 o n) : EReal)
    = hidden (launchContents m c (Proc.devRef .tc main_arg1)) (launchContents m c (Proc.devRef .tc main_arg2)) (launchContents m c (Proc.devRef .tc main_arg3)) (n.val / 14) (n.val % 14) o :=
  ref_hidden (framed m c) _ o n _ (framed_arg m c main_arg2 (by decide +kernel) (by decide +kernel)) _
    (fun a b ch => ref_border (after hostOps0 (launchContents m c)) _ a b ch (fun y x ch => ref_image (launchContents m c) y x ch) (ref_zero (launchContents m c))) rfl _
    (framed_arg m c main_arg3 (by decide +kernel) (by decide +kernel))

theorem featured_arg (r : Ref sig .tc) (h : r ∉ hostOps0_W) (h' : r ∉ hostOps0_1_W) (h'' : featured m c (Proc.devRef .tc r) = framed m c (Proc.devRef .tc r)) :
    featured m c (Proc.devRef .tc r) = launchContents m c (Proc.devRef .tc r) := h''.trans (framed_arg m c r h h')

theorem early_of (r : Ref sig .tc) (h : after anchorOps (after hostOps0_3 (after (hostOps0_2.drop 62) (featured m c))) (Proc.devRef .tc r) = after (hostOps0_2.drop 62) (featured m c) (Proc.devRef .tc r)) :
    early m c (Proc.devRef .tc r) = after (hostOps0_2.drop 62) (featured m c) (Proc.devRef .tc r) := by
  rw [← h]
  unfold early featured framed
  rfl

theorem head_same {n : ℕ} (w : (⟨4, ![n, 768, 1, 1]⟩ : Shape).Idx → EReal) (b : (⟨1, ![n]⟩ : Shape).Idx → EReal) (q : Fin n) (y x : Fin 14) (hyx : 14 * y.val + x.val < 196) :
    (∑ o : Fin 768, w (ValueIdx.ix4 q o 0 0) * (featured m c (Proc.devRef .tc main_v63) (ValueIdx.ix2 o ⟨14 * y.val + x.val, hyx⟩) : EReal)) + b (ValueIdx.ix1 q)
      = headOf (launchContents m c (Proc.devRef .tc main_arg1)) (launchContents m c (Proc.devRef .tc main_arg2)) (launchContents m c (Proc.devRef .tc main_arg3)) w b y x q := by
  have hx := x.isLt
  unfold headOf
  refine congrArg (fun u : EReal => u + b (ValueIdx.ix1 q)) (Finset.sum_congr rfl fun o _ => ?_)
  rw [mul_comm]
  refine congrArg (fun u : EReal => u * w (ValueIdx.ix4 q o 0 0)) ((featured_at m c o _).trans ?_)
  show hidden _ _ _ ((14 * y.val + x.val) / 14) ((14 * y.val + x.val) % 14) o = _
  rw [show (14 * y.val + x.val) / 14 = y.val by omega, show (14 * y.val + x.val) % 14 = x.val by omega]

theorem early_scores (y x : Fin 14) (q : Fin 9) (n : Fin 1764) (hn : n.val = 9 * (14 * y.val + x.val) + q.val) : (early m c (Proc.devRef .tc main_v70) (ValueIdx.ix1 n) : EReal)
    = headOf (launchContents m c (Proc.devRef .tc main_arg1)) (launchContents m c (Proc.devRef .tc main_arg2)) (launchContents m c (Proc.devRef .tc main_arg3))
        (launchContents m c (Proc.devRef .tc main_arg4)) (launchContents m c (Proc.devRef .tc main_arg5)) y x q := by
  rw [early_of m c main_v70 (by after_reads_simp)]
  refine (ref_scores (featured m c) y x q n hn _ rfl _ (featured_arg m c main_arg4 (by decide +kernel) (by decide +kernel) rfl) _
    (featured_arg m c main_arg5 (by decide +kernel) (by decide +kernel) rfl)).trans ?_
  exact head_same m c _ _ q y x _

theorem early_moves (y x : Fin 14) (q : Fin 9) (l : Fin 4) (n : Fin 1764) (hn : n.val = 9 * (14 * y.val + x.val) + q.val) : (early m c (Proc.devRef .tc main_v78) (ValueIdx.ix2 n l) : EReal)
    = headOf (launchContents m c (Proc.devRef .tc main_arg1)) (launchContents m c (Proc.devRef .tc main_arg2)) (launchContents m c (Proc.devRef .tc main_arg3))
        (launchContents m c (Proc.devRef .tc main_arg6)) (launchContents m c (Proc.devRef .tc main_arg7)) y x ⟨4 * q.val + l.val, by omega⟩ := by
  rw [early_of m c main_v78 (by after_reads_simp)]
  refine (ref_moves (featured m c) y x q l n hn _ rfl _ (featured_arg m c main_arg6 (by decide +kernel) (by decide +kernel) rfl) _
    (featured_arg m c main_arg7 (by decide +kernel) (by decide +kernel) rfl)).trans ?_
  exact head_same m c _ _ _ y x _

end Cert.Proof.Ref
-- ==== Proof.Rows.lean ====
/- The two results of the kernel's program, in terms of the ranked boxes. -/
module

public import proofs.«01_k».proof.Proof.Table
public import proofs.«01_k».proof.Proof.Anchors
public import proofs.«01_k».proof.Proof.HeadsAt
public import proofs.«01_k».proof.Proof.RefHeads

@[expose] public section

set_option maxRecDepth 16384

noncomputable section

namespace Cert.Proof

open Cert.KernelIdeal Cert.KernelIdeal.Gen
open Idealize.ShloMosaic Idealize.ShloMosaic.TcCoe Idealize.ShloMosaic.StableHlo Idealize.ShloMosaic.ValueIdx

theorem Greedy.congr {N : ℕ} {r r' : ℕ → ℕ → Prop} {K : ℕ → Prop} (h : ∀ i j, i < j → j < N → (r i j ↔ r' i j)) (hK : Greedy N r K) : Greedy N r' K := fun j =>
  (hK j).trans ⟨fun p => ⟨p.1, fun i hi hk hm => p.2 i hi hk ((h i j hi p.1).mpr hm)⟩, fun p => ⟨p.1, fun i hi hk hm => p.2 i hi hk ((h i j hi p.1).mp hm)⟩⟩

variable (m : (ℓ : Loc nD τ sig) → Buf (Elt Ideal) ℓ) (c : Dev nD)

variable (s : FVec Ideal S1764 .f32) (d a : Fin 1764 → Fin 4 → EReal) (hlo : ∀ i, Ideal.ofBits .f32 0xFF61B1E6#32 ≤ scoreOf m c i)
  (hs : ∀ i, scoreOf m c i = s (ValueIdx.ix1 i)) (hd : ∀ n l, d n l = V5 m (outs m) c main_v27 (ValueIdx.ix2 n l)) (ha : ∀ n l, a n l = V7 m (outs m) c main_v75 (ValueIdx.ix2 n l))

include hlo hs hd in
theorem ranked_move (j : ℕ) (hj : j < 1000) (l : Fin 4) :
    ranked (tableOf m c) (lineOf m c) (Fin.ofNat 1024 j) l.val = d (byRank (fun i => s (ValueIdx.ix1 i)) (Fin.ofNat 1764 j)) l := by
  have e : scoreOf m c = fun i => (s (ValueIdx.ix1 i) : EReal) := funext hs
  rw [ranked_at m c hlo j hj, e, hd]
  have hl := l.isLt
  refine (congrArg (fun q => tableOf m c (ValueIdx.ix2 _ q)) (Fin.ext (Nat.mod_eq_of_lt (by omega)) : Fin.ofNat 128 l.val = ⟨l.val, by omega⟩)).trans ?_
  exact tableOf_move m c _ (byRank (fun i => (s (ValueIdx.ix1 i) : EReal)) (Fin.ofNat 1764 j)).isLt l

include hlo hs ha in
theorem ranked_anchor (j : ℕ) (hj : j < 1000) (l : Fin 4) :
    ranked (tableOf m c) (lineOf m c) (Fin.ofNat 1024 j) (4 + l.val) = a (byRank (fun i => s (ValueIdx.ix1 i)) (Fin.ofNat 1764 j)) l := by
  have e : scoreOf m c = fun i => (s (ValueIdx.ix1 i) : EReal) := funext hs
  rw [ranked_at m c hlo j hj, e, ha]
  have hl := l.isLt
  refine (congrArg (fun q => tableOf m c (ValueIdx.ix2 _ q)) (Fin.ext (Nat.mod_eq_of_lt (by omega)) : Fin.ofNat 128 (4 + l.val) = ⟨4 + l.val, by omega⟩)).trans ?_
  exact tableOf_anchor m c _ (byRank (fun i => (s (ValueIdx.ix1 i) : EReal)) (Fin.ofNat 1764 j)).isLt l

include hlo hs in
theorem ranked_score (j : ℕ) (hj : j < 1000) :
    ranked (tableOf m c) (lineOf m c) (Fin.ofNat 1024 j) 8 = s (ValueIdx.ix1 (byRank (fun i => s (ValueIdx.ix1 i)) (Fin.ofNat 1764 j))) := by
  have e : scoreOf m c = fun i => (s (ValueIdx.ix1 i) : EReal) := funext hs
  rw [ranked_at m c hlo j hj, e, ← hs]
  refine (tableOf_score m c _).trans ?_
  exact padOf_inside m c _ (byRank (fun i => (s (ValueIdx.ix1 i) : EReal)) (Fin.ofNat 1764 j)).isLt

include hlo hs hd ha in
theorem box_same (j : ℕ) (hj : j < 1000) : corner (ranked (tableOf m c) (lineOf m c) (Fin.ofNat 1024 j)) = Ref.boxOf s d a j := by
  have m0 := ranked_move m c s d hlo hs hd j hj 0
  have m1 := ranked_move m c s d hlo hs hd j hj 1
  have m2 := ranked_move m c s d hlo hs hd j hj 2
  have m3 := ranked_move m c s d hlo hs hd j hj 3
  have a0 := ranked_anchor m c s a hlo hs ha j hj 0
  have a1 := ranked_anchor m c s a hlo hs ha j hj 1
  have a2 := ranked_anchor m c s a hlo hs ha j hj 2
  have a3 := ranked_anchor m c s a hlo hs ha j hj 3
  unfold Ref.boxOf
  generalize byRank (fun i => (s (ValueIdx.ix1 i) : EReal)) (Fin.ofNat 1764 j) = b at *
  generalize ranked (tableOf m c) (lineOf m c) (Fin.ofNat 1024 j) = f at *
  funext l
  match l with
  | 0 => exact (show lowCorner (f 0) (f 2) (f 4) (f 6) = lowCorner (d b 0) (d b 2) (a b 0) (a b 2) from congr (congr (congrArg₂ lowCorner m0 m2) a0) a2)
  | 1 => exact (show lowCorner (f 1) (f 3) (f 5) (f 7) = lowCorner (d b 1) (d b 3) (a b 1) (a b 3) from congr (congr (congrArg₂ lowCorner m1 m3) a1) a3)
  | 2 => exact (show highCorner (f 0) (f 2) (f 4) (f 6) = highCorner (d b 0) (d b 2) (a b 0) (a b 2) from congr (congr (congrArg₂ highCorner m0 m2) a0) a2)
  | 3 => exact (show highCorner (f 1) (f 3) (f 5) (f 7) = highCorner (d b 1) (d b 3) (a b 1) (a b 3) from congr (congr (congrArg₂ highCorner m1 m3) a1) a3)

include hlo hs hd ha in
theorem greedy_same {K : ℕ → Prop} (hK : Greedy 1000 (removes (Ref.boxOf s d a)) K) :
    Greedy 1000 (removes fun i => corner (ranked (tableOf m c) (lineOf m c) (Fin.ofNat 1024 i))) K := by
  refine hK.congr fun i j hij hj => ?_
  unfold removes
  beta_reduce
  rw [box_same m c s d a hlo hs hd ha i (by omega), box_same m c s d a hlo hs hd ha j hj]

include hlo hs hd ha in
theorem kernel_rows_are (K : ℕ → Prop) (hK : Greedy 1000 (removes (Ref.boxOf s d a)) K) (r : Fin 300) (l : Fin 4) :
    (V15 m (outs m) c main_v84 (ValueIdx.ix2 r l) : EReal) = @ite EReal (place 1000 K r.val < 1000) _ (Ref.boxOf s d a (place 1000 K r.val) l) 0 := by
  have hG := greedy_same m c s d a hlo hs hd ha hK
  rw [rows_of]
  by_cases h : ∃ j, K j ∧ cntBelow K j = r.val
  · obtain ⟨j, hk, hr⟩ := h
    have hj : j < 1000 := ((hK j).mp hk).1
    rw [place_of_kept hj hk hr, if_pos hj, ← box_same m c s d a hlo hs hd ha j hj]
    have ej : (Fin.ofNat 1024 j : Fin 1024).val = j := Nat.mod_eq_of_lt (by omega)
    refine (proposeVal_kept _ _ (overMat_holds _ _) (fun i j h => h.2) hG ⟨r.val, by omega⟩ _ (Fin.ofNat 1024 j) (by rw [ej]; exact hk) (by rw [ej]; exact hr)).trans ?_
    exact detMat_corner _ _ _ l
  · have h' : ∀ j, K j → cntBelow K j ≠ r.val := fun j hk hr => h ⟨j, hk, hr⟩
    rw [place_of_none fun j _ hk => h' j hk, if_neg (lt_irrefl _)]
    exact proposeVal_none _ _ (overMat_holds _ _) (fun i j h => h.2) hG ⟨r.val, by omega⟩ _ h'

include hlo hs hd ha in
theorem kernel_scores_are (K : ℕ → Prop) (hK : Greedy 1000 (removes (Ref.boxOf s d a)) K) (r : Fin 300) :
    (V15 m (outs m) c main_v86 (ValueIdx.ix1 r) : EReal)
      = @ite EReal (place 1000 K r.val < 1000) _ (Ideal.logistic (s (ValueIdx.ix1 (byRank (fun i => s (ValueIdx.ix1 i)) (Fin.ofNat 1764 (place 1000 K r.val)))))) 0 := by
  have hG := greedy_same m c s d a hlo hs hd ha hK
  rw [scores_of]
  by_cases h : ∃ j, K j ∧ cntBelow K j = r.val
  · obtain ⟨j, hk, hr⟩ := h
    have hj : j < 1000 := ((hK j).mp hk).1
    rw [place_of_kept hj hk hr, if_pos hj, ← ranked_score m c s hlo hs j hj]
    have ej : (Fin.ofNat 1024 j : Fin 1024).val = j := Nat.mod_eq_of_lt (by omega)
    refine (proposeVal_kept _ _ (overMat_holds _ _) (fun i j h => h.2) hG ⟨r.val, by omega⟩ _ (Fin.ofNat 1024 j) (by rw [ej]; exact hk) (by rw [ej]; exact hr)).trans ?_
    exact detMat_score _ _ _
  · have h' : ∀ j, K j → cntBelow K j ≠ r.val := fun j hk hr => h ⟨j, hk, hr⟩
    rw [place_of_none fun j _ hk => h' j hk, if_neg (lt_irrefl _)]
    exact proposeVal_none _ _ (overMat_holds _ _) (fun i j h => h.2) hG ⟨r.val, by omega⟩ _ h'

end Cert.Proof
-- ==== Proof.Above.lean ====
/- What the precondition says of the scores. -/
module

public import proofs.«01_k».proof.Pre_scores_above_padding
public import proofs.«01_k».proof.Proof.RefConv
public import proofs.«01_k».proof.Proof.Gen.ReferenceIdeal
public import Idealize.ShloMosaic.Lib.Pointwise

@[expose] public section

set_option maxRecDepth 16384
set_option maxHeartbeats 1000000

noncomputable section

namespace Cert.Proof.Pre

open Idealize.ShloMosaic Idealize.ShloMosaic.ValueIdx

/-- The side conditions of the precondition's operations, which are the reference's. -/
theorem facts : Cert.Pre_scores_above_padding.Facts :=
  ⟨Cert.ReferenceIdeal.Gen.slices_S1x197x768_S1x196x768_0_1_0, Cert.ReferenceIdeal.Gen.shapeCasts_S1x196x768_S196x768, Cert.ReferenceIdeal.Gen.shapeCasts_S196x768_S768x14x14, Cert.ReferenceIdeal.Gen.pads_S768x14x14_S768x16x16_000_110_110, Cert.ReferenceIdeal.Gen.h_S_, Cert.ReferenceIdeal.Gen.bcast_S_S768x196, Cert.ReferenceIdeal.Gen.slices_S768x768x3x3_S768x768x1x1_0_0_0_0, Cert.ReferenceIdeal.Gen.shapeCasts_S768x768x1x1_S768x768, Cert.ReferenceIdeal.Gen.slices_S768x16x16_S768x14x14_0_0_0, Cert.ReferenceIdeal.Gen.shapeCasts_S768x14x14_S768x196, Cert.ReferenceIdeal.Gen.slices_S768x768x3x3_S768x768x1x1_0_0_0_1, Cert.ReferenceIdeal.Gen.slices_S768x16x16_S768x14x14_0_0_1, Cert.ReferenceIdeal.Gen.slices_S768x768x3x3_S768x768x1x1_0_0_0_2, Cert.ReferenceIdeal.Gen.slices_S768x16x16_S768x14x14_0_0_2, Cert.ReferenceIdeal.Gen.slices_S768x768x3x3_S768x768x1x1_0_0_1_0, Cert.ReferenceIdeal.Gen.slices_S768x16x16_S768x14x14_0_1_0, Cert.ReferenceIdeal.Gen.slices_S768x768x3x3_S768x768x1x1_0_0_1_1, Cert.ReferenceIdeal.Gen.slices_S768x16x16_S768x14x14_0_1_1, Cert.ReferenceIdeal.Gen.slices_S768x768x3x3_S768x768x1x1_0_0_1_2, Cert.ReferenceIdeal.Gen.slices_S768x16x16_S768x14x14_0_1_2, Cert.ReferenceIdeal.Gen.slices_S768x768x3x3_S768x768x1x1_0_0_2_0, Cert.ReferenceIdeal.Gen.slices_S768x16x16_S768x14x14_0_2_0, Cert.ReferenceIdeal.Gen.slices_S768x768x3x3_S768x768x1x1_0_0_2_1, Cert.ReferenceIdeal.Gen.slices_S768x16x16_S768x14x14_0_2_1, Cert.ReferenceIdeal.Gen.slices_S768x768x3x3_S768x768x1x1_0_0_2_2, Cert.ReferenceIdeal.Gen.slices_S768x16x16_S768x14x14_0_2_2, Cert.ReferenceIdeal.Gen.bcast_S768_S768x1_0, Cert.ReferenceIdeal.Gen.bcast_S768x1_S768x196_0_1, Cert.ReferenceIdeal.Gen.shapeCasts_S9x768x1x1_S9x768, Cert.ReferenceIdeal.Gen.bcast_S9_S9x1_0, Cert.ReferenceIdeal.Gen.bcast_S9x1_S9x196_0_1, Cert.ReferenceIdeal.Gen.transposes_S9x196_S196x9_1_0, Cert.ReferenceIdeal.Gen.shapeCasts_S196x9_S1764, Cert.ReferenceIdeal.Gen.bcast_S_S1764, Cert.ReferenceIdeal.Gen.dot_S768x768_S768x196_S768x196_1_0_0_1_n_n_wf, Cert.ReferenceIdeal.Gen.dot_S9x768_S768x196_S9x196_1_0_0_1_n_n_wf⟩

attribute [local instance] facts

open Cert.Pre_scores_above_padding

theorem image_at (A1 : FVec Ideal S1x197x768 .f32) (y x : Fin 14) (ch : Fin 768) :
    (shapeCast S768x14x14 (shapeCast S196x768 (extractStridedSlice S1x196x768 ![0, 1, 0] A1 Facts.slices_S1x197x768_S1x196x768_0_1_0) Facts.shapeCasts_S1x196x768_S196x768) Facts.shapeCasts_S196x768_S768x14x14 (ValueIdx.ix3 ch y x) : EReal)
      = pixel A1 ch y x := by
  have hy := y.isLt
  have hx := x.isLt
  have hc := ch.isLt
  pointwise
  unfold pixel
  refine congrArg A1 (congrArg₂ (fun u v => ValueIdx.ix3 0 u v) (Fin.ext ?_) (Fin.ext ?_))
  · show 1 + (ch.val * 196 + y.val * 14 + x.val) / 768 = (1 + (ch.val * 196 + (y.val * 14 + x.val)) / 768) % 197
    omega
  · show (ch.val * 196 + y.val * 14 + x.val) % 768 = (ch.val * 196 + (y.val * 14 + x.val)) % 768
    omega

theorem border_at (im) (X : FVec Ideal S768x14x14 .f32) (hX : ∀ (y x : Fin 14) (ch : Fin 768), (X (ValueIdx.ix3 ch y x) : EReal) = pixel im ch y x) (a b : Fin 16) (ch : Fin 768) :
    (fn_pad (F := Ideal) X (constantI S_ 32 0#32) (ValueIdx.ix3 ch a b) : EReal) = border im a b ch := by
  unfold fn_pad
  pointwise
  unfold border
  by_cases h : (1 ≤ a.val ∧ a.val - 1 < 14) ∧ 1 ≤ b.val ∧ b.val - 1 < 14
  · rw [if_pos h]
    exact (dif_pos h).trans (hX ⟨a.val - 1, h.1.2⟩ ⟨b.val - 1, h.2.2⟩ ch)
  · rw [if_neg h]
    refine (dif_neg h).trans ?_
    show (((0#32 : BitVec 32).toInt : ℝ) : EReal) = 0
    simp

theorem fn_at (A0 : FVec Ideal S1x3x224x224 .f32) (A1 : FVec Ideal S1x197x768 .f32) (A2 : FVec Ideal S768x768x3x3 .f32) (A3 : FVec Ideal S768 .f32) (A4 : FVec Ideal S9x768x1x1 .f32) (A5 : FVec Ideal S9 .f32)
    (A6 : FVec Ideal S36x768x1x1 .f32) (A7 : FVec Ideal S36 .f32) (n : Fin 1764) :
    fn A0 A1 A2 A3 A4 A5 A6 A7 (ValueIdx.ix1 n) = BitVec.ofBool (decide (Ideal.ofBits .f32 0xFF61B1E6#32 ≤ headOf A1 A2 A3 A4 A5 (n.val / 9 / 14) (n.val / 9 % 14) ⟨n.val % 9, by omega⟩)) := by
  unfold fn
  simp only []
  have hP := border_at A1 _ (image_at A1)
  generalize fn_pad (F := Ideal) _ _ = P at hP ⊢
  unfold fn_part1 fn_part2 fn_part3
  pointwise
  refine congrArg (fun z : EReal => BitVec.ofBool (decide (Ideal.ofBits .f32 0xFF61B1E6#32 ≤ z))) ?_
  unfold headOf
  refine congrArg (fun z : EReal => z + A5 (ValueIdx.ix1 ⟨n.val % 9, by omega⟩)) (Finset.sum_congr rfl fun o _ => ?_)
  refine (mul_comm (G := EReal) _ _).trans (congrArg (fun z : EReal => z * A4 (ValueIdx.ix4 ⟨n.val % 9, by omega⟩ o 0 0)) ?_)
  unfold hidden
  refine congrArg (fun z : EReal => max z 0) (congrArg (fun z : EReal => z + A3 (ValueIdx.ix1 o)) ?_)
  exact (congrArg₂ (· + ·) (congrArg₂ (· + ·) (congrArg₂ (· + ·) (congrArg₂ (· + ·) (congrArg₂ (· + ·) (congrArg₂ (· + ·) (congrArg₂ (· + ·) (congrArg₂ (· + ·) (Cert.Proof.Ref.tap_eq A1 A2 P hP (n.val / 9 / 14) (n.val / 9 % 14) o 0 0 _ _ (by show n.val / 9 / 14 = n.val / 9 / 14 + 0; rfl) (by show n.val / 9 % 14 = n.val / 9 % 14 + 0; rfl))
    (Cert.Proof.Ref.tap_eq A1 A2 P hP (n.val / 9 / 14) (n.val / 9 % 14) o 0 1 _ _ (by show n.val / 9 / 14 = n.val / 9 / 14 + 0; rfl) (by show 1 + n.val / 9 % 14 = n.val / 9 % 14 + 1; omega)))
    (Cert.Proof.Ref.tap_eq A1 A2 P hP (n.val / 9 / 14) (n.val / 9 % 14) o 0 2 _ _ (by show n.val / 9 / 14 = n.val / 9 / 14 + 0; rfl) (by show 2 + n.val / 9 % 14 = n.val / 9 % 14 + 2; omega)))
    (Cert.Proof.Ref.tap_eq A1 A2 P hP (n.val / 9 / 14) (n.val / 9 % 14) o 1 0 _ _ (by show 1 + n.val / 9 / 14 = n.val / 9 / 14 + 1; omega) (by show n.val / 9 % 14 = n.val / 9 % 14 + 0; rfl)))
    (Cert.Proof.Ref.tap_eq A1 A2 P hP (n.val / 9 / 14) (n.val / 9 % 14) o 1 1 _ _ (by show 1 + n.val / 9 / 14 = n.val / 9 / 14 + 1; omega) (by show 1 + n.val / 9 % 14 = n.val / 9 % 14 + 1; omega)))
    (Cert.Proof.Ref.tap_eq A1 A2 P hP (n.val / 9 / 14) (n.val / 9 % 14) o 1 2 _ _ (by show 1 + n.val / 9 / 14 = n.val / 9 / 14 + 1; omega) (by show 2 + n.val / 9 % 14 = n.val / 9 % 14 + 2; omega)))
    (Cert.Proof.Ref.tap_eq A1 A2 P hP (n.val / 9 / 14) (n.val / 9 % 14) o 2 0 _ _ (by show 2 + n.val / 9 / 14 = n.val / 9 / 14 + 2; omega) (by show n.val / 9 % 14 = n.val / 9 % 14 + 0; rfl)))
    (Cert.Proof.Ref.tap_eq A1 A2 P hP (n.val / 9 / 14) (n.val / 9 % 14) o 2 1 _ _ (by show 2 + n.val / 9 / 14 = n.val / 9 / 14 + 2; omega) (by show 1 + n.val / 9 % 14 = n.val / 9 % 14 + 1; omega)))
    (Cert.Proof.Ref.tap_eq A1 A2 P hP (n.val / 9 / 14) (n.val / 9 % 14) o 2 2 _ _ (by show 2 + n.val / 9 / 14 = n.val / 9 / 14 + 2; omega) (by show 2 + n.val / 9 % 14 = n.val / 9 % 14 + 2; omega)))

/-- Where the precondition holds, no score lies below the padding. -/
theorem above (A0 : FVec Ideal S1x3x224x224 .f32) (A1 : FVec Ideal S1x197x768 .f32) (A2 : FVec Ideal S768x768x3x3 .f32) (A3 : FVec Ideal S768 .f32) (A4 : FVec Ideal S9x768x1x1 .f32) (A5 : FVec Ideal S9 .f32)
    (A6 : FVec Ideal S36x768x1x1 .f32) (A7 : FVec Ideal S36 .f32) (h : fn A0 A1 A2 A3 A4 A5 A6 A7 = fun _ => 1#1) (y x : Fin 14) (q : Fin 9) :
    Ideal.ofBits .f32 0xFF61B1E6#32 ≤ headOf A1 A2 A3 A4 A5 y x q := by
  have hy := y.isLt
  have hx := x.isLt
  have hq := q.isLt
  have e := (fn_at A0 A1 A2 A3 A4 A5 A6 A7 ⟨9 * (14 * y.val + x.val) + q.val, by omega⟩).symm.trans (congrFun h _)
  have e1 : (9 * (14 * y.val + x.val) + q.val) / 9 / 14 = y.val := by omega
  have e2 : (9 * (14 * y.val + x.val) + q.val) / 9 % 14 = x.val := by omega
  have e3 : (⟨(9 * (14 * y.val + x.val) + q.val) % 9, by omega⟩ : Fin 9) = q := Fin.ext (by show (9 * (14 * y.val + x.val) + q.val) % 9 = q.val; omega)
  simp only [e1, e2, e3] at e
  by_contra hn
  rw [decide_eq_false hn] at e
  exact absurd e (by decide)

end Cert.Proof.Pre
-- ==== Proof.Meet.lean ====
/- The kernel's program and the reference return the same boxes and the same scores. -/
module

public import proofs.«01_k».proof.Proof.Rows
public import proofs.«01_k».proof.Proof.Anchors
public import proofs.«01_k».proof.Proof.HeadsAt
public import proofs.«01_k».proof.Proof.Above
public import proofs.«01_k».proof.Proof.RefHeads

@[expose] public section

set_option maxRecDepth 16384
set_option maxHeartbeats 1000000

noncomputable section

namespace Cert.Proof

open Cert.KernelIdeal Cert.KernelIdeal.Gen
open Idealize.ShloMosaic Idealize.ShloMosaic.TcCoe Idealize.ShloMosaic.StableHlo Idealize.ShloMosaic.ValueIdx

theorem headOf_congr {n : ℕ} {im im' : (⟨3, ![1, 197, 768]⟩ : Shape).Idx → EReal} {w w' : (⟨4, ![768, 768, 3, 3]⟩ : Shape).Idx → EReal} {b b' : (⟨1, ![768]⟩ : Shape).Idx → EReal}
    {h h' : (⟨4, ![n, 768, 1, 1]⟩ : Shape).Idx → EReal} {hb hb' : (⟨1, ![n]⟩ : Shape).Idx → EReal} (e1 : im = im') (e2 : w = w') (e3 : b = b') (e4 : h = h') (e5 : hb = hb') (y x : ℕ) (q : Fin n) :
    headOf im w b h hb y x q = headOf im' w' b' h' hb' y x q := by
  rw [e1, e2, e3, e4, e5]

theorem literals_same (V : Valuation Cert.KernelIdeal.τ Cert.KernelIdeal.sig (Elt Ideal)) (W : Valuation Cert.ReferenceIdeal.τ Cert.ReferenceIdeal.sig (Elt Ideal)) :
    after (Cert.KernelIdeal.Gen.hostOps0 (F := Ideal)) V (Proc.devRef .tc Cert.KernelIdeal.main_cst) = after (Cert.ReferenceIdeal.Gen.hostOps0 (F := Ideal)) W (Proc.devRef .tc Cert.ReferenceIdeal.main_cst) := by
  after_reads_simp
  rfl

theorem literals_same' (V : Valuation Cert.KernelIdeal.τ Cert.KernelIdeal.sig (Elt Ideal)) (W : Valuation Cert.ReferenceIdeal.τ Cert.ReferenceIdeal.sig (Elt Ideal)) :
    after (Cert.KernelIdeal.Gen.hostOps0 (F := Ideal)) V (Proc.devRef .tc Cert.KernelIdeal.main_cst_0) = after (Cert.ReferenceIdeal.Gen.hostOps0 (F := Ideal)) W (Proc.devRef .tc Cert.ReferenceIdeal.main_cst_0) := by
  after_reads_simp
  rfl

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)

theorem kept_literal : V4 m (outs m) c main_cst = V1 m c main_cst :=
  (V4_of m (outs m) c main_cst (by decide +kernel)).trans ((V3_of m c main_cst (by decide +kernel)).trans (V2_of m c main_cst (by decide +kernel)))

theorem kept_literal' : V4 m (outs m) c main_cst_0 = V1 m c main_cst_0 :=
  (V4_of m (outs m) c main_cst_0 (by decide +kernel)).trans ((V3_of m c main_cst_0 (by decide +kernel)).trans (V2_of m c main_cst_0 (by decide +kernel)))

theorem featured_literal : Ref.featured m' c (Proc.devRef .tc Cert.ReferenceIdeal.main_cst) = after (Cert.ReferenceIdeal.Gen.hostOps0 (F := Ideal)) (launchContents m' c) (Proc.devRef .tc Cert.ReferenceIdeal.main_cst) := by
  unfold Ref.featured Ref.framed
  rfl

theorem featured_literal' : Ref.featured m' c (Proc.devRef .tc Cert.ReferenceIdeal.main_cst_0) = after (Cert.ReferenceIdeal.Gen.hostOps0 (F := Ideal)) (launchContents m' c) (Proc.devRef .tc Cert.ReferenceIdeal.main_cst_0) := by
  unfold Ref.featured Ref.framed
  rfl

theorem early_anchors : V7 m (outs m) c main_v75 = Ref.early m' c (Proc.devRef .tc Cert.ReferenceIdeal.main_v126) := by
  refine (anchors_same (V6 m (outs m) c) (after (Cert.ReferenceIdeal.Gen.hostOps0_3 (F := Ideal)) (after ((Cert.ReferenceIdeal.Gen.hostOps0_2 (F := Ideal)).drop 62) (Ref.featured m' c)))
    (round_same (V5 m (outs m) c) (after ((Cert.ReferenceIdeal.Gen.hostOps0_2 (F := Ideal)).drop 62) (Ref.featured m' c)) (base_same (V4 m (outs m) c) (Ref.featured m' c)
      ((kept_literal' m c).trans ((literals_same' _ _).trans (featured_literal' m' c).symm)) ((kept_literal m c).trans ((literals_same _ _).trans (featured_literal m' c).symm))))).trans ?_
  unfold Ref.early Ref.featured Ref.framed
  rfl

variable (h1 : launchContents m' c (Proc.devRef .tc Cert.ReferenceIdeal.main_arg1) = V0 m c main_arg1) (h2 : launchContents m' c (Proc.devRef .tc Cert.ReferenceIdeal.main_arg2) = V0 m c main_arg2) (h3 : launchContents m' c (Proc.devRef .tc Cert.ReferenceIdeal.main_arg3) = V0 m c main_arg3) (h4 : launchContents m' c (Proc.devRef .tc Cert.ReferenceIdeal.main_arg4) = V0 m c main_arg4) (h5 : launchContents m' c (Proc.devRef .tc Cert.ReferenceIdeal.main_arg5) = V0 m c main_arg5) (h6 : launchContents m' c (Proc.devRef .tc Cert.ReferenceIdeal.main_arg6) = V0 m c main_arg6) (h7 : launchContents m' c (Proc.devRef .tc Cert.ReferenceIdeal.main_arg7) = V0 m c main_arg7)

theorem split_position (n : Fin 1764) : n.val = 9 * (14 * (⟨n.val / 9 / 14, by omega⟩ : Fin 14).val + (⟨n.val / 9 % 14, by omega⟩ : Fin 14).val) + (⟨n.val % 9, by omega⟩ : Fin 9).val := by
  show n.val = 9 * (14 * (n.val / 9 / 14) + n.val / 9 % 14) + n.val % 9
  omega

include h1 h2 h3 h4 h5 in
theorem same_scores (n : Fin 1764) : scoreOf m c n = Ref.early m' c (Proc.devRef .tc Cert.ReferenceIdeal.main_v70) (ValueIdx.ix1 n) :=
  (score_of m c _ _ _ n (split_position n)).trans
    ((Ref.early_scores m' c _ _ _ n (split_position n)).trans (headOf_congr h1 h2 h3 h4 h5 _ _ _)).symm

include h1 h2 h3 h6 h7 in
theorem same_moves (n : Fin 1764) (l : Fin 4) : V5 m (outs m) c main_v27 (ValueIdx.ix2 n l) = Ref.early m' c (Proc.devRef .tc Cert.ReferenceIdeal.main_v78) (ValueIdx.ix2 n l) :=
  (move_of m c _ _ _ l n (split_position n)).trans
    ((Ref.early_moves m' c _ _ _ l n (split_position n)).trans (headOf_congr h1 h2 h3 h6 h7 _ _ _)).symm

variable (hlo : ∀ (y x : Fin 14) (q : Fin 9), Ideal.ofBits .f32 0xFF61B1E6#32 ≤ headOf (V0 m c main_arg1) (V0 m c main_arg2) (V0 m c main_arg3) (V0 m c main_arg4) (V0 m c main_arg5) y x q)

include hlo in
theorem scores_low (n : Fin 1764) : Ideal.ofBits .f32 0xFF61B1E6#32 ≤ scoreOf m c n := by
  have e : scoreOf m c n = _ := score_of m c _ _ _ n (split_position n)
  rw [e]
  exact hlo _ _ _

include h1 h2 h3 h4 h5 h6 h7 hlo in
/-- The two programs' boxes are the same. -/
theorem same_rows : V15 m (outs m) c main_v84 = Ref.atEnd m' c (Proc.devRef .tc Cert.ReferenceIdeal.main_v277) := by
  funext i
  obtain ⟨K, hK⟩ := exists_greedy 1000 (removes (Ref.boxOf (Ref.early m' c (Proc.devRef .tc Cert.ReferenceIdeal.main_v70)) (fun n l => V5 m (outs m) c main_v27 (ValueIdx.ix2 n l)) (fun n l => V7 m (outs m) c main_v75 (ValueIdx.ix2 n l))))
  rw [ValueIdx.eq_ix2 i]
  refine (kernel_rows_are m c _ _ _ (scores_low m c hlo) (same_scores m m' c h1 h2 h3 h4 h5) (fun _ _ => rfl) (fun _ _ => rfl) K hK _ _).trans ?_
  exact (Ref.rows_are m' c _ _ _ rfl (same_moves m m' c h1 h2 h3 h6 h7) (fun n l => congrFun (early_anchors m m' c) _) K hK _ _).symm

include h1 h2 h3 h4 h5 h6 h7 hlo in
/-- The two programs' scores are the same. -/
theorem same_probabilities : V15 m (outs m) c main_v86 = Ref.atEnd m' c (Proc.devRef .tc Cert.ReferenceIdeal.main_v284) := by
  funext i
  obtain ⟨K, hK⟩ := exists_greedy 1000 (removes (Ref.boxOf (Ref.early m' c (Proc.devRef .tc Cert.ReferenceIdeal.main_v70)) (fun n l => V5 m (outs m) c main_v27 (ValueIdx.ix2 n l)) (fun n l => V7 m (outs m) c main_v75 (ValueIdx.ix2 n l))))
  rw [ValueIdx.eq_ix1 i]
  refine (kernel_scores_are m c _ _ _ (scores_low m c hlo) (same_scores m m' c h1 h2 h3 h4 h5) (fun _ _ => rfl) (fun _ _ => rfl) K hK _).trans ?_
  exact (Ref.scores_are m' c _ _ _ rfl (same_moves m m' c h1 h2 h3 h6 h7) (fun n l => congrFun (early_anchors m m' c) _) K hK _).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunMain
public import proofs.«01_k».proof.Proof.RefRun
public import proofs.«01_k».proof.Proof.SameText
public import proofs.«01_k».proof.Proof.Meet
public import Idealize.ShloMosaic.Adequacy
public import Idealize.ShloMosaic.Init

@[expose] public section

noncomputable section

namespace Cert.Proof

open Cert.KernelIdeal.Gen
open Idealize.ShloMosaic Idealize.SL.Sem

/-- The kernel's frame at any float values. -/
theorem frame_text {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) := by
  refine (θ_run (Cert.KernelIdeal.defs (F := F)) _ _).mono (fun r h => ?_) (run_main (F := F) m ρ)
  exact ⟨fun c => ⟨(h.1 c).1, (h.1 c).2.1, (h.1 c).2.2.1, (h.1 c).2.2.2.1, (h.1 c).2.2.2.2.1, (h.1 c).2.2.2.2.2.1,
    (h.1 c).2.2.2.2.2.2.1, (h.1 c).2.2.2.2.2.2.2.1⟩, h.2⟩

/-- The kernel runs at the machine's own float values: the printed program and its idealization have the same text. -/
theorem frame_kernel : Cert.quiescent_Kernel := fun m ρ _ => by
  have h := frame_text (F := Bits) m ρ
  rw [← defs_same, ← main_same] at h
  exact h

/-- The kernel runs over the extended reals. -/
theorem frame_kernel_ideal : Cert.quiescent_KernelIdeal := fun m ρ _ => frame_text (F := Ideal) m ρ

/-- The reference runs over the extended reals. -/
theorem frame_reference : Cert.quiescent_ReferenceIdeal := fun m ρ _ => by
  refine (θ_run (Cert.ReferenceIdeal.defs (F := Ideal)) _ _).mono (fun r h => ?_) (Ref.run_reference (F := Ideal) m ρ)
  exact ⟨fun c => ⟨(h.1 c).1, (h.1 c).2.1, (h.1 c).2.2.1, (h.1 c).2.2.2.1, (h.1 c).2.2.2.2.1, (h.1 c).2.2.2.2.2.1,
    (h.1 c).2.2.2.2.2.2.1, (h.1 c).2.2.2.2.2.2.2.1⟩, h.2⟩

/-- The kernel and the reference return the same boxes and scores over the extended reals. -/
theorem same_results : Cert.algebraic_KernelIdeal_ReferenceIdeal_pre_scores_above_padding (hPre_scores_above_padding := Pre.facts) := fun m g m' g' hpre hargs => by
  refine ⟨fun c => V15 m (outs m) c (Proc.devRef .tc Cert.KernelIdeal.main_v84), fun c => V15 m (outs m) c (Proc.devRef .tc Cert.KernelIdeal.main_v86), ?_, ?_⟩
  · refine (θ_run (Cert.KernelIdeal.defs (F := Ideal)) _ _).mono (fun r h c => ?_) (run_main (F := Ideal) m g)
    obtain ⟨a0, a1, a2, a3, a4, a5, a6, a7, e0, e1⟩ := h.1 c
    exact ⟨e0, e1, a0, a1, a2, a3, a4, a5, a6, a7⟩
  · refine (θ_run (Cert.ReferenceIdeal.defs (F := Ideal)) _ _).mono (fun r h c => ?_) (Ref.run_reference (F := Ideal) m' g')
    obtain ⟨a0, a1, a2, a3, a4, a5, a6, a7, e0, e1⟩ := h.1 c
    obtain ⟨_, h1, h2, h3, h4, h5, h6, h7⟩ := hargs c
    have hlo := Pre.above _ _ _ _ _ _ _ _ (hpre c)
    exact ⟨e0.trans (same_rows m m' c h1 h2 h3 h4 h5 h6 h7 hlo).symm, e1.trans (same_probabilities m m' c h1 h2 h3 h4 h5 h6 h7 hlo).symm,
      a0, a1, a2, a3, a4, a5, a6, a7⟩

theorem claim : Cert.Claim :=
  ⟨Cert.Kernel.Gen.facts, Cert.KernelIdeal.Gen.facts, Cert.ReferenceIdeal.Gen.facts, Pre.facts,
    frame_kernel, frame_kernel_ideal, fun m ρ _ => frame_kernel_ideal m ρ trivial, frame_reference, fun m ρ _ => frame_reference m ρ trivial, trivial, same_results⟩

end Cert.Proof

end
